-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_3)) (v2 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_3) = v1 c
          ∧ r.2.mem ((c.tc : Thread Cert.KernelIdeal.nD Cert.KernelIdeal.τ).loc Cert.KernelIdeal.main_v1_4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S12x1x1600 : Shape := ⟨3, ![12, 1, 1600]⟩
abbrev S1600x50257 : Shape := ⟨2, ![1600, 50257]⟩
abbrev S50257 : Shape := ⟨1, ![50257]⟩
abbrev S12x1571 : Shape := ⟨2, ![12, 1571]⟩
abbrev S12x1x20 : Shape := ⟨3, ![12, 1, 20]⟩
abbrev S_ : Shape := ⟨0, ![]⟩

class Facts : Prop where
  bitsLt_bf16_f32 : FTy.bits .bf16 < FTy.bits .f32
  bcast_S_S12x1x1600 : S_.BroadcastsInDim S12x1x1600 (![] : Fin 0 → Fin S12x1x1600.rank)
  reducesTo_S12x1x1600_S_d0_1_2 : S12x1x1600.ReducesTo [0, 1, 2] S_
  h_S_ : 0 < S_.numel

variable [Facts]

def fn {F : FTy → Type} [FloatOps F] (main_arg0 : FVec F S12x1x1600 .bf16) (main_arg1 : FVec F S1600x50257 .fp8e4m3) (main_arg2 : FVec F S50257 .f32) (main_arg3 : IVec S12x1571 32) (main_arg4 : IVec S12x1x20 32) : IVec S_ 1 :=
  let main_v0 : FVec F S12x1x1600 .f32 := (extf .f32 · bitsLt_bf16_f32) main_arg0
  let main_v1 : FVec F S12x1x1600 .f32 := Host.absf main_v0
  let main_cst : FVec F S_ .f32 := constant S_ .f32 0x7F7F0000#32
  let main_v2 : FVec F S12x1x1600 .f32 := broadcastInDim S12x1x1600 ![] bcast_S_S12x1x1600 main_cst
  let main_v3 : IVec S12x1x1600 1 := cmpf .ole main_v1 main_v2
  let main_c : IVec S_ 1 := constantI S_ 1 1#1
  let main_v4 : IVec S_ 1 := (fun x v => Host.reduce IntOp.andi x v reducesTo_S12x1x1600_S_d0_1_2 h_S_) main_v3 main_c
  main_v4
-- ==== Kernel.lean ====
abbrev S12x1x1600 : Shape := ⟨3, ![12, 1, 1600]⟩
abbrev S1600x50257 : Shape := ⟨2, ![1600, 50257]⟩
abbrev S50257 : Shape := ⟨1, ![50257]⟩
abbrev S12x1571 : Shape := ⟨2, ![12, 1571]⟩
abbrev S12x1x20 : Shape := ⟨3, ![12, 1, 20]⟩
abbrev S12x1600 : Shape := ⟨2, ![12, 1600]⟩
abbrev S12x1x50257 : Shape := ⟨3, ![12, 1, 50257]⟩
abbrev S1x12 : Shape := ⟨2, ![1, 12]⟩
abbrev S4x1600x2048 : Shape := ⟨3, ![4, 1600, 2048]⟩
abbrev S1600x1105 : Shape := ⟨2, ![1600, 1105]⟩
abbrev S32x1600 : Shape := ⟨2, ![32, 1600]⟩
abbrev S12x1664 : Shape := ⟨2, ![12, 1664]⟩
abbrev S12x128 : Shape := ⟨2, ![12, 128]⟩
abbrev S4 : Shape := ⟨1, ![4]⟩
abbrev S_ : Shape := ⟨0, ![]⟩
abbrev S5 : Shape := ⟨1, ![5]⟩
abbrev S1 : Shape := ⟨1, ![1]⟩
abbrev S1x1600x2048 : Shape := ⟨3, ![1, 1600, 2048]⟩
abbrev S1600x2048 : Shape := ⟨2, ![1600, 2048]⟩
abbrev S12 : Shape := ⟨1, ![12]⟩
abbrev S12x1 : Shape := ⟨2, ![12, 1]⟩
abbrev S12x256 : Shape := ⟨2, ![12, 256]⟩
abbrev S12x12 : Shape := ⟨2, ![12, 12]⟩
abbrev S12x20 : Shape := ⟨2, ![12, 20]⟩
abbrev S12x128x1 : Shape := ⟨3, ![12, 128, 1]⟩
abbrev S1x1600x256 : Shape := ⟨3, ![1, 1600, 256]⟩
abbrev S1600x256 : Shape := ⟨2, ![1600, 256]⟩
abbrev S32x256 : Shape := ⟨2, ![32, 256]⟩
abbrev S128 : Shape := ⟨1, ![128]⟩
abbrev S1x128 : Shape := ⟨2, ![1, 128]⟩
abbrev S12x1x128 : Shape := ⟨3, ![12, 1, 128]⟩
abbrev S12x1x2048 : Shape := ⟨3, ![12, 1, 2048]⟩
abbrev S1600x81 : Shape := ⟨2, ![1600, 81]⟩
abbrev S32x81 : Shape := ⟨2, ![32, 81]⟩
abbrev S81 : Shape := ⟨1, ![81]⟩
abbrev S1x81 : Shape := ⟨2, ![1, 81]⟩
abbrev S12x81 : Shape := ⟨2, ![12, 81]⟩
abbrev S12x47 : Shape := ⟨2, ![12, 47]⟩
abbrev S12x1x81 : Shape := ⟨3, ![12, 1, 81]⟩
abbrev S12x1x1105 : Shape := ⟨3, ![12, 1, 1105]⟩

abbrev nBuf : Space → Nat
  | .hbm => 11
  | .vmem => 19
  | .smem => 0
  | _ => 0

abbrev bufTy : (tb : Table) → Fin (tcTables nBuf tb) → BufTy
  | .hbm, ⟨0, _⟩ => ⟨S12x1x1600, .bf16⟩
  | .hbm, ⟨1, _⟩ => ⟨S1600x50257, .fp8e4m3⟩
  | .hbm, ⟨2, _⟩ => ⟨S50257, .f32⟩
  | .hbm, ⟨3, _⟩ => ⟨S12x1571, .i32⟩
  | .hbm, ⟨4, _⟩ => ⟨S12x1x20, .i32⟩
  | .hbm, ⟨5, _⟩ => ⟨S12x1600, .bf16⟩
  | .hbm, ⟨6, _⟩ => ⟨S12x1x50257, .f32⟩
  | .hbm, ⟨7, _⟩ => ⟨S1x12, .f32⟩
  | .hbm, ⟨8, _⟩ => ⟨S12x1x20, .f32⟩
  | .hbm, ⟨9, _⟩ => ⟨S12x1600, .fp8e4m3⟩
  | .hbm, ⟨10, _⟩ => ⟨S1x12, .f32⟩
  | .local _ .vmem, ⟨0, _⟩ => ⟨S12x1600, .bf16⟩
  | .local _ .vmem, ⟨1, _⟩ => ⟨S50257, .f32⟩
  | .local _ .vmem, ⟨2, _⟩ => ⟨S12x1571, .i32⟩
  | .local _ .vmem, ⟨3, _⟩ => ⟨S12x1x20, .i32⟩
  | .local _ .vmem, ⟨4, _⟩ => ⟨S4x1600x2048, .fp8e4m3⟩
  | .local _ .vmem, ⟨5, _⟩ => ⟨S1600x1105, .fp8e4m3⟩
  | .local _ .vmem, ⟨6, _⟩ => ⟨S12x1x50257, .f32⟩
  | .local _ .vmem, ⟨7, _⟩ => ⟨S32x1600, .fp8e4m3⟩
  | .local _ .vmem, ⟨8, _⟩ => ⟨S12x1600, .fp8e4m3⟩
  | .local _ .vmem, ⟨9, _⟩ => ⟨S12x1664, .i32⟩
  | .local _ .vmem, ⟨10, _⟩ => ⟨S12x128, .i32⟩
  | .local _ .vmem, ⟨11, _⟩ => ⟨S12x128, .f32⟩
  | .local _ .vmem, ⟨12, _⟩ => ⟨S12x128, .f32⟩
  | .local _ .vmem, ⟨13, _⟩ => ⟨S12x128, .f32⟩
  | .local _ .vmem, ⟨14, _⟩ => ⟨S12x128, .f32⟩
  | .local _ .vmem, ⟨15, _⟩ => ⟨S12x128, .i32⟩
  | .local _ .vmem, ⟨16, _⟩ => ⟨S1x12, .f32⟩
  | .local _ .vmem, ⟨17, _⟩ => ⟨S12x1x20, .f32⟩
  | .local _ .vmem, ⟨18, _⟩ => ⟨S1x12, .f32⟩
  | _, _ => ⟨S12x1x1600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩
abbrev cc0_scratch18 : Ref sig .tc := ⟨.vmem, 18, rfl⟩

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c2048_i32 : BitVec 32 := 2048#32
  c2048_i32
def k0_mult3 : BitVec 32 :=
  let c4096_i32 : BitVec 32 := 4096#32
  c4096_i32
def k0_mult4 : BitVec 32 :=
  let c6144_i32 : BitVec 32 := 6144#32
  c6144_i32
@[reducible] def k0_t1_loop : Scf.Loop 32 :=
  let c0_i32_157 : BitVec 32 := 0#32
  let c24_i32 : BitVec 32 := 24#32
  let v376 : BitVec 32 := Scalar.addi c0_i32_157 c24_i32
  let c1_i32_158 : BitVec 32 := 1#32
  ⟨c0_i32_157, v376, c1_i32_158⟩
def k0_mult5 (k0_t1 : Fin k0_t1_loop.trips) : BitVec 32 :=
  let c0_i32_157 : BitVec 32 := 0#32
  let c1_i32_158 : BitVec 32 := 1#32
  let arg34 : BitVec 32 := Scf.iv c0_i32_157 c1_i32_158 k0_t1
  let c2048_i32_359 : BitVec 32 := 2048#32
  let v861 : BitVec 32 := Scalar.muli arg34 c2048_i32_359
  v861
def k0_off1 (k0_t1 : Fin k0_t1_loop.trips) : Fin 1 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  ![v860.toNat]
def k0_off2 (k0_t1 : Fin k0_t1_loop.trips) : Fin 3 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  let c0_i32_360 : BitVec 32 := 0#32
  let c0_i32_361 : BitVec 32 := 0#32
  ![v860.toNat, 0, 0]
def k0_off3 (k0_t1 : Fin k0_t1_loop.trips) : Fin 2 → Nat :=
  let c0_i32_362 : BitVec 32 := 0#32
  let c0_i32_157 : BitVec 32 := 0#32
  let c1_i32_158 : BitVec 32 := 1#32
  let arg34 : BitVec 32 := Scf.iv c0_i32_157 c1_i32_158 k0_t1
  let c2048_i32_359 : BitVec 32 := 2048#32
  let v861 : BitVec 32 := Scalar.muli arg34 c2048_i32_359
  let v862 : BitVec 32 := v861
  ![0, v862.toNat]
def k0_mult6 (k0_t1 : Fin k0_t1_loop.trips) : BitVec 32 :=
  let c0_i32_157 : BitVec 32 := 0#32
  let c1_i32_158 : BitVec 32 := 1#32
  let arg34 : BitVec 32 := Scf.iv c0_i32_157 c1_i32_158 k0_t1
  let c2_i32_363 : BitVec 32 := 2#32
  let v868 : BitVec 32 := Scalar.divsi arg34 c2_i32_363
  let c128_i32_364 : BitVec 32 := 128#32
  let v869 : BitVec 32 := Scalar.muli v868 c128_i32_364
  v869
def k0_off4 (k0_t1 : Fin k0_t1_loop.trips) : Fin 2 → Nat :=
  let c0_365 : Index := 0#32
  let c0_i32_157 : BitVec 32 := 0#32
  let c1_i32_158 : BitVec 32 := 1#32
  let arg34 : BitVec 32 := Scf.iv c0_i32_157 c1_i32_158 k0_t1
  let c2_i32_363 : BitVec 32 := 2#32
  let v868 : BitVec 32 := Scalar.divsi arg34 c2_i32_363
  let c128_i32_364 : BitVec 32 := 128#32
  let v869 : BitVec 32 := Scalar.muli v868 c128_i32_364
  let v870 : BitVec 32 := v869
  let v871 : Index := Scalar.indexCast v870
  ![0, v871.toNat]
def k0_mult7 (k0_t1 : Fin k0_t1_loop.trips) : BitVec 32 :=
  let c0_i32_157 : BitVec 32 := 0#32
  let c1_i32_158 : BitVec 32 := 1#32
  let arg34 : BitVec 32 := Scf.iv c0_i32_157 c1_i32_158 k0_t1
  let c2048_i32_367 : BitVec 32 := 2048#32
  let v875 : BitVec 32 := Scalar.muli arg34 c2048_i32_367
  v875
def k0_off5 (k0_t1 : Fin k0_t1_loop.trips) : Fin 3 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  let v889 : Index := Scalar.indexCast v860
  let c0_381 : Index := 0#32
  let c0_382 : Index := 0#32
  ![v889.toNat, 0, 0]
def k0_off6 (k0_t1 : Fin k0_t1_loop.trips) (c0_i32_384 : BitVec 32) : Fin 1 → Nat :=
  let c0_i32_157 : BitVec 32 := 0#32
  let c1_i32_158 : BitVec 32 := 1#32
  let arg34 : BitVec 32 := Scf.iv c0_i32_157 c1_i32_158 k0_t1
  let c2048_i32_367 : BitVec 32 := 2048#32
  let v875 : BitVec 32 := Scalar.muli arg34 c2048_i32_367
  let v876 : BitVec 32 := v875
  let v893 : BitVec 32 := Scalar.addi v876 c0_i32_384
  let v894 : Index := Scalar.indexCast v893
  ![v894.toNat]
def k0_off7 (k0_t1 : Fin k0_t1_loop.trips) (c0_i32_391 : BitVec 32) : Fin 3 → Nat :=
  let c0_392 : Index := 0#32
  let c0_393 : Index := 0#32
  let c0_i32_157 : BitVec 32 := 0#32
  let c1_i32_158 : BitVec 32 := 1#32
  let arg34 : BitVec 32 := Scf.iv c0_i32_157 c1_i32_158 k0_t1
  let c2048_i32_367 : BitVec 32 := 2048#32
  let v875 : BitVec 32 := Scalar.muli arg34 c2048_i32_367
  let v876 : BitVec 32 := v875
  let v919 : BitVec 32 := Scalar.addi v876 c0_i32_391
  let v920 : Index := Scalar.indexCast v919
  ![0, 0, v920.toNat]
def k0_off8 (k0_t1 : Fin k0_t1_loop.trips) : Fin 3 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  let v980 : Index := Scalar.indexCast v860
  let c0_412 : Index := 0#32
  let c256_413 : Index := 256#32
  ![v980.toNat, 0, 256]
def k0_off9 (k0_t1 : Fin k0_t1_loop.trips) : Fin 3 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  let v1071 : Index := Scalar.indexCast v860
  let c0_442 : Index := 0#32
  let c512_443 : Index := 512#32
  ![v1071.toNat, 0, 512]
def k0_off10 (k0_t1 : Fin k0_t1_loop.trips) : Fin 3 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  let v1162 : Index := Scalar.indexCast v860
  let c0_471 : Index := 0#32
  let c768_472 : Index := 768#32
  ![v1162.toNat, 0, 768]
def k0_off11 (k0_t1 : Fin k0_t1_loop.trips) : Fin 3 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  let v1253 : Index := Scalar.indexCast v860
  let c0_500 : Index := 0#32
  let c1024_501 : Index := 1024#32
  ![v1253.toNat, 0, 1024]
def k0_off12 (k0_t1 : Fin k0_t1_loop.trips) : Fin 3 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  let v1344 : Index := Scalar.indexCast v860
  let c0_528 : Index := 0#32
  let c1280_529 : Index := 1280#32
  ![v1344.toNat, 0, 1280]
def k0_off13 (k0_t1 : Fin k0_t1_loop.trips) : Fin 3 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  let v1435 : Index := Scalar.indexCast v860
  let c0_555 : Index := 0#32
  let c1536_556 : Index := 1536#32
  ![v1435.toNat, 0, 1536]
def k0_off14 (k0_t1 : Fin k0_t1_loop.trips) : Fin 3 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  let v1526 : Index := Scalar.indexCast v860
  let c0_581 : Index := 0#32
  let c1792 : Index := 1792#32
  ![v1526.toNat, 0, 1792]
def k0_cond1 (k0_t1 : Fin k0_t1_loop.trips) : BitVec 1 :=
  let c0_i32_157 : BitVec 32 := 0#32
  let c1_i32_158 : BitVec 32 := 1#32
  let arg34 : BitVec 32 := Scf.iv c0_i32_157 c1_i32_158 k0_t1
  let c4_i32_613 : BitVec 32 := 4#32
  let v1682 : BitVec 32 := Scalar.addi arg34 c4_i32_613
  let c24_i32_614 : BitVec 32 := 24#32
  let v1683 : BitVec 1 := Scalar.cmpi .slt v1682 c24_i32_614
  let v1684 : BitVec 32 := Scalar.extui v1683
  let c0_i32_615 : BitVec 32 := 0#32
  let v1685 : BitVec 1 := Scalar.cmpi .ne v1684 c0_i32_615
  v1685

def k0_mult8 (k0_t1 : Fin k0_t1_loop.trips) : BitVec 32 :=
  let c0_i32_157 : BitVec 32 := 0#32
  let c1_i32_158 : BitVec 32 := 1#32
  let arg34 : BitVec 32 := Scf.iv c0_i32_157 c1_i32_158 k0_t1
  let c4_i32_624 : BitVec 32 := 4#32
  let v1694 : BitVec 32 := Scalar.addi arg34 c4_i32_624
  let c2048_i32_625 : BitVec 32 := 2048#32
  let v1695 : BitVec 32 := Scalar.muli v1694 c2048_i32_625
  v1695
def k0_off15 (k0_t1 : Fin k0_t1_loop.trips) : Fin 1 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  ![v860.toNat]
def k0_off16 (k0_t1 : Fin k0_t1_loop.trips) : Fin 3 → Nat :=
  let c0_i32_157 : BitVec 32 := 0#32
  let c1_i32_158 : BitVec 32 := 1#32
  let arg34 : BitVec 32 := Scf.iv c0_i32_157 c1_i32_158 k0_t1
  let c4_i32_358 : BitVec 32 := 4#32
  let v860 : BitVec 32 := Scalar.remsi arg34 c4_i32_358
  let c0_i32_626 : BitVec 32 := 0#32
  let c0_i32_627 : BitVec 32 := 0#32
  ![v860.toNat, 0, 0]
def k0_off17 (k0_t1 : Fin k0_t1_loop.trips) : Fin 2 → Nat :=
  let c0_i32_628 : BitVec 32 := 0#32
  let c0_i32_157 : BitVec 32 := 0#32
  let c1_i32_158 : BitVec 32 := 1#32
  let arg34 : BitVec 32 := Scf.iv c0_i32_157 c1_i32_158 k0_t1
  let c4_i32_624 : BitVec 32 := 4#32
  let v1694 : BitVec 32 := Scalar.addi arg34 c4_i32_624
  let c2048_i32_625 : BitVec 32 := 2048#32
  let v1695 : BitVec 32 := Scalar.muli v1694 c2048_i32_625
  let v1696 : BitVec 32 := v1695
  ![0, v1696.toNat]
def k0_mult9 (k0_t1 : Fin k0_t1_loop.trips) : BitVec 32 :=
  let c0_i32_157 : BitVec 32 := 0#32
  let c1_i32_158 : BitVec 32 := 1#32
  let arg34 : BitVec 32 := Scf.iv c0_i32_157 c1_i32_158 k0_t1
  let c2048_i32_619 : BitVec 32 := 2048#32
  let v1690 : BitVec 32 := Scalar.muli arg34 c2048_i32_619
  v1690
def k0_off18 (k0_t1 : Fin k0_t1_loop.trips) : Fin 3 → Nat :=
  let c0_i32_620 : BitVec 32 := 0#32
  let c0_i32_621 : BitVec 32 := 0#32
  let c0_i32_157 : BitVec 32 := 0#32
  let c1_i32_158 : BitVec 32 := 1#32
  let arg34 : BitVec 32 := Scf.iv c0_i32_157 c1_i32_158 k0_t1
  let c2048_i32_619 : BitVec 32 := 2048#32
  let v1690 : BitVec 32 := Scalar.muli arg34 c2048_i32_619
  let v1691 : BitVec 32 := v1690
  ![0, 0, v1691.toNat]
@[reducible] def k0_t2_loop : Scf.Loop 32 :=
  let c0_i32_343 : BitVec 32 := 0#32
  let c24_i32_344 : BitVec 32 := 24#32
  let v847 : BitVec 32 := Scalar.addi c0_i32_343 c24_i32_344
  let c1_i32_345 : BitVec 32 := 1#32
  ⟨c0_i32_343, v847, c1_i32_345⟩
def k0_mult10 (k0_t2 : Fin k0_t2_loop.trips) : BitVec 32 :=
  let c0_i32_343 : BitVec 32 := 0#32
  let c1_i32_345 : BitVec 32 := 1#32
  let arg34 : BitVec 32 := Scf.iv c0_i32_343 c1_i32_345 k0_t2
  let c2048_i32_358 : BitVec 32 := 2048#32
  let v860 : BitVec 32 := Scalar.muli arg34 c2048_i32_358
  v860
def k0_off19 (k0_t2 : Fin k0_t2_loop.trips) : Fin 3 → Nat :=
  let c0_i32_359 : BitVec 32 := 0#32
  let c0_i32_360 : BitVec 32 := 0#32
  let c0_i32_343 : BitVec 32 := 0#32
  let c1_i32_345 : BitVec 32 := 1#32
  let arg34 : BitVec 32 := Scf.iv c0_i32_343 c1_i32_345 k0_t2
  let c2048_i32_358 : BitVec 32 := 2048#32
  let v860 : BitVec 32 := Scalar.muli arg34 c2048_i32_358
  let v861 : BitVec 32 := v860
  ![0, 0, v861.toNat]
-- ==== ReferenceIdeal.lean ====
abbrev S12x1x1600 : Shape := ⟨3, ![12, 1, 1600]⟩
abbrev S1600x50257 : Shape := ⟨2, ![1600, 50257]⟩
abbrev S50257 : Shape := ⟨1, ![50257]⟩
abbrev S12x1571 : Shape := ⟨2, ![12, 1571]⟩
abbrev S12x1x20 : Shape := ⟨3, ![12, 1, 20]⟩
abbrev S12x1600 : Shape := ⟨2, ![12, 1600]⟩
abbrev S12x1x50257 : Shape := ⟨3, ![12, 1, 50257]⟩
abbrev S1x12 : Shape := ⟨2, ![1, 12]⟩
abbrev S12 : Shape := ⟨1, ![12]⟩
abbrev S12x1 : Shape := ⟨2, ![12, 1]⟩
abbrev S12x254 : Shape := ⟨2, ![12, 254]⟩
abbrev S12x50257 : Shape := ⟨2, ![12, 50257]⟩
abbrev S1x50257 : Shape := ⟨2, ![1, 50257]⟩
abbrev S1x32 : Shape := ⟨2, ![1, 32]⟩
abbrev S32 : Shape := ⟨1, ![32]⟩
abbrev S12x1571x1 : Shape := ⟨3, ![12, 1571, 1]⟩
abbrev S1x1x32 : Shape := ⟨3, ![1, 1, 32]⟩
abbrev S12x1571x32 : Shape := ⟨3, ![12, 1571, 32]⟩
abbrev S12x50272 : Shape := ⟨2, ![12, 50272]⟩

abbrev nBuf : Space → Nat
  | .hbm => 9
  | .vmem => 7
  | .smem => 0
  | _ => 0

abbrev bufTy : (tb : Table) → Fin (tcTables nBuf tb) → BufTy
  | .hbm, ⟨0, _⟩ => ⟨S12x1x1600, .bf16⟩
  | .hbm, ⟨1, _⟩ => ⟨S1600x50257, .fp8e4m3⟩
  | .hbm, ⟨2, _⟩ => ⟨S50257, .f32⟩
  | .hbm, ⟨3, _⟩ => ⟨S12x1571, .i32⟩
  | .hbm, ⟨4, _⟩ => ⟨S12x1x20, .i32⟩
  | .hbm, ⟨5, _⟩ => ⟨S12x1600, .bf16⟩
  | .hbm, ⟨6, _⟩ => ⟨S12x1x50257, .f32⟩
  | .hbm, ⟨7, _⟩ => ⟨S12x1600, .fp8e4m3⟩
  | .hbm, ⟨8, _⟩ => ⟨S1x12, .f32⟩
  | .local _ .vmem, ⟨0, _⟩ => ⟨S12x1600, .bf16⟩
  | .local _ .vmem, ⟨1, _⟩ => ⟨S1600x50257, .fp8e4m3⟩
  | .local _ .vmem, ⟨2, _⟩ => ⟨S50257, .f32⟩
  | .local _ .vmem, ⟨3, _⟩ => ⟨S12x1571, .i32⟩
  | .local _ .vmem, ⟨4, _⟩ => ⟨S12x1x50257, .f32⟩
  | .local _ .vmem, ⟨5, _⟩ => ⟨S12x1600, .fp8e4m3⟩
  | .local _ .vmem, ⟨6, _⟩ => ⟨S1x12, .f32⟩
  | _, _ => ⟨S12x1x1600, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S12x1600 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1600x50257 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S50257 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x1571 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S12x1x50257 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12x1600 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x12 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Setup.lean ====
/-
  The names of the kernel's run: its buffers, the slots and semaphores of the ring of weight slabs, the slabs of the
  weights and of the logits, and the equations that turn the program's spelling of each into its name.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The buffers -/

abbrev mX : Memref sig .tc .hbm S12x1600 .bf16 := Memref.whole main_v0
abbrev mW : Memref sig .tc .hbm S1600x50257 .fp8e4m3 := Memref.whole main_arg1
abbrev mWs : Memref sig .tc .hbm S50257 .f32 := Memref.whole main_arg2
abbrev mBm : Memref sig .tc .hbm S12x1571 .i32 := Memref.whole main_arg3
abbrev mCand : Memref sig .tc .hbm S12x1x20 .i32 := Memref.whole main_arg4
abbrev mOut : Memref sig .tc .hbm S12x1x50257 .f32 := Memref.whole main_v1_0
abbrev mLse : Memref sig .tc .hbm S1x12 .f32 := Memref.whole main_v1_1
abbrev mClp : Memref sig .tc .hbm S12x1x20 .f32 := Memref.whole main_v1_2
abbrev mXc : Memref sig .tc .hbm S12x1600 .fp8e4m3 := Memref.whole main_v1_3
abbrev mXs : Memref sig .tc .hbm S1x12 .f32 := Memref.whole main_v1_4
abbrev vX : Memref sig .tc .vmem S12x1600 .bf16 := Memref.whole cc0_scratch0
abbrev vWs : Memref sig .tc .vmem S50257 .f32 := Memref.whole cc0_scratch1
abbrev vBm : Memref sig .tc .vmem S12x1571 .i32 := Memref.whole cc0_scratch2
abbrev vCand : Memref sig .tc .vmem S12x1x20 .i32 := Memref.whole cc0_scratch3
abbrev vRing : Memref sig .tc .vmem S4x1600x2048 .fp8e4m3 := Memref.whole cc0_scratch4
abbrev vTail : Memref sig .tc .vmem S1600x1105 .fp8e4m3 := Memref.whole cc0_scratch5
abbrev vOut : Memref sig .tc .vmem S12x1x50257 .f32 := Memref.whole cc0_scratch6
abbrev vXq : Memref sig .tc .vmem S32x1600 .fp8e4m3 := Memref.whole cc0_scratch7
abbrev vXc : Memref sig .tc .vmem S12x1600 .fp8e4m3 := Memref.whole cc0_scratch8
abbrev vWords : Memref sig .tc .vmem S12x1664 .i32 := Memref.whole cc0_scratch9
abbrev vCid : Memref sig .tc .vmem S12x128 .i32 := Memref.whole cc0_scratch10
abbrev vXsb : Memref sig .tc .vmem S12x128 .f32 := Memref.whole cc0_scratch11
abbrev vM : Memref sig .tc .vmem S12x128 .f32 := Memref.whole cc0_scratch12
abbrev vS : Memref sig .tc .vmem S12x128 .f32 := Memref.whole cc0_scratch13
abbrev vClog : Memref sig .tc .vmem S12x128 .f32 := Memref.whole cc0_scratch14
abbrev vCallow : Memref sig .tc .vmem S12x128 .i32 := Memref.whole cc0_scratch15
abbrev vLse : Memref sig .tc .vmem S1x12 .f32 := Memref.whole cc0_scratch16
abbrev vClp : Memref sig .tc .vmem S12x1x20 .f32 := Memref.whole cc0_scratch17
abbrev vXs : Memref sig .tc .vmem S1x12 .f32 := Memref.whole cc0_scratch18

/-- The contents of a memref's buffer on a core. -/
abbrev Bf (c : Dev nD) {sp : Space} {S : Shape} {e : EltTy} (M : Memref sig .tc sp S e) : Type := Buf (Elt F) (M.view.loc (c : Thread nD τ))
/-- A buffer held whole at the contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

theorem trips1 : k0_t1_loop.trips = 24 := by decide

theorem slot_inb (s : Fin 4) : ∀ a, (![s.val, 0, 0] : Fin 3 → Nat) a + S1x1600x2048.size a ≤ S4x1600x2048.size a := by
  have := s.isLt; intro a; fin_cases a
  · show s.val + 1 ≤ 4; omega
  · show 0 + 1600 ≤ 1600; omega
  · show 0 + 2048 ≤ 2048; omega
/-- Where slot `s` of the ring begins. -/
def slotOff (s : Fin 4) : Fin 3 → Nat := ![s.val, 0, 0]
instance (s : Fin 4) : ClosedOff (slotOff s) := ⟨![s.val, 0, 0], rfl⟩
/-- Slot `s` of the ring of weight slabs. -/
def slotV (s : Fin 4) : Memref sig .tc .vmem S1600x2048 .fp8e4m3 :=
  (vRing.slice (Rect.unit (s := S4x1600x2048) (slotOff s) S1x1600x2048.size (slot_inb s)) (fun _ => rfl)).squeeze S1600x2048 squeezes_S1x1600x2048_S1600x2048
theorem sem_inb (s : Fin 4) : ∀ a, (![s.val] : Fin 1 → Nat) a + S1.size a ≤ S4.size a := by
  have := s.isLt; intro a; fin_cases a; show s.val + 1 ≤ 4; omega
/-- Its semaphore. -/
def slotSem (s : Fin 4) : DmaSems sig S_ := (cc0_scratch20.slice (Rect.unit (s := S4) ![s.val] S1.size (sem_inb s))).squeeze S_ squeezes_S1_S_
abbrev slotCell (s : Fin 4) : SemLoc sig := SemLoc.dma (slotSem s).sem

theorem slab_inb (b : Fin 24) : ∀ a, (![0, 2048 * b.val] : Fin 2 → Nat) a + S1600x2048.size a ≤ S1600x50257.size a := by
  have := b.isLt; intro a; fin_cases a
  · show 0 + 1600 ≤ 1600; omega
  · show 2048 * b.val + 2048 ≤ 50257; omega
/-- Slab `b` of the weights. -/
def slabW (b : Fin 24) : Memref sig .tc .hbm S1600x2048 .fp8e4m3 :=
  mW.slice (Rect.unit (s := S1600x50257) ![0, 2048 * b.val] S1600x2048.size (slab_inb b)) (fun _ => rfl)
/-- What a transfer of slab `b` carries. -/
abbrev slabPay (c : Dev nD) (b : Fin 24) (fW : Bf (F := F) c mW) : S1600x2048.Idx → Elt F .fp8e4m3 :=
  ReadAs.same.apply ((slabW b).view.read (Elt F) fW)

theorem outR_inb (b : Fin 24) : ∀ a, (![0, 0, 2048 * b.val] : Fin 3 → Nat) a + S12x1x2048.size a ≤ S12x1x50257.size a := by
  have := b.isLt; intro a; fin_cases a
  · show 0 + 12 ≤ 12; omega
  · show 0 + 1 ≤ 1; omega
  · show 2048 * b.val + 2048 ≤ 50257; omega
/-- The columns of slab `b` in the logits. -/
abbrev outR (b : Fin 24) : Rect S12x1x50257 := Rect.unit (s := S12x1x50257) ![0, 0, 2048 * b.val] S12x1x2048.size (outR_inb b)

/-- Slab `b` of the logits, in the kernel's buffer and in the result. -/
def slabV (b : Fin 24) : Memref sig .tc .vmem S12x1x2048 .f32 := vOut.slice (outR b) (fun _ => rfl)
def slabO (b : Fin 24) : Memref sig .tc .hbm S12x1x2048 .f32 := mOut.slice (outR b) (fun _ => rfl)

/-- The tail of the weights: the columns after the last slab. -/
def tailW : Memref sig .tc .hbm S1600x1105 .fp8e4m3 :=
  mW.slice (Rect.unit (s := S1600x50257) ![0, 49152] S1600x1105.size inb_S1600x50257_S1600x1105_0_49152) (fun _ => rfl)
abbrev tailCell : SemLoc sig := SemLoc.dma (SemArray.sem cc0_scratch21)
abbrev outCell : SemLoc sig := SemLoc.dma (SemArray.sem cc0_scratch22)

/-- A memref's elements held at the contents `f`. -/
abbrev own (c : Dev nD) {sp : Space} {S : Shape} {e : EltTy} (M : Memref sig .tc sp S e) (f : Bf (F := F) c M) : sProp 𝕄 :=
  M.view.loc (c : Thread nD τ) ↦[M.view.set]{fullShare} f

/-- The tail in flight into its buffer. -/
abbrev tailFlight (c : Dev nD) (fW : Bf (F := F) c mW) : sProp 𝕄 :=
  iprop(∃ f, Transfers.Flight (countersEmb (U := Pipeline.UD sig nD τ)) (c : Thread nD τ) tailCell () vTail.view.dmaCredit
    iprop((vTail.view.loc (c : Thread nD τ) ↦[vTail.view.set]{fullShare}
            vTail.view.writes (Elt F) f [⟨Rect.whole S1600x1105, ReadAs.same.apply (tailW.view.read (Elt F) fW)⟩])
      ∗ (tailW.view.loc (c : Thread nD τ) ↦[tailW.view.set]{fullShare} fW)))
/-- The tail not yet asked for. -/
abbrev tailFree (c : Dev nD) (fW : Bf (F := F) c mW) : sProp 𝕄 :=
  iprop((∃ f, vTail.view.loc (c : Thread nD τ) ↦[vTail.view.set]{fullShare} f)
    ∗ (tailW.view.loc (c : Thread nD τ) ↦[tailW.view.set]{fullShare} fW) ∗ semVal ((c : Thread nD τ), tailCell) 0)

/-- A slab in flight: slab `b` of the weights into slot `s`, over what the slot held. -/
abbrev inFlight (c : Dev nD) (s : Fin 4) (b : Fin 24) (fW : Bf (F := F) c mW) : sProp 𝕄 :=
  iprop(∃ f, Transfers.Flight (countersEmb (U := Pipeline.UD sig nD τ)) (c : Thread nD τ) (slotCell s) () (slotV s).view.dmaCredit
    iprop(((slotV s).view.loc (c : Thread nD τ) ↦[(slotV s).view.set]{fullShare}
            (slotV s).view.writes (Elt F) f [⟨Rect.whole S1600x2048, slabPay c b fW⟩])
      ∗ ((slabW b).view.loc (c : Thread nD τ) ↦[(slabW b).view.set]{fullShare} fW)))

/-- The loop's trip on the kernel's buffers. -/
abbrev slabBody (v371 v375 : IVec S12x128 32) : Fin k0_t1_loop.trips → Unit → Prog (TpuEff nD τ sig (Elt F) Λ₀ .tc) Unit :=
  k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23 v371 v375 0#32 1#32

abbrev tripSlot (k : Fin k0_t1_loop.trips) : Fin 4 := ⟨k.val % 4, Nat.mod_lt _ (by decide)⟩
abbrev tripSlab (k : Fin k0_t1_loop.trips) : Fin 24 := ⟨k.val, lt_of_lt_of_eq k.isLt trips1⟩

/-- The columns of the trip's slab. -/
abbrev tripR (k : Fin k0_t1_loop.trips) : Rect S12x1x50257 := Rect.unit (s := S12x1x50257) ![0, 0, 2048 * k.val] S12x1x2048.size (outR_inb (tripSlab k))

/-! ## The program's spellings -/

private theorem sem_congr {off : Fin 1 → Nat} {s : Fin 4} (e : off = ![s.val]) (hh) :
    (cc0_scratch20.slice (Rect.unit (s := S4) off S1.size hh)).squeeze S_ squeezes_S1_S_ = slotSem s :=
  congrArg (fun A : DmaSems sig S1 => A.squeeze S_ squeezes_S1_S_) (SemArray.slice_unit_congr _ e _ _)
private theorem slot_congr {off : Fin 3 → Nat} {s : Fin 4} (e : off = slotOff s) (hh hs) :
    (vRing.slice (Rect.unit (s := S4x1600x2048) off S1x1600x2048.size hh) hs).squeeze S1600x2048 squeezes_S1x1600x2048_S1600x2048 = slotV s :=
  congrArg (fun M : Memref sig .tc .vmem S1x1600x2048 .fp8e4m3 => M.squeeze S1600x2048 squeezes_S1x1600x2048_S1600x2048) (Memref.slice_unit_congr _ e _ _ _ _)
private theorem slab_congr {off : Fin 2 → Nat} {b : Fin 24} (e : off = ![0, 2048 * b.val]) (hh hs) :
    mW.slice (Rect.unit (s := S1600x50257) off S1600x2048.size hh) hs = slabW b := Memref.slice_unit_congr _ e _ _ _ (fun _ => rfl)

@[sl_canon] theorem semL0 (hh) : (cc0_scratch20.slice (Rect.unit (s := S4) ![0] S1.size hh)).squeeze S_ squeezes_S1_S_ = slotSem 0 := sem_congr (by decide) _
@[sl_canon] theorem slotL0 (hh hs) : (vRing.slice (Rect.unit (s := S4x1600x2048) ![0, 0, 0] S1x1600x2048.size hh) hs).squeeze S1600x2048 squeezes_S1x1600x2048_S1600x2048 = slotV 0 := slot_congr (by decide) _ _
@[sl_canon] theorem slabL0 (hh hs) : mW.slice (Rect.unit (s := S1600x50257) ![0, 0] S1600x2048.size hh) hs = slabW 0 := slab_congr (by decide) _ _
@[sl_canon] theorem semL1 (hh) : (cc0_scratch20.slice (Rect.unit (s := S4) ![1] S1.size hh)).squeeze S_ squeezes_S1_S_ = slotSem 1 := sem_congr (by decide) _
@[sl_canon] theorem slotL1 (hh hs) : (vRing.slice (Rect.unit (s := S4x1600x2048) ![1, 0, 0] S1x1600x2048.size hh) hs).squeeze S1600x2048 squeezes_S1x1600x2048_S1600x2048 = slotV 1 := slot_congr (by decide) _ _
@[sl_canon] theorem slabL1 (hh hs) : mW.slice (Rect.unit (s := S1600x50257) ![0, 2048] S1600x2048.size hh) hs = slabW 1 := slab_congr (by decide) _ _
@[sl_canon] theorem semL2 (hh) : (cc0_scratch20.slice (Rect.unit (s := S4) ![2] S1.size hh)).squeeze S_ squeezes_S1_S_ = slotSem 2 := sem_congr (by decide) _
@[sl_canon] theorem slotL2 (hh hs) : (vRing.slice (Rect.unit (s := S4x1600x2048) ![2, 0, 0] S1x1600x2048.size hh) hs).squeeze S1600x2048 squeezes_S1x1600x2048_S1600x2048 = slotV 2 := slot_congr (by decide) _ _
@[sl_canon] theorem slabL2 (hh hs) : mW.slice (Rect.unit (s := S1600x50257) ![0, 4096] S1600x2048.size hh) hs = slabW 2 := slab_congr (by decide) _ _
@[sl_canon] theorem semL3 (hh) : (cc0_scratch20.slice (Rect.unit (s := S4) ![3] S1.size hh)).squeeze S_ squeezes_S1_S_ = slotSem 3 := sem_congr (by decide) _
@[sl_canon] theorem slotL3 (hh hs) : (vRing.slice (Rect.unit (s := S4x1600x2048) ![3, 0, 0] S1x1600x2048.size hh) hs).squeeze S1600x2048 squeezes_S1x1600x2048_S1600x2048 = slotV 3 := slot_congr (by decide) _ _
@[sl_canon] theorem slabL3 (hh hs) : mW.slice (Rect.unit (s := S1600x50257) ![0, 6144] S1600x2048.size hh) hs = slabW 3 := slab_congr (by decide) _ _

@[sl_canon] theorem semK (k : Fin k0_t1_loop.trips) (hh) :
    (cc0_scratch20.slice (Rect.unit (s := S4) (k0_off1 k) S1.size hh)).squeeze S_ squeezes_S1_S_ = slotSem (tripSlot k) := sem_congr (k0_off1_eq k) _
@[sl_canon] theorem semI (k : Fin k0_t1_loop.trips) (hh) :
    (cc0_scratch20.slice (Rect.unit (s := S4) (k0_off15 k) S1.size hh)).squeeze S_ squeezes_S1_S_ = slotSem (tripSlot k) := sem_congr (k0_off15_eq k) _
@[sl_canon] theorem slotK (k : Fin k0_t1_loop.trips) (hh hs) :
    (vRing.slice (Rect.unit (s := S4x1600x2048) (k0_off2 k) S1x1600x2048.size hh) hs).squeeze S1600x2048 squeezes_S1x1600x2048_S1600x2048 = slotV (tripSlot k) := slot_congr (k0_off2_eq k) _ _
@[sl_canon] theorem slotI (k : Fin k0_t1_loop.trips) (hh hs) :
    (vRing.slice (Rect.unit (s := S4x1600x2048) (k0_off16 k) S1x1600x2048.size hh) hs).squeeze S1600x2048 squeezes_S1x1600x2048_S1600x2048 = slotV (tripSlot k) := slot_congr (k0_off16_eq k) _ _
@[sl_canon] theorem slabK (k : Fin k0_t1_loop.trips) (hh hs) :
    mW.slice (Rect.unit (s := S1600x50257) (k0_off3 k) S1600x2048.size hh) hs = slabW (tripSlab k) := slab_congr (k0_off3_eq k) _ _
@[sl_canon] theorem slabI (k : Fin k0_t1_loop.trips) (hk : k.val + 4 < 24) (hh hs) :
    mW.slice (Rect.unit (s := S1600x50257) (k0_off17 k) S1600x2048.size hh) hs = slabW ⟨k.val + 4, hk⟩ :=
  slab_congr ((k0_off17_eq k).trans (congrArg (fun n => ![0, n]) (by show 2048 * k.val + 8192 = 2048 * (k.val + 4); omega))) _ _
@[sl_canon] theorem slabVK (k : Fin k0_t1_loop.trips) (hh hs) :
    vOut.slice (Rect.unit (s := S12x1x50257) (k0_off18 k) S12x1x2048.size hh) hs = slabV (tripSlab k) := Memref.slice_unit_congr _ (k0_off18_eq k) _ _ _ (fun _ => rfl)
@[sl_canon] theorem slabOK (k : Fin k0_t1_loop.trips) (hh hs) :
    mOut.slice (Rect.unit (s := S12x1x50257) (k0_off18 k) S12x1x2048.size hh) hs = slabO (tripSlab k) := Memref.slice_unit_congr _ (k0_off18_eq k) _ _ _ (fun _ => rfl)
@[sl_canon] theorem tailWL (hh hs) :
    mW.slice (Rect.unit (s := S1600x50257) ![0, 49152] S1600x1105.size hh) hs = tailW := rfl

/-! The trip's loads of its slot, over the slot's name. -/
instance (k : Fin k0_t1_loop.trips) : ClosedOff (k0_off5 k) := ⟨![(tripSlot k).val, 0, 0], k0_off5_eq k⟩
instance (k : Fin k0_t1_loop.trips) : ClosedOff (k0_off8 k) := ⟨![(tripSlot k).val, 0, 256], k0_off8_eq k⟩
instance (k : Fin k0_t1_loop.trips) : ClosedOff (k0_off9 k) := ⟨![(tripSlot k).val, 0, 512], k0_off9_eq k⟩
instance (k : Fin k0_t1_loop.trips) : ClosedOff (k0_off10 k) := ⟨![(tripSlot k).val, 0, 768], k0_off10_eq k⟩
instance (k : Fin k0_t1_loop.trips) : ClosedOff (k0_off11 k) := ⟨![(tripSlot k).val, 0, 1024], k0_off11_eq k⟩
instance (k : Fin k0_t1_loop.trips) : ClosedOff (k0_off12 k) := ⟨![(tripSlot k).val, 0, 1280], k0_off12_eq k⟩
instance (k : Fin k0_t1_loop.trips) : ClosedOff (k0_off13 k) := ⟨![(tripSlot k).val, 0, 1536], k0_off13_eq k⟩
instance (k : Fin k0_t1_loop.trips) : ClosedOff (k0_off14 k) := ⟨![(tripSlot k).val, 0, 1792], k0_off14_eq k⟩

end Cert.Kernel.Hand

end
-- ==== Proof.Kernel.Trip.lean ====
/-
  One trip of the kernel's loop over the slabs of the weights, up to the transfers it starts: what it loads, what it
  stores, found by running it once at a symbolic trip.
-/
module

public import proofs.«01_k».proof.Proof.Kernel.Setup

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One trip up to the transfers it starts, at any contents: the pieces it stores into its slab of the logits, what is
    left of the trip, and the pieces it stores into the running maxima, the running sums and the candidates' logits. -/
def tripRun (c : Dev nD) (v371 v375 : IVec S12x128 32) (k : Fin k0_t1_loop.trips) (fW : Bf (F := F) c mW)
    (xq : Bf (F := F) c vXq) (xsb : Bf (F := F) c vXsb) (ws : Bf (F := F) c vWs) (words : Bf (F := F) c vWords) (cid : Bf (F := F) c vCid) :
    Σ' (L : List (View.Piece (Elt F) S12x1x50257 .f32)) (R : (Unit → sProp 𝕄) → sProp 𝕄), ∀ (m s clog : Bf (F := F) c vM),
      { P : List (View.Piece (Elt F) S12x128 .f32) × List (View.Piece (Elt F) S12x128 .f32) × List (View.Piece (Elt F) S12x128 .f32) //
        ∀ (f16 : Bf (F := F) c vOut) (W : Waits sig Unit) (K : Unit → sProp 𝕄),
        iprop((inFlight c (tripSlot k) (tripSlab k) fW ∗ pt c vXq xq ∗ pt c vXsb xsb ∗ pt c vWs ws ∗ pt c vWords words ∗ pt c vCid cid
            ∗ pt c vM m ∗ pt c vS s ∗ pt c vClog clog
            ∗ (vOut.view.loc (c : Thread nD τ) ↦[vOut.view.setOn (tripR k).set]{fullShare} f16)
            ∗ owes (c : Thread nD τ) 0 W)
          ∗ (iprop((∃ f, (slotV (tripSlot k)).view.loc (c : Thread nD τ) ↦[(slotV (tripSlot k)).view.set]{fullShare} f)
              ∗ ((slabW (tripSlab k)).view.loc (c : Thread nD τ) ↦[(slabW (tripSlab k)).view.set]{fullShare} fW)
              ∗ semVal ((c : Thread nD τ), slotCell (tripSlot k)) 0
              ∗ pt c vXq xq ∗ pt c vXsb xsb ∗ pt c vWs ws ∗ pt c vWords words ∗ pt c vCid cid
              ∗ pt c vM (vM.view.writes (Elt F) vM.view.junk P.1) ∗ pt c vS (vS.view.writes (Elt F) vS.view.junk P.2.1)
              ∗ pt c vClog (vClog.view.writes (Elt F) vClog.view.junk P.2.2)
              ∗ (vOut.view.loc (c : Thread nD τ) ↦[vOut.view.setOn (tripR k).set]{fullShare} vOut.view.writes (Elt F) f16 L)
              ∗ ∃ W, owes (c : Thread nD τ) 0 W) -∗ R K))
        ⊢ wp frame (wpE (defs₀ (F := F)) Variants.none (c : Thread nD τ) none) Set.univ (slabBody (F := F) v371 v375 k ()) K } := by
  refine ⟨?_, ?_, fun m s clog => ⟨⟨?_, ?_, ?_⟩, fun f16 W K => ?run⟩⟩
  case run =>
    iintro ⟨⟨⟨%f, HF⟩, Hxq, Hxsb, Hws, Hwords, Hcid, Hm, Hs, Hclog, Hout, HO⟩, Hk⟩
    unfold slabBody k0_t1_body
    sl_exec!
    iapply Hk
    isplitl [HF_dst]; · iexists _; iexact HF_dst
    isplitl [HF_src]; · iexact HF_src
    isplitl [HF]; · iexact HF
    isplitl [Hxq]; · iexact Hxq
    isplitl [Hxsb]; · iexact Hxsb
    isplitl [Hws]; · iexact Hws
    isplitl [Hwords]; · iexact Hwords
    isplitl [Hcid]; · iexact Hcid
    isplitl [Hm]; · iexact Hm
    isplitl [Hs]; · iexact Hs
    isplitl [Hclog]; · iexact Hclog
    isplitl [Hout]; · iexact Hout
    iexists _; iexact HO

end Cert.Kernel.Hand

end
-- ==== Proof.Kernel.Step.lean ====
/-
  One whole trip of the loop over the slabs, with the transfers it starts: the next slab of the weights but three (or
  the tail), and its slab of the logits to the result.
-/
module

public import proofs.«01_k».proof.Proof.Kernel.Trip

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What a trip leaves -/

/-- What the trips have in common on a core: the lane words, and the contents of the buffers they only read and of the
    result before the kernel. -/
structure Data (F : FTy → Type) (c : Dev nD) where
  v371 : IVec S12x128 32
  v375 : IVec S12x128 32
  fW : Bf (F := F) c mW
  xq : Bf (F := F) c vXq
  xsb : Bf (F := F) c vXsb
  ws : Bf (F := F) c vWs
  words : Bf (F := F) c vWords
  cid : Bf (F := F) c vCid
  fO : Bf (F := F) c mOut

/-- The running maxima, the running sums and the candidates' logits. -/
structure St (F : FTy → Type) (c : Dev nD) where
  m : Bf (F := F) c vM
  s : Bf (F := F) c vS
  clog : Bf (F := F) c vClog

abbrev trip (b : Fin 24) : Fin k0_t1_loop.trips := ⟨b.val, lt_of_lt_of_eq b.isLt trips1.symm⟩

variable {c : Dev nD} (D : Data F c)

abbrev runAt (k : Fin k0_t1_loop.trips) := tripRun (F := F) c D.v371 D.v375 k D.fW D.xq D.xsb D.ws D.words D.cid

/-- The pieces trip `k` stores into the logits. -/
def slabL (k : Fin k0_t1_loop.trips) : List (View.Piece (Elt F) S12x1x50257 .f32) := (runAt D k).1

/-- The logits' buffer with trip `k`'s pieces stored. -/
def slabC (k : Fin k0_t1_loop.trips) : Bf (F := F) c vOut := vOut.view.writes (Elt F) vOut.view.junk (slabL D k)

/-- The running values after trip `k`. -/
def stNext (k : Fin k0_t1_loop.trips) (σ : St F c) : St F c :=
  let P := ((runAt D k).2.2 σ.m σ.s σ.clog).1
  ⟨vM.view.writes (Elt F) vM.view.junk P.1, vS.view.writes (Elt F) vS.view.junk P.2.1, vClog.view.writes (Elt F) vClog.view.junk P.2.2⟩

/-- The running values before trip `n`, from `σ`. -/
def stAt (σ : St F c) : ℕ → St F c
  | 0 => σ
  | n + 1 => if h : n < k0_t1_loop.trips then stNext D ⟨n, h⟩ (stAt σ n) else stAt σ n

theorem stAt_succ (σ : St F c) (k : Fin k0_t1_loop.trips) : stAt D σ (k.val + 1) = stNext D k (stAt D σ k.val) := by
  simp only [stAt, dif_pos k.isLt]

/-- Tile `r` of trip `k`'s slab: 128 columns. -/
abbrev tileR (k : Fin k0_t1_loop.trips) (r : Fin 16) : Rect S12x1x50257 :=
  Rect.unit (s := S12x1x50257) (k0_off7 k (BitVec.ofNat 32 (128 * r.val))) S12x1x128.size (k0_off7_inb k r)

/-- A trip stores its sixteen tiles, one piece each. -/
theorem slabL_rects (k : Fin k0_t1_loop.trips) : (slabL D k).map Sigma.fst = (List.finRange 16).reverse.map (tileR k) := rfl

/-- An element of a trip's slab lies in one of its tiles. -/
theorem mem_tile (k : Fin k0_t1_loop.trips) (y : S12x1x50257.Idx) (hy : y ∈ (tripR k).set) : ∃ r : Fin 16, y ∈ (tileR k r).set := by
  rw [Rect.mem_set_unit] at hy
  have h2 := hy 2
  change 2048 * k.val ≤ (y 2).val ∧ (y 2).val < 2048 * k.val + 2048 at h2
  refine ⟨⟨((y 2).val - 2048 * k.val) / 128, by omega⟩, ?_⟩
  rw [Rect.mem_set_unit, k0_off7_eq]
  intro a
  fin_cases a
  · exact ⟨Nat.zero_le _, by have := (y 0).isLt; show (y 0).val < 0 + 12; change (y 0).val < 12 at this; omega⟩
  · exact ⟨Nat.zero_le _, by have := (y 1).isLt; show (y 1).val < 0 + 1; change (y 1).val < 1 at this; omega⟩
  · show 2048 * k.val + 128 * (((y 2).val - 2048 * k.val) / 128) ≤ (y 2).val ∧ (y 2).val < 2048 * k.val + 128 * (((y 2).val - 2048 * k.val) / 128) + 128
    omega

/-- The pieces of a trip cover its slab. -/
theorem slabL_cover (k : Fin k0_t1_loop.trips) (y : S12x1x50257.Idx) (hy : y ∈ (tripR k).set) : ∃ p ∈ slabL D k, y ∈ p.1.set := by
  obtain ⟨r, hr⟩ := mem_tile k y hy
  have hm : tileR k r ∈ (slabL D k).map Sigma.fst := by
    rw [slabL_rects]; exact List.mem_map.mpr ⟨r, List.mem_reverse.mpr (List.mem_finRange r), rfl⟩
  obtain ⟨p, hp, e⟩ := List.mem_map.mp hm
  exact ⟨p, hp, e ▸ hr⟩

/-- Elements of the logits' buffer that stored pieces cover hold the same whatever the buffer held before. -/
theorem writes_junk_of_cover (S : Finset S12x1x50257.Idx) (f : Bf (F := F) c vOut) (L : List (View.Piece (Elt F) S12x1x50257 .f32))
    (hc : ∀ y ∈ S, ∃ p ∈ L, y ∈ p.1.set) :
    (vOut.view.loc (c : Thread nD τ) ↦[vOut.view.setOn S]{fullShare} vOut.view.writes (Elt F) f L : sProp 𝕄)
      = vOut.view.loc (c : Thread nD τ) ↦[vOut.view.setOn S]{fullShare} vOut.view.writes (Elt F) vOut.view.junk L :=
  pointsTo_congr fun i hi => by
    obtain ⟨y, hy, rfl⟩ := Finset.mem_map.mp hi
    have h := View.read_writes_apply_eq vOut.view f vOut.view vOut.view.junk y L (hc y hy)
    rw [View.read_apply, View.read_apply] at h
    simpa only [cast_cast, cast_eq] using congrArg (_root_.cast (congrArg (Elt F) vOut.view.elt_eq).symm) h

theorem slabV_set (k : Fin k0_t1_loop.trips) : (slabV (tripSlab k)).view.set = vOut.view.setOn (tripR k).set := by
  unfold slabV; exact View.set_slice _ _

/-- A trip's slab after its stores, by its own elements. -/
theorem slab_own (k : Fin k0_t1_loop.trips) (f16 : Bf (F := F) c vOut) :
    (vOut.view.loc (c : Thread nD τ) ↦[vOut.view.setOn (tripR k).set]{fullShare} vOut.view.writes (Elt F) f16 (runAt D k).1 : sProp 𝕄)
      ⊢ own c (slabV (tripSlab k)) (slabC D k) := by
  change (vOut.view.loc (c : Thread nD τ) ↦[vOut.view.setOn (tripR k).set]{fullShare} vOut.view.writes (Elt F) f16 (slabL D k) : sProp 𝕄) ⊢ _
  rw [writes_junk_of_cover _ f16 _ (slabL_cover D k)]
  unfold own
  rw [slabV_set]
  exact Entails.rfl

abbrev NN : ℕ := (slabO 0).view.dmaCredit

/-- What the transfer of slab `b` of the logits leaves: the result's slab written with the buffer's, which comes back. -/
abbrev outD (b : Fin 24) : sProp 𝕄 :=
  iprop(((slabO b).view.loc (c : Thread nD τ) ↦[(slabO b).view.set]{fullShare}
      (slabO b).view.writes (Elt F) D.fO [⟨Rect.whole S12x1x2048, ReadAs.same.apply ((slabV b).view.read (Elt F) (slabC D (trip b)))⟩])
    ∗ ((slabV b).view.loc (c : Thread nD τ) ↦[(slabV b).view.set]{fullShare} slabC D (trip b)))

/-- The transfers of the logits' slabs: `j` begun, `u` units waited for. -/
abbrev batch (j u : ℕ) : sProp 𝕄 :=
  Transfers.Batch (countersEmb (U := Pipeline.UD sig nD τ)) (c : Thread nD τ) outCell () NN (outD D) j u

/-- What a trip finds beside its slab: the slab four further on, or the tail. -/
abbrev ahead (k : Fin k0_t1_loop.trips) : sProp 𝕄 :=
  if h : k.val + 4 < 24 then iprop((slabW ⟨k.val + 4, h⟩).view.loc (c : Thread nD τ) ↦[(slabW ⟨k.val + 4, h⟩).view.set]{fullShare} D.fW)
  else if k.val + 4 = 24 then tailFree c D.fW else (BI.emp : sProp 𝕄)
/-- What it leaves of it. -/
abbrev asked (k : Fin k0_t1_loop.trips) : sProp 𝕄 :=
  if h : k.val + 4 < 24 then inFlight c (tripSlot k) ⟨k.val + 4, h⟩ D.fW
  else iprop((∃ f, (slotV (tripSlot k)).view.loc (c : Thread nD τ) ↦[(slotV (tripSlot k)).view.set]{fullShare} f)
    ∗ semVal ((c : Thread nD τ), slotCell (tripSlot k)) 0 ∗ (if k.val + 4 = 24 then tailFlight c D.fW else (BI.emp : sProp 𝕄)))

/-- The buffers a trip only reads. -/
abbrev fixed : sProp 𝕄 := iprop(pt c vXq D.xq ∗ pt c vXsb D.xsb ∗ pt c vWs D.ws ∗ pt c vWords D.words ∗ pt c vCid D.cid)
/-- The running values in their buffers. -/
abbrev stP (σ : St F c) : sProp 𝕄 := iprop(pt c vM σ.m ∗ pt c vS σ.s ∗ pt c vClog σ.clog)

theorem ahead_pos (k : Fin k0_t1_loop.trips) (h : k.val + 4 < 24) :
    ahead D k = iprop((slabW ⟨k.val + 4, h⟩).view.loc (c : Thread nD τ) ↦[(slabW ⟨k.val + 4, h⟩).view.set]{fullShare} D.fW) := dif_pos h
theorem ahead_tail (k : Fin k0_t1_loop.trips) (h : k.val + 4 = 24) : ahead D k = tailFree c D.fW := (dif_neg (by omega)).trans (if_pos h)
theorem ahead_none (k : Fin k0_t1_loop.trips) (h : 24 < k.val + 4) : ahead D k = BI.emp := (dif_neg (by omega)).trans (if_neg (by omega))
theorem asked_pos (k : Fin k0_t1_loop.trips) (h : k.val + 4 < 24) : asked D k = inFlight c (tripSlot k) ⟨k.val + 4, h⟩ D.fW := dif_pos h
theorem asked_tail (k : Fin k0_t1_loop.trips) (h : k.val + 4 = 24) :
    asked D k = iprop((∃ f, (slotV (tripSlot k)).view.loc (c : Thread nD τ) ↦[(slotV (tripSlot k)).view.set]{fullShare} f)
      ∗ semVal ((c : Thread nD τ), slotCell (tripSlot k)) 0 ∗ tailFlight c D.fW) :=
  (dif_neg (by omega)).trans (by rw [if_pos h])
theorem asked_none (k : Fin k0_t1_loop.trips) (h : 24 < k.val + 4) :
    asked D k = iprop((∃ f, (slotV (tripSlot k)).view.loc (c : Thread nD τ) ↦[(slotV (tripSlot k)).view.set]{fullShare} f)
      ∗ semVal ((c : Thread nD τ), slotCell (tripSlot k)) 0 ∗ (BI.emp : sProp 𝕄)) :=
  (dif_neg (by omega)).trans (by rw [if_neg (by omega)])

theorem cond1_iff : ∀ k : Fin k0_t1_loop.trips, k0_cond1 k = 1#1 ↔ k.val + 4 < 24 := by decide
/-- Whether trip `k` asks for the tail. -/
abbrev cond2 (k : Fin k0_t1_loop.trips) : BitVec 1 :=
  Scalar.cmpi .ne (Scalar.extui (Scalar.cmpi .eq (Scalar.addi (Scf.iv 0#32 1#32 k) 4#32) 24#32)) 0#32
theorem cond2_iff : ∀ k : Fin k0_t1_loop.trips, cond2 k = 1#1 ↔ k.val + 4 = 24 := by decide

/-- What is left of a trip: the transfers it starts. -/
theorem rest_step (k : Fin k0_t1_loop.trips) (K : Unit → sProp 𝕄) :
    iprop(((∃ f, own c (slotV (tripSlot k)) f) ∗ semVal ((c : Thread nD τ), slotCell (tripSlot k)) 0
        ∗ own c (slabV (tripSlab k)) (slabC D k)
        ∗ ((slabO (tripSlab k)).view.loc (c : Thread nD τ) ↦[(slabO (tripSlab k)).view.set]{fullShare} D.fO)
        ∗ ahead D k ∗ batch D k.val 0 ∗ ∃ W, owes (c : Thread nD τ) 0 W)
      ∗ (iprop(asked D k ∗ batch D (k.val + 1) 0 ∗ ∃ W, owes (c : Thread nD τ) 0 W) -∗ K ()))
    ⊢ (runAt D k).2.1 K := by
  have hk := lt_of_lt_of_eq k.isLt trips1
  unfold runAt tripRun
  conv => rhs; with_reducible whnf
  rcases Nat.lt_trichotomy (k.val + 4) 24 with h4 | h4 | h4
  · have hc := (cond1_iff k).mpr h4
    have hd : ¬ cond2 k = 1#1 := fun h => by have := (cond2_iff k).mp h; omega
    rw [ahead_pos D k h4, asked_pos D k h4]
    iintro ⟨⟨⟨%fs, Hslot⟩, Hcell, Hout, HO, Ha, HB, ⟨%W, HW⟩⟩, Hk⟩
    sl_exec
    sl_step
    iapply Hk
    isplitl [Hcell]; · iexists _; iexact Hcell
    isplitl [HB]; · iexact HB
    iexists _; iexact HW
  · have hc : ¬ k0_cond1 k = 1#1 := fun h => by have := (cond1_iff k).mp h; omega
    have hd := (cond2_iff k).mpr h4
    rw [ahead_tail D k h4, asked_tail D k h4]
    iintro ⟨⟨⟨%fs, Hslot⟩, Hcell, Hout, HO, ⟨⟨%ft, Ht⟩, HtW, Htc⟩, HB, ⟨%W, HW⟩⟩, Hk⟩
    sl_exec
    sl_step
    iapply Hk
    isplitl [Hslot Hcell Htc]
    · isplitl [Hslot]; · iexists _; iexact Hslot
      isplitl [Hcell]; · iexact Hcell
      iexists _; iexact Htc
    isplitl [HB]; · iexact HB
    iexists _; iexact HW
  · have hc : ¬ k0_cond1 k = 1#1 := fun h => by have := (cond1_iff k).mp h; omega
    have hd : ¬ cond2 k = 1#1 := fun h => by have := (cond2_iff k).mp h; omega
    rw [ahead_none D k h4, asked_none D k h4]
    iintro ⟨⟨⟨%fs, Hslot⟩, Hcell, Hout, HO, He, HB, ⟨%W, HW⟩⟩, Hk⟩
    sl_exec
    sl_step
    iapply Hk
    isplitl [Hslot Hcell He]
    · isplitl [Hslot]; · iexists _; iexact Hslot
      isplitl [Hcell]; · iexact Hcell
      iexact He
    isplitl [HB]; · iexact HB
    iexists _; iexact HW

/-- One trip. -/
theorem trip_step (k : Fin k0_t1_loop.trips) (σ : St F c) (K : Unit → sProp 𝕄) :
    iprop((inFlight c (tripSlot k) (tripSlab k) D.fW ∗ fixed D ∗ stP σ
        ∗ (∃ f, vOut.view.loc (c : Thread nD τ) ↦[vOut.view.setOn (tripR k).set]{fullShare} f)
        ∗ ((slabO (tripSlab k)).view.loc (c : Thread nD τ) ↦[(slabO (tripSlab k)).view.set]{fullShare} D.fO)
        ∗ ahead D k ∗ batch D k.val 0 ∗ ∃ W, owes (c : Thread nD τ) 0 W)
      ∗ (iprop(((slabW (tripSlab k)).view.loc (c : Thread nD τ) ↦[(slabW (tripSlab k)).view.set]{fullShare} D.fW)
          ∗ fixed D ∗ stP (stNext D k σ) ∗ asked D k ∗ batch D (k.val + 1) 0 ∗ ∃ W, owes (c : Thread nD τ) 0 W) -∗ K ()))
    ⊢ wp frame (wpE (defs₀ (F := F)) Variants.none (c : Thread nD τ) none) Set.univ (slabBody (F := F) D.v371 D.v375 k ()) K := by
  iintro ⟨⟨HF, ⟨Hxq, Hxsb, Hws, Hwords, Hcid⟩, ⟨Hm, Hs, Hclog⟩, ⟨%f16, Hout⟩, HO, Ha, HB, ⟨%W, HW⟩⟩, Hk⟩
  iapply ((runAt D k).2.2 σ.m σ.s σ.clog).2 f16 W K
  isplitl [HF Hxq Hxsb Hws Hwords Hcid Hm Hs Hclog Hout HW]
  · isplitl [HF]; · iexact HF
    isplitl [Hxq]; · iexact Hxq
    isplitl [Hxsb]; · iexact Hxsb
    isplitl [Hws]; · iexact Hws
    isplitl [Hwords]; · iexact Hwords
    isplitl [Hcid]; · iexact Hcid
    isplitl [Hm]; · iexact Hm
    isplitl [Hs]; · iexact Hs
    isplitl [Hclog]; · iexact Hclog
    isplitl [Hout]; · iexact Hout
    iexact HW
  iintro ⟨⟨%fs, Hslot⟩, HsW, Hcell, Hxq, Hxsb, Hws, Hwords, Hcid, Hm, Hs, Hclog, Hout, ⟨%W', HW⟩⟩
  ihave Hout := (slab_own D k f16) $$ Hout
  iapply (rest_step D k K)
  isplitl [Hslot Hcell Hout HO Ha HB HW]
  · isplitl [Hslot]; · iexists _; iexact Hslot
    isplitl [Hcell]; · iexact Hcell
    isplitl [Hout]; · iexact Hout
    isplitl [HO]; · iexact HO
    isplitl [Ha]; · iexact Ha
    isplitl [HB]; · iexact HB
    iexists _; iexact HW
  iintro ⟨Ha, HB, HW⟩
  iapply Hk
  isplitl [HsW]; · iexact HsW
  isplitl [Hxq Hxsb Hws Hwords Hcid]
  · isplitl [Hxq]; · iexact Hxq
    isplitl [Hxsb]; · iexact Hxsb
    isplitl [Hws]; · iexact Hws
    isplitl [Hwords]; · iexact Hwords
    iexact Hcid
  isplitl [Hm Hs Hclog]
  · isplitl [Hm]; · iexact Hm
    isplitl [Hs]; · iexact Hs
    iexact Hclog
  isplitl [Ha]; · iexact Ha
  isplitl [HB]; · iexact HB
  iexact HW

end Cert.Kernel.Hand

end
-- ==== Proof.Kernel.Loop.lean ====
/-
  The loop over the slabs of the weights, and the loop that waits for the transfers of the logits' slabs.
-/
module

public import proofs.«01_k».proof.Proof.Kernel.Step

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The loop over the slabs -/

variable {c : Dev nD} (D : Data F c)

/-- Slab `b` of the weights at hand. -/
abbrev wAt (b : Fin 24) : sProp 𝕄 := (slabW b).view.loc (c : Thread nD τ) ↦[(slabW b).view.set]{fullShare} D.fW
/-- Slab `b` of the kernel's logits at some contents. -/
abbrev vAt (c : Dev nD) (b : Fin 24) : sProp 𝕄 := iprop(∃ f : Bf (F := F) c vOut, vOut.view.loc (c : Thread nD τ) ↦[vOut.view.setOn (outR b).set]{fullShare} f)
/-- Slab `b` of the result at its first contents. -/
abbrev oAt (b : Fin 24) : sProp 𝕄 := (slabO b).view.loc (c : Thread nD τ) ↦[(slabO b).view.set]{fullShare} D.fO
/-- The slot of slab `b`, for four slabs beyond the last too. -/
abbrev bSlot (b : Fin 28) : Fin 4 := ⟨b.val % 4, Nat.mod_lt _ (by decide)⟩
/-- A slot at rest. -/
abbrev slotFree (c : Dev nD) (s : Fin 4) : sProp 𝕄 :=
  iprop((∃ f : Bf (F := F) c (slotV s), (slotV s).view.loc (c : Thread nD τ) ↦[(slotV s).view.set]{fullShare} f) ∗ semVal ((c : Thread nD τ), slotCell s) 0)
/-- A slot of the ring: its slab in flight, or at rest beyond the last slab. -/
def ringAt (b : Fin 28) : sProp 𝕄 := if h : b.val < 24 then inFlight c (bSlot b) ⟨b.val, h⟩ D.fW else slotFree c (bSlot b)
/-- The tail before trip `k`. -/
def tailAt (k : ℕ) : sProp 𝕄 := if k ≤ 20 then tailFree c D.fW else tailFlight c D.fW

/-- The loop before trip `k`. -/
def inv (σ : St F c) (k : ℕ) (_ : Unit) : sProp 𝕄 :=
  iprop(bigSep (Ring.rangeSet 28 k (k + 4)) (ringAt D) ∗ bigSep (Ring.rangeSet 24 0 k) (wAt D) ∗ bigSep (Ring.rangeSet 24 (k + 4) 24) (wAt D) ∗ tailAt D k
    ∗ batch D k 0 ∗ bigSep (Ring.rangeSet 24 k 24) (vAt (F := F) c) ∗ bigSep (Ring.rangeSet 24 k 24) (oAt D)
    ∗ stP (stAt D σ k) ∗ fixed D ∗ ∃ W, owes (c : Thread nD τ) 0 W)

/-- What stays aside in a trip of the slabs ahead and the tail. -/
abbrev kept (k : ℕ) : sProp 𝕄 :=
  if k + 4 < 24 then iprop(bigSep (Ring.rangeSet 24 (k + 5) 24) (wAt D) ∗ tailFree c D.fW) else if k + 4 = 24 then (BI.emp : sProp 𝕄) else tailFlight c D.fW

/-- A trip takes the slab ahead, or the tail. -/
theorem take_ahead (k : Fin k0_t1_loop.trips) :
    iprop(bigSep (Ring.rangeSet 24 (k.val + 4) 24) (wAt D) ∗ tailAt D k.val) ⊢ iprop(ahead D k ∗ kept D k.val) := by
  have hk := lt_of_lt_of_eq k.isLt trips1
  rcases Nat.lt_trichotomy (k.val + 4) 24 with h | h | h
  · rw [ahead_pos D k h, kept, if_pos h, tailAt, if_pos (by omega), Ring.bigSep_rangeSet_head (Φ := wAt D) h h]
    iintro ⟨⟨A, B⟩, C⟩
    isplitl [A]; · iexact A
    isplitl [B] <;> iassumption
  · rw [ahead_tail D k h, kept, if_neg (by omega), if_pos h, tailAt, if_pos (by omega), Ring.bigSep_rangeSet_empty (Φ := wAt D) (by omega)]
    iintro ⟨A, B⟩
    isplitl [B] <;> iassumption
  · rw [ahead_none D k h, kept, if_neg (by omega), if_neg (by omega), tailAt, if_neg (by omega), Ring.bigSep_rangeSet_empty (Φ := wAt D) (by omega)]
    exact Entails.rfl

/-- What it leaves makes up the slabs ahead, the tail and its slot before the next trip. -/
theorem give_asked (k : Fin k0_t1_loop.trips) (hb : k.val + 4 < 28) :
    iprop(asked D k ∗ kept D k.val) ⊢ iprop(ringAt D ⟨k.val + 4, hb⟩ ∗ bigSep (Ring.rangeSet 24 (k.val + 5) 24) (wAt D) ∗ tailAt D (k.val + 1)) := by
  have hk := lt_of_lt_of_eq k.isLt trips1
  have hs : bSlot ⟨k.val + 4, hb⟩ = tripSlot k := Fin.ext (by show (k.val + 4) % 4 = k.val % 4; omega)
  unfold ringAt
  rw [hs]
  rcases Nat.lt_trichotomy (k.val + 4) 24 with h | h | h
  · rw [asked_pos D k h, kept, if_pos h, tailAt, if_pos (by omega), dif_pos h]
  · rw [asked_tail D k h, kept, if_neg (by omega), if_pos h, tailAt, if_neg (by omega), dif_neg (by show ¬ k.val + 4 < 24; omega), Ring.bigSep_rangeSet_empty (Φ := wAt D) (by omega)]
    iintro ⟨⟨A, B, C⟩, E⟩
    isplitl [A B]; · isplitl [A] <;> iassumption
    isplitl [E] <;> iassumption
  · rw [asked_none D k h, kept, if_neg (by omega), if_neg (by omega), tailAt, if_neg (by omega), dif_neg (by show ¬ k.val + 4 < 24; omega), Ring.bigSep_rangeSet_empty (Φ := wAt D) (by omega)]
    iintro ⟨⟨A, B, C⟩, E⟩
    isplitl [A B]; · isplitl [A] <;> iassumption
    isplitl [C] <;> iassumption

/-- A trip keeps the invariant. -/
theorem inv_step (σ : St F c) (k : Fin k0_t1_loop.trips) (acc : Unit) :
    inv D σ k.val acc ⊢ wp frame (wpE (defs₀ (F := F)) Variants.none (c : Thread nD τ) none) Set.univ (slabBody (F := F) D.v371 D.v375 k acc) (inv D σ (k.val + 1)) := by
  have hk := lt_of_lt_of_eq k.isLt trips1
  have hb : k.val + 4 < 28 := by omega
  unfold inv
  rw [Ring.bigSep_rangeSet_head (Φ := ringAt D) (lo := k.val) (hi := k.val + 4) (by omega) (by omega),
    Ring.bigSep_rangeSet_head (Φ := vAt c) hk hk, Ring.bigSep_rangeSet_head (Φ := oAt D) hk hk]
  have h1 : bigSep (Ring.rangeSet 28 (k.val + 1) (k.val + 1 + 4)) (ringAt D) = iprop(ringAt D ⟨k.val + 4, hb⟩ ∗ bigSep (Ring.rangeSet 28 (k.val + 1) (k.val + 4)) (ringAt D)) :=
    Ring.bigSep_rangeSet_last (Φ := ringAt D) (lo := k.val + 1) (hi := k.val + 5) (by omega) (by omega)
  have h2 : bigSep (Ring.rangeSet 24 0 (k.val + 1)) (wAt D) = iprop(wAt D (tripSlab k) ∗ bigSep (Ring.rangeSet 24 0 k.val) (wAt D)) :=
    Ring.bigSep_rangeSet_last (Φ := wAt D) (lo := 0) (hi := k.val + 1) (by omega) (by omega)
  have h3 : ringAt D ⟨k.val, by omega⟩ = inFlight c (tripSlot k) (tripSlab k) D.fW := dif_pos hk
  iintro ⟨⟨HF, HR⟩, HW, HA, HT, HB, ⟨HV, HVs⟩, ⟨HO, HOs⟩, Hst, Hfix, HX⟩
  ihave HF := (Entails.of_eq h3) $$ HF
  ihave HA := (take_ahead D k) $$ [HA HT]
  · isplitl [HA] <;> iassumption
  icases HA with ⟨HA, HK⟩
  iapply (trip_step D k (stAt D σ k.val))
  isplitl [HF Hfix Hst HV HO HA HB HX]
  · isplitl [HF]; · iexact HF
    isplitl [Hfix]; · iexact Hfix
    isplitl [Hst]; · iexact Hst
    isplitl [HV]; · iexact HV
    isplitl [HO]; · iexact HO
    isplitl [HA]; · iexact HA
    isplitl [HB] <;> iassumption
  iintro ⟨HS, Hfix, Hst, HA, HB, HX⟩
  ihave HA := (give_asked D k hb) $$ [HA HK]
  · isplitl [HA] <;> iassumption
  icases HA with ⟨HF, HA, HT⟩
  rw [h1, h2, stAt_succ]
  isplitl [HF HR]; · isplitl [HF] <;> iassumption
  isplitl [HS HW]; · isplitl [HS] <;> iassumption
  isplitl [HA]; · iexact HA
  isplitl [HT]; · iexact HT
  isplitl [HB]; · iexact HB
  isplitl [HVs]; · iexact HVs
  isplitl [HOs]; · iexact HOs
  isplitl [Hst]; · iexact Hst
  isplitl [Hfix] <;> iassumption

/-! ## The loop that waits for the logits' transfers -/

theorem trips2 : k0_t2_loop.trips = 24 := by decide
abbrev drainSlab (k : Fin k0_t2_loop.trips) : Fin 24 := ⟨k.val, lt_of_lt_of_eq k.isLt trips2⟩
@[sl_canon] theorem slabVD (k : Fin k0_t2_loop.trips) (hh hs) :
    vOut.slice (Rect.unit (s := S12x1x50257) (k0_off19 k) S12x1x2048.size hh) hs = slabV (drainSlab k) := Memref.slice_unit_congr _ (k0_off19_eq k) _ _ _ (fun _ => rfl)
@[sl_canon] theorem slabOD (k : Fin k0_t2_loop.trips) (hh hs) :
    mOut.slice (Rect.unit (s := S12x1x50257) (k0_off19 k) S12x1x2048.size hh) hs = slabO (drainSlab k) := Memref.slice_unit_congr _ (k0_off19_eq k) _ _ _ (fun _ => rfl)

/-- A wait of it on the kernel's buffers. -/
abbrev drainBody (v818 : FVec F S12x1 .f32) : Fin k0_t2_loop.trips → Unit → Prog (TpuEff nD τ sig (Elt F) Λ₀ .tc) Unit :=
  k0_t2_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23 v818

/-- The waits before wait `k`: every transfer begun, `k` of them waited for; after the last all they leave. -/
def drainInv (k : ℕ) (_ : Unit) : sProp 𝕄 :=
  iprop(⌜k ≤ 24⌝ ∗ (∃ W, owes (c : Thread nD τ) 0 W)
    ∗ if k < 24 then batch D 24 (k * NN) else iprop(semVal ((c : Thread nD τ), outCell) 0 ∗ bigSep Finset.univ (outD D)))

/-- One wait. -/
theorem drain_step (v818 : FVec F S12x1 .f32) (k : Fin k0_t2_loop.trips) (acc : Unit) :
    drainInv D k.val acc ⊢ wp frame (wpE (defs₀ (F := F)) Variants.none (c : Thread nD τ) none) Set.univ (drainBody (F := F) v818 k acc) (drainInv D (k.val + 1)) := by
  have hk : k.val < 24 := lt_of_lt_of_eq k.isLt trips2
  unfold drainInv
  rw [if_pos hk]
  rcases Nat.lt_or_ge (k.val + 1) 24 with h1 | h1
  · rw [if_pos h1]
    iintro ⟨-, ⟨%W, HO⟩, HB⟩
    unfold drainBody k0_t2_body
    sl_exec
    sl_step
    isplitr; · ipureintro; omega
    isplitl [HO]; · iexists _; iexact HO
    rw [show (k.val + 1) * NN = k.val * NN + NN by rw [Nat.add_mul, Nat.one_mul]]
    iexact HB
  · rw [if_neg (Nat.not_lt.mpr h1)]
    iintro ⟨-, ⟨%W, HO⟩, HB⟩
    unfold drainBody k0_t2_body
    sl_exec
    sl_step
    isplitr; · ipureintro; omega
    isplitl [HO]; · iexists _; iexact HO
    isplitl [HB]; · iexact HB
    iexact HB_all

end Cert.Kernel.Hand
-- ==== Proof.Kernel.Pro.lean ====
/-
  The body up to the loop over the slabs: the transfers it starts, the quantised rows, the words of the mask.
-/
module

public import proofs.«01_k».proof.Proof.Kernel.Loop

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Any contents of a buffer held whole. -/
abbrev any (c : Dev nD) {sp : Space} {S : Shape} {e : EltTy} (M : Memref sig .tc sp S e) : sProp 𝕄 := iprop(∃ f : Bf (F := F) c M, pt c M f)
/-- A cell at zero. -/
abbrev zero (c : Dev nD) (i : Fin 15) : sProp 𝕄 := semVal ((c : Thread nD τ), (SemLoc.dma i : SemLoc sig)) 0

/-- A buffer of the kernel in flight to a result: the buffer's pieces `L` were stored over the contents `f`. -/
abbrev toRes (c : Dev nD) (i : Fin 15) {S : Shape} {e : EltTy} (V : Memref sig .tc .vmem S e) (M : Memref sig .tc .hbm S e) (f : Bf (F := F) c V)
    (g : Bf (F := F) c M) (n : ℕ) (L : List (View.Piece (Elt F) S e)) : sProp 𝕄 :=
  Transfers.Flight (countersEmb (U := Pipeline.UD sig nD τ)) (c : Thread nD τ) (SemLoc.dma i : SemLoc sig) () n
    iprop(pt c M (M.view.writes (Elt F) g [⟨Rect.whole S, ReadAs.same.apply (V.view.read (Elt F) (V.view.writes (Elt F) f L))⟩]) ∗ pt c V (V.view.writes (Elt F) f L))

/-- The body up to the loop over the slabs, at any contents: the pieces it stores into each buffer, and what is left. -/
def proRun (c : Dev nD) (fX : Bf (F := F) c mX) (fWs : Bf (F := F) c mWs) (fBm : Bf (F := F) c mBm) (fCand : Bf (F := F) c mCand) :
    Σ' (Lws : List (View.Piece (Elt F) S50257 .f32)) (Lxq : List (View.Piece (Elt F) S32x1600 .fp8e4m3)) (Lwords : List (View.Piece (Elt F) S12x1664 .i32)) (Lcid : List (View.Piece (Elt F) S12x128 .i32))
      (Lxsb Lm Ls Lclog : List (View.Piece (Elt F) S12x128 .f32)) (Lcallow : List (View.Piece (Elt F) S12x128 .i32))
      (Lxc : List (View.Piece (Elt F) S12x1600 .fp8e4m3)) (Lxs : List (View.Piece (Elt F) S1x12 .f32)) (R : (PUnit → sProp 𝕄) → sProp 𝕄),
      ∀ (fW : Bf (F := F) c mW) (fXc : Bf (F := F) c mXc) (fXs : Bf (F := F) c mXs) (W : Waits sig Unit) (K : PUnit → sProp 𝕄),
        iprop(((pt c mX fX ∗ pt c mWs fWs ∗ pt c mBm fBm ∗ pt c mCand fCand ∗ pt c mXc fXc ∗ pt c mXs fXs)
            ∗ (any c vX ∗ any c vWs ∗ any c vBm ∗ any c vCand ∗ any c vXq ∗ any c vXc ∗ any c vWords ∗ any c vCid ∗ any c vXsb ∗ any c vM ∗ any c vS ∗ any c vClog
            ∗ any c vCallow ∗ any c vXs)
            ∗ (zero c 0 ∗ zero c 1 ∗ zero c 2 ∗ zero c 3 ∗ zero c 10 ∗ zero c 11)
            ∗ (own c (slabW 0) fW ∗ own c (slabW 1) fW ∗ own c (slabW 2) fW ∗ own c (slabW 3) fW)
            ∗ (slotFree c 0 ∗ slotFree c 1 ∗ slotFree c 2 ∗ slotFree c 3)
            ∗ owes (c : Thread nD τ) 0 W)
          ∗ (iprop((pt c mX fX ∗ pt c mWs fWs ∗ pt c mBm fBm ∗ pt c mCand fCand)
            ∗ (any c vX ∗ any c vBm ∗ any c vCand)
            ∗ (pt c vWs (vWs.view.writes (Elt F) vWs.view.junk Lws) ∗ pt c vXq (vXq.view.writes (Elt F) vXq.view.junk Lxq) ∗ pt c vWords (vWords.view.writes (Elt F) vWords.view.junk Lwords)
              ∗ pt c vCid (vCid.view.writes (Elt F) vCid.view.junk Lcid) ∗ pt c vXsb (vXsb.view.writes (Elt F) vXsb.view.junk Lxsb)
              ∗ pt c vM (vM.view.writes (Elt F) vM.view.junk Lm) ∗ pt c vS (vS.view.writes (Elt F) vS.view.junk Ls) ∗ pt c vClog (vClog.view.writes (Elt F) vClog.view.junk Lclog)
              ∗ pt c vCallow (vCallow.view.writes (Elt F) vCallow.view.junk Lcallow))
            ∗ (zero c 0 ∗ zero c 1 ∗ zero c 2 ∗ zero c 3)
            ∗ (inFlight c 0 0 fW ∗ inFlight c 1 1 fW ∗ inFlight c 2 2 fW ∗ inFlight c 3 3 fW)
            ∗ ((∃ f, toRes c 10 vXc mXc f fXc 1664 Lxc) ∗ (∃ f, toRes c 11 vXs mXs f fXs 16 Lxs))
            ∗ ∃ W, owes (c : Thread nD τ) 0 W) -∗ R K))
        ⊢ wp frame (wpE (defs₀ (F := F)) Variants.none (c : Thread nD τ) none) Set.univ (bodyAt0 (F := F) t0_0) K := by
  refine ⟨?_, ?_, ?_, ?_, ?_, ?_, ?_, ?_, ?_, ?_, ?_, ?_, fun fW fXc fXs W K => ?run⟩
  case run =>
    iintro ⟨⟨⟨HX, HWs, HBm, HCand, HXc, HXs⟩, ⟨⟨%x, Hx⟩, ⟨%ws, Hws⟩, ⟨%bm, Hbm⟩, ⟨%cand, Hcand⟩, ⟨%xq, Hxq⟩, ⟨%xc, Hxc⟩, ⟨%words, Hwords⟩, ⟨%cid, Hcid⟩, ⟨%xsb, Hxsb⟩, ⟨%m, Hm⟩, ⟨%s, Hs⟩, ⟨%clog, Hclog⟩, ⟨%callow, Hcallow⟩, ⟨%xs, Hxs⟩⟩,
      ⟨Hi0, Hi1, Hi2, Hi3, Ho0, Ho1⟩, ⟨HW0, HW1, HW2, HW3⟩, ⟨⟨⟨%r0, Hr0⟩, Hc0⟩, ⟨⟨%r1, Hr1⟩, Hc1⟩, ⟨⟨%r2, Hr2⟩, Hc2⟩, ⟨⟨%r3, Hr3⟩, Hc3⟩⟩, HO⟩, Hk⟩
    unfold bodyAt0 cc0_masked_lm_head
    sl_exec!
    iapply Hk
    isplitl [HX HWs HBm HCand]
    · isplitl [HX]; · iexact HX
      isplitl [HWs]; · iexact HWs
      isplitl [HBm]; · iexact HBm
      iexact HCand
    isplitl [Hx Hbm Hcand]
    · isplitl [Hx]; · iexists _; iexact Hx
      isplitl [Hbm]; · iexists _; iexact Hbm
      iexists _; iexact Hcand
    isplitl [Hws Hxq Hwords Hcid Hxsb Hm Hs Hclog Hcallow]
    · isplitl [Hws]; · iexact Hws
      isplitl [Hxq]; · iexact Hxq
      isplitl [Hwords]; · iexact Hwords
      isplitl [Hcid]; · iexact Hcid
      isplitl [Hxsb]; · iexact Hxsb
      isplitl [Hm]; · iexact Hm
      isplitl [Hs]; · iexact Hs
      isplitl [Hclog]; · iexact Hclog
      iexact Hcallow
    isplitl [Hi0 Hi1 Hi2 Hi3]
    · isplitl [Hi0]; · iexact Hi0
      isplitl [Hi1]; · iexact Hi1
      isplitl [Hi2]; · iexact Hi2
      iexact Hi3
    isplitl [Hc0 Hc1 Hc2 Hc3]
    · isplitl [Hc0]; · iexists _; iexact Hc0
      isplitl [Hc1]; · iexists _; iexact Hc1
      isplitl [Hc2]; · iexists _; iexact Hc2
      iexists _; iexact Hc3
    case refine_10 => exact proRun.sl.Hxc_1 c fX
    case refine_11 => exact proRun.sl.Hxs_1 c fX
    isplitl [Ho0 Ho1]
    · isplitl [Ho0]; · iexists _; iexact Ho0
      iexists _; iexact Ho1
    iexists _; iexact HO

end Cert.Kernel.Hand
-- ==== Proof.Kernel.Blocks.lean ====
/-
  Buffers held whole and block by block: the slabs of the weights and of the logits, the slots of the ring.
-/
module

public import proofs.«01_k».proof.Proof.Kernel.Pro

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Glue

variable (c : Dev nD) {sp : Space} {S : Shape} {e : EltTy} (M : Memref sig .tc sp S e) {n : ℕ} (R : Fin n → Finset S.Idx) (T : Finset S.Idx)
  (hd : ∀ b b', b ≠ b' → Disjoint (R b) (R b')) (ht : ∀ b, Disjoint (R b) T) (hc : ∀ i, (∃ b, i ∈ R b) ∨ i ∈ T)

/-- Block `b`, as elements of the buffer. -/
abbrev blk (b : Fin n) : Finset (Idx (M.view.loc (c : Thread nD τ))) := M.view.setOn (R b)
include hd in
theorem setOn_disjoint (b b' : Fin n) (h : b ≠ b') : Disjoint (M.view.setOn (R b)) (M.view.setOn (R b')) := (Finset.disjoint_map _).mpr (hd b b' h)
include ht in
theorem setOn_rest (b : Fin n) : Disjoint (M.view.setOn (R b)) (M.view.setOn T) := (Finset.disjoint_map _).mpr (ht b)
include ht in
theorem union_rest : Disjoint (Finset.univ.biUnion (blk c M R)) (M.view.setOn T : Finset (Idx (M.view.loc (c : Thread nD τ)))) :=
  (Finset.disjoint_biUnion_left _ _ _).mpr fun b _ => setOn_rest M R T ht b
include hc in
theorem union_set : (Finset.univ.biUnion (blk c M R)) ∪ (M.view.setOn T : Finset (Idx (M.view.loc (c : Thread nD τ)))) = M.view.set := by
  ext x
  unfold blk
  simp only [Finset.mem_union, Finset.mem_biUnion, Finset.mem_univ, true_and]
  constructor
  · rintro (⟨b, h⟩ | h) <;> obtain ⟨y, -, rfl⟩ := Finset.mem_map.mp h <;> exact Finset.mem_map.mpr ⟨y, Finset.mem_univ _, rfl⟩
  · intro h
    obtain ⟨y, -, rfl⟩ := Finset.mem_map.mp h
    rcases hc y with ⟨b, hb⟩ | hT
    · exact .inl ⟨b, Finset.mem_map.mpr ⟨y, hb, rfl⟩⟩
    · exact .inr (Finset.mem_map.mpr ⟨y, hT, rfl⟩)

include hd in
theorem blocks_eq (f : Bf (F := F) c M) :
    (M.view.loc (c : Thread nD τ) ↦[Finset.univ.biUnion (blk c M R)]{fullShare} f : sProp 𝕄)
      = bigSep Finset.univ fun b => M.view.loc (c : Thread nD τ) ↦[M.view.setOn (R b)]{fullShare} f :=
  pointsTo_biUnion Finset.univ (blk c M R) (fun b _ b' _ h => setOn_disjoint M R hd b b' h)

include hd ht hc in
/-- A buffer held whole is held block by block, and outside the blocks. -/
theorem blocks_split (f : Bf (F := F) c M) :
    (pt c M f : sProp 𝕄) ⊢ iprop((bigSep Finset.univ fun b => M.view.loc (c : Thread nD τ) ↦[M.view.setOn (R b)]{fullShare} f)
      ∗ (M.view.loc (c : Thread nD τ) ↦[M.view.setOn T]{fullShare} f)) := by
  unfold pt
  rw [← union_set c M R T hc, ← blocks_eq c M R hd f]
  exact (pointsTo_union (union_rest c M R T ht)).1

/-- The contents of a buffer held block by block: each block's, and the rest's. -/
def glue (fs : Fin n → Bf (F := F) c M) (ft : Bf (F := F) c M) : Bf (F := F) c M := fun i =>
  open Classical in if h : ∃ b, i ∈ M.view.setOn (R b) then fs h.choose i else ft i

include hd in
theorem glue_block (fs : Fin n → Bf (F := F) c M) (ft : Bf (F := F) c M) (b : Fin n) (i : _) (h : i ∈ M.view.setOn (R b)) : glue c M R fs ft i = fs b i := by
  have h' : ∃ b, i ∈ M.view.setOn (R b) := ⟨b, h⟩
  have e : h'.choose = b := by
    by_contra hne
    exact Finset.disjoint_left.mp (setOn_disjoint M R hd _ _ hne) h'.choose_spec h
  unfold glue
  rw [dif_pos h', e]

include ht in
theorem glue_rest (fs : Fin n → Bf (F := F) c M) (ft : Bf (F := F) c M) (i : _) (h : i ∈ M.view.setOn T) : glue c M R fs ft i = ft i := by
  unfold glue
  rw [dif_neg]
  rintro ⟨b, hb⟩
  exact Finset.disjoint_left.mp (setOn_rest M R T ht b) hb h

include hd ht hc in
/-- Blocks held at contents of their own make up the buffer held whole. -/
theorem blocks_glue (fs : Fin n → Bf (F := F) c M) (ft : Bf (F := F) c M) :
    iprop((bigSep Finset.univ fun b => M.view.loc (c : Thread nD τ) ↦[M.view.setOn (R b)]{fullShare} fs b)
      ∗ (M.view.loc (c : Thread nD τ) ↦[M.view.setOn T]{fullShare} ft)) ⊢ (pt c M (glue c M R fs ft) : sProp 𝕄) := by
  unfold pt
  have e : (M.view.loc (c : Thread nD τ) ↦[M.view.setOn T]{fullShare} ft : sProp 𝕄) = M.view.loc (c : Thread nD τ) ↦[M.view.setOn T]{fullShare} glue c M R fs ft :=
    pointsTo_congr fun i hi => (glue_rest c M R T ht fs ft i hi).symm
  rw [← union_set c M R T hc, e,
    BI.bigSep_congr (Ψ := fun b => (M.view.loc (c : Thread nD τ) ↦[M.view.setOn (R b)]{fullShare} glue c M R fs ft : sProp 𝕄)) fun b _ => pointsTo_congr fun i hi => (glue_block c M R hd fs ft b i hi).symm,
    ← blocks_eq c M R hd]
  exact (pointsTo_union (union_rest c M R T ht)).2

include hd ht hc in
/-- Blocks held at some contents make up the buffer held whole at some contents. -/
theorem blocks_join (f₀ : Bf (F := F) c M) :
    iprop((bigSep Finset.univ fun b => iprop(∃ f : Bf (F := F) c M, M.view.loc (c : Thread nD τ) ↦[M.view.setOn (R b)]{fullShare} f))
      ∗ (∃ f : Bf (F := F) c M, M.view.loc (c : Thread nD τ) ↦[M.view.setOn T]{fullShare} f)) ⊢ (any c M : sProp 𝕄) := by
  have : Nonempty (Bf (F := F) c M) := ⟨f₀⟩
  iintro ⟨H, ⟨%ft, HT⟩⟩
  ihave H := (Idealize.SL.BI.bigSep_exists_pi Finset.univ (fun b (f : Bf (F := F) c M) => (M.view.loc (c : Thread nD τ) ↦[M.view.setOn (R b)]{fullShare} f : sProp 𝕄))) $$ H
  icases H with ⟨%fs, H⟩
  iexists _
  iapply (blocks_glue c M R T hd ht hc fs ft)
  isplitl [H] <;> iassumption

end Glue

/-! ## The buffers in blocks -/

abbrev slabWR (b : Fin 24) : Rect S1600x50257 := Rect.unit (s := S1600x50257) ![0, 2048 * b.val] S1600x2048.size (slab_inb b)
abbrev tailWR : Rect S1600x50257 := Rect.unit (s := S1600x50257) ![0, 49152] S1600x1105.size inb_S1600x50257_S1600x1105_0_49152
abbrev outTR : Rect S12x1x50257 := Rect.unit (s := S12x1x50257) ![0, 0, 49152] S12x1x1105.size inb_S12x1x50257_S12x1x1105_0_0_49152
abbrev slotR (s : Fin 4) : Rect S4x1600x2048 := Rect.unit (s := S4x1600x2048) (slotOff s) S1x1600x2048.size (slot_inb s)

theorem mem_slabWR (b : Fin 24) (i : S1600x50257.Idx) : i ∈ (slabWR b).set ↔ 2048 * b.val ≤ (i 1).val ∧ (i 1).val < 2048 * b.val + 2048 := by
  rw [Rect.mem_set_unit]
  refine ⟨fun h => h 1, fun h a => ?_⟩
  fin_cases a
  · exact ⟨Nat.zero_le _, by have := (i 0).isLt; show (i 0).val < 0 + 1600; change (i 0).val < 1600 at this; omega⟩
  · exact h
theorem mem_tailWR (i : S1600x50257.Idx) : i ∈ tailWR.set ↔ 49152 ≤ (i 1).val := by
  rw [Rect.mem_set_unit]
  refine ⟨fun h => (h 1).1, fun h a => ?_⟩
  fin_cases a
  · exact ⟨Nat.zero_le _, by have := (i 0).isLt; show (i 0).val < 0 + 1600; change (i 0).val < 1600 at this; omega⟩
  · exact ⟨h, by have := (i 1).isLt; show (i 1).val < 49152 + 1105; change (i 1).val < 50257 at this; omega⟩
theorem mem_outR (b : Fin 24) (i : S12x1x50257.Idx) : i ∈ (outR b).set ↔ 2048 * b.val ≤ (i 2).val ∧ (i 2).val < 2048 * b.val + 2048 := by
  rw [Rect.mem_set_unit]
  refine ⟨fun h => h 2, fun h a => ?_⟩
  fin_cases a
  · exact ⟨Nat.zero_le _, by have := (i 0).isLt; show (i 0).val < 0 + 12; change (i 0).val < 12 at this; omega⟩
  · exact ⟨Nat.zero_le _, by have := (i 1).isLt; show (i 1).val < 0 + 1; change (i 1).val < 1 at this; omega⟩
  · exact h
theorem mem_outTR (i : S12x1x50257.Idx) : i ∈ outTR.set ↔ 49152 ≤ (i 2).val := by
  rw [Rect.mem_set_unit]
  refine ⟨fun h => (h 2).1, fun h a => ?_⟩
  fin_cases a
  · exact ⟨Nat.zero_le _, by have := (i 0).isLt; show (i 0).val < 0 + 12; change (i 0).val < 12 at this; omega⟩
  · exact ⟨Nat.zero_le _, by have := (i 1).isLt; show (i 1).val < 0 + 1; change (i 1).val < 1 at this; omega⟩
  · exact ⟨h, by have := (i 2).isLt; show (i 2).val < 49152 + 1105; change (i 2).val < 50257 at this; omega⟩
theorem mem_slotR (s : Fin 4) (i : S4x1600x2048.Idx) : i ∈ (slotR s).set ↔ (i 0).val = s.val := by
  refine Iff.trans (Rect.mem_set_unit (inb := slot_inb s)) ?_
  refine ⟨fun h => ?_, fun h a => ?_⟩
  · have h0 := h 0
    change s.val ≤ (i 0).val ∧ (i 0).val < s.val + 1 at h0
    omega
  fin_cases a
  · show s.val ≤ (i 0).val ∧ (i 0).val < s.val + 1; omega
  · exact ⟨Nat.zero_le _, by have := (i 1).isLt; show (i 1).val < 0 + 1600; change (i 1).val < 1600 at this; omega⟩
  · exact ⟨Nat.zero_le _, by have := (i 2).isLt; show (i 2).val < 0 + 2048; change (i 2).val < 2048 at this; omega⟩

theorem slabWR_disjoint (b b' : Fin 24) (h : b ≠ b') : Disjoint (slabWR b).set (slabWR b').set :=
  Finset.disjoint_left.mpr fun i h1 h2 => h (Fin.ext (by rw [mem_slabWR] at h1 h2; omega))
theorem slabWR_tail (b : Fin 24) : Disjoint (slabWR b).set tailWR.set :=
  Finset.disjoint_left.mpr fun i h1 h2 => by rw [mem_slabWR] at h1; rw [mem_tailWR] at h2; have := b.isLt; omega
theorem slabWR_cover (i : S1600x50257.Idx) : (∃ b, i ∈ (slabWR b).set) ∨ i ∈ tailWR.set := by
  rcases Nat.lt_or_ge (i 1).val 49152 with h | h
  · exact .inl ⟨⟨(i 1).val / 2048, by omega⟩, (mem_slabWR _ i).mpr (by show 2048 * ((i 1).val / 2048) ≤ _ ∧ _ < 2048 * ((i 1).val / 2048) + 2048; omega)⟩
  · exact .inr ((mem_tailWR i).mpr h)
theorem outR_disjoint (b b' : Fin 24) (h : b ≠ b') : Disjoint (outR b).set (outR b').set :=
  Finset.disjoint_left.mpr fun i h1 h2 => h (Fin.ext (by rw [mem_outR] at h1 h2; omega))
theorem outR_tail (b : Fin 24) : Disjoint (outR b).set outTR.set :=
  Finset.disjoint_left.mpr fun i h1 h2 => by rw [mem_outR] at h1; rw [mem_outTR] at h2; have := b.isLt; omega
theorem outR_cover (i : S12x1x50257.Idx) : (∃ b, i ∈ (outR b).set) ∨ i ∈ outTR.set := by
  rcases Nat.lt_or_ge (i 2).val 49152 with h | h
  · exact .inl ⟨⟨(i 2).val / 2048, by omega⟩, (mem_outR _ i).mpr (by show 2048 * ((i 2).val / 2048) ≤ _ ∧ _ < 2048 * ((i 2).val / 2048) + 2048; omega)⟩
  · exact .inr ((mem_outTR i).mpr h)
theorem slotR_disjoint (b b' : Fin 4) (h : b ≠ b') : Disjoint (slotR b).set (slotR b').set :=
  Finset.disjoint_left.mpr fun i h1 h2 => h (Fin.ext (by rw [mem_slotR] at h1 h2; omega))
theorem slotR_cover (i : S4x1600x2048.Idx) : (∃ b, i ∈ (slotR b).set) ∨ i ∈ (∅ : Finset S4x1600x2048.Idx) :=
  .inl ⟨⟨(i 0).val, (i 0).isLt⟩, (mem_slotR _ i).mpr rfl⟩

theorem slabW_set (b : Fin 24) : (slabW b).view.set = mW.view.setOn (slabWR b).set := by unfold slabW; exact View.set_slice _ _
theorem tailW_set : tailW.view.set = mW.view.setOn tailWR.set := by unfold tailW; exact View.set_slice _ _
theorem slabV_set' (b : Fin 24) : (slabV b).view.set = vOut.view.setOn (outR b).set := by unfold slabV; exact View.set_slice _ _
theorem slabO_set (b : Fin 24) : (slabO b).view.set = mOut.view.setOn (outR b).set := by unfold slabO; exact View.set_slice _ _
theorem slotV_set (s : Fin 4) : (slotV s).view.set = vRing.view.setOn (slotR s).set := by
  unfold slotV
  exact (View.set_reshape _ _).trans (View.set_slice _ _)

end Cert.Kernel.Hand
-- ==== Proof.Kernel.Main.lean ====
/-
  The whole body: the loop over the slabs, the tail, and the waits at the end, from what the beginning leaves.
-/
module

public import proofs.«01_k».proof.Proof.Kernel.Blocks

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the loops have in common, from what the beginning leaves. -/
def datOf (c : Dev nD) (fX : Bf (F := F) c mX) (fWs : Bf (F := F) c mWs) (fBm : Bf (F := F) c mBm) (fCand : Bf (F := F) c mCand)
    (fW : Bf (F := F) c mW) (fO : Bf (F := F) c mOut) : Data F c where
  v371 := shrsi proRun.sl.v369 proRun.sl.v150
  v375 := proRun.sl.v375
  fW := fW
  xq := vXq.view.writes (Elt F) vXq.view.junk (proRun c fX fWs fBm fCand).2.1
  xsb := vXsb.view.writes (Elt F) vXsb.view.junk (proRun c fX fWs fBm fCand).2.2.2.2.1
  ws := vWs.view.writes (Elt F) vWs.view.junk (proRun c fX fWs fBm fCand).1
  words := vWords.view.writes (Elt F) vWords.view.junk (proRun c fX fWs fBm fCand).2.2.1
  cid := vCid.view.writes (Elt F) vCid.view.junk (proRun c fX fWs fBm fCand).2.2.2.1
  fO := fO
/-- The running values before the first slab. -/
def stOf (c : Dev nD) (fX : Bf (F := F) c mX) (fWs : Bf (F := F) c mWs) (fBm : Bf (F := F) c mBm) (fCand : Bf (F := F) c mCand) : St F c where
  m := vM.view.writes (Elt F) vM.view.junk (proRun c fX fWs fBm fCand).2.2.2.2.2.1
  s := vS.view.writes (Elt F) vS.view.junk (proRun c fX fWs fBm fCand).2.2.2.2.2.2.1
  clog := vClog.view.writes (Elt F) vClog.view.junk (proRun c fX fWs fBm fCand).2.2.2.2.2.2.2.1

/-- The tail of the logits' buffer. -/
abbrev tailV : Memref sig .tc .vmem S12x1x1105 .f32 := vOut.slice outTR (fun _ => rfl)
/-- A result holding what the kernel's buffer `V` held: the pieces `L` stored over the contents `f`. -/
abbrev res (c : Dev nD) {S : Shape} {e : EltTy} (V : Memref sig .tc .vmem S e) (M : Memref sig .tc .hbm S e) (f : Bf (F := F) c V) (L : List (View.Piece (Elt F) S e)) : sProp 𝕄 :=
  pt c M (M.view.writes (Elt F) M.view.junk [⟨Rect.whole S, ReadAs.same.apply (V.view.read (Elt F) (V.view.writes (Elt F) f L))⟩])

set_option maxHeartbeats 1000000 in
/-- The rest of the body, over any contents that the beginning leaves. -/
def restRun (c : Dev nD) (fW : Bf (F := F) c mW) (xq : Bf (F := F) c vXq) (xsb : Bf (F := F) c vXsb) (ws : Bf (F := F) c vWs) (words : Bf (F := F) c vWords) (cid : Bf (F := F) c vCid)
    (fO : Bf (F := F) c mOut) (σN : St F c) (callow : Bf (F := F) c vCallow) (Lxc : List (View.Piece (Elt F) S12x1600 .fp8e4m3)) (Lxs : List (View.Piece (Elt F) S1x12 .f32)) :
    Σ' (Lout : List (View.Piece (Elt F) S12x1x50257 .f32)) (Llse : List (View.Piece (Elt F) S1x12 .f32)) (Lclp : List (View.Piece (Elt F) S12x1x20 .f32)),
      ∀ (D : Data F c) (hD : D = ⟨shrsi proRun.sl.v369 proRun.sl.v150, proRun.sl.v375, fW, xq, xsb, ws, words, cid, fO⟩) (σ : St F c) (hσ : stAt D σ 24 = σN)
        (fX : Bf (F := F) c mX) (fWs : Bf (F := F) c mWs) (fBm : Bf (F := F) c mBm) (fCand : Bf (F := F) c mCand)
        (fLse : Bf (F := F) c mLse) (fClp : Bf (F := F) c mClp) (fXc : Bf (F := F) c mXc) (fXs : Bf (F := F) c mXs) (fV : Bf (F := F) c vOut) (K : PUnit → sProp 𝕄),
        iprop((bigSep (Ring.rangeSet 28 0 (0 + 4)) (ringAt D) ∗ bigSep (Ring.rangeSet 24 0 0) (wAt D)
              ∗ bigSep (Ring.rangeSet 24 (0 + 4) 24) (wAt D) ∗ tailAt D 0
              ∗ batch D 0 0 ∗ bigSep (Ring.rangeSet 24 0 24) (vAt (F := F) c) ∗ bigSep (Ring.rangeSet 24 0 24) (oAt D)
              ∗ stP σ ∗ fixed D ∗ ∃ W, owes (c : Thread nD τ) 0 W)
            ∗ (vOut.view.loc (c : Thread nD τ) ↦[vOut.view.setOn outTR.set]{fullShare} fV)
            ∗ (mOut.view.loc (c : Thread nD τ) ↦[mOut.view.setOn outTR.set]{fullShare} fO)
            ∗ (pt c mLse fLse ∗ pt c mClp fClp ∗ any c vLse ∗ any c vClp)
            ∗ pt c vCallow callow
            ∗ (zero c 12 ∗ zero c 13 ∗ zero c 14)
            ∗ ((∃ f, toRes c 10 vXc mXc f fXc 1664 Lxc) ∗ (∃ f, toRes c 11 vXs mXs f fXs 16 Lxs))
            ∗ (iprop((bigSep (Ring.rangeSet 28 24 (24 + 4)) (ringAt D) ∗ bigSep (Ring.rangeSet 24 0 24) (wAt D)
                  ∗ (tailW.view.loc (c : Thread nD τ) ↦[tailW.view.set]{fullShare} fW))
                ∗ (any c vM ∗ any c vS ∗ any c vClog ∗ any c vXq ∗ any c vXsb ∗ any c vWs ∗ any c vWords ∗ any c vCid ∗ any c vTail ∗ any c vCallow ∗ any c vXc ∗ any c vXs ∗ any c vLse ∗ any c vClp)
                ∗ (zero c 8 ∗ zero c 9 ∗ zero c 10 ∗ zero c 11 ∗ zero c 12 ∗ zero c 13 ∗ zero c 14)
                ∗ (bigSep Finset.univ (outD D) ∗ (∃ f : Bf (F := F) c vOut, vOut.view.loc (c : Thread nD τ) ↦[vOut.view.setOn outTR.set]{fullShare} f)
                  ∗ (mOut.view.loc (c : Thread nD τ) ↦[mOut.view.setOn outTR.set]{fullShare}
                    mOut.view.writes (Elt F) fO [⟨outTR, ReadAs.same.apply (tailV.view.read (Elt F) (vOut.view.writes (Elt F) fV Lout))⟩]))
                ∗ ((∃ f, res c vXc mXc f Lxc) ∗ (∃ f, res c vXs mXs f Lxs) ∗ (∃ f, res c vLse mLse f Llse) ∗ (∃ f, res c vClp mClp f Lclp))
                ∗ ∃ W, owes (c : Thread nD τ) 0 W) -∗ K ⟨⟩))
        ⊢ (proRun c fX fWs fBm fCand).2.2.2.2.2.2.2.2.2.2.2.1 K := by
  refine ⟨?_, ?_, ?_, fun D hD σ hσ fX fWs fBm fCand fLse fClp fXc fXs fV K => ?run⟩
  case run =>
    conv => rhs; unfold proRun; with_reducible whnf
    iintro ⟨HI, HV, HO, ⟨HLse, HClp, ⟨%lse, Hlse⟩, ⟨%clp, Hclp⟩⟩, Hcallow, ⟨Hc2, Hc3, Hc4⟩, ⟨⟨%gc, Hxc⟩, ⟨%gs, Hxs⟩⟩, Hk⟩
    sl_for (inv D σ) $$ [HI]
    · intro k acc; subst hD; exact inv_step _ σ k acc
    · unfold inv; iexact HI
    iintro %acc HI
    unfold inv
    rw [show Scf.trips k0_t1_loop.lb k0_t1_loop.ub k0_t1_loop.st = 24 from trips1, show tailAt D 24 = tailFlight c D.fW from if_neg (by decide)]
    have hW : D.fW = fW := by rw [hD]
    have hF : fixed D = iprop(pt c vXq xq ∗ pt c vXsb xsb ∗ pt c vWs ws ∗ pt c vWords words ∗ pt c vCid cid) := by rw [hD]
    rw [hW, hF]
    rw [hσ]
    icases HI with ⟨HR, HW0, HW1, ⟨%gt, HT⟩, HB, HVs, HOs, ⟨Hm, Hs, Hclog⟩, ⟨Hxq, Hxsb, Hws, Hwords, Hcid⟩, ⟨%W, HOw⟩⟩
    sl_exec!
    sl_for (drainInv D) $$ [HB HOw]
    · intro k acc; exact drain_step D _ k acc
    · unfold drainInv
      rw [if_pos (by decide), Nat.zero_mul]
      isplitr; · ipureintro; omega
      isplitl [HOw]; · iexists _; iexact HOw
      iexact HB
    iintro %acc2 HI
    unfold drainInv
    rw [show Scf.trips k0_t2_loop.lb k0_t2_loop.ub k0_t2_loop.st = 24 from trips2, if_neg (by decide)]
    icases HI with ⟨-, ⟨%W2, HOw⟩, HB, HB_all⟩
    sl_exec!
    sl_step
    case refine_1 => exact restRun.sl.HV_9 c fW xq xsb ws words
    case refine_2 => exact restRun.sl.Hlse_1 c fW xq xsb ws words σN
    case refine_3 => exact restRun.sl.Hclp_1 c fW xq xsb ws words cid σN callow
    iapply Hk
    isplitl [HR HW0 HT_src]
    · isplitl [HR]; · iexact HR
      isplitl [HW0]; · iexact HW0
      iexact HT_src
    isplitl [Hm Hs Hclog Hxq Hxsb Hws Hwords Hcid HT_dst Hcallow Hxc_src Hxs_src Hlse Hclp]
    · isplitl [Hm]; · iexists _; iexact Hm
      isplitl [Hs]; · iexists _; iexact Hs
      isplitl [Hclog]; · iexists _; iexact Hclog
      isplitl [Hxq]; · iexists _; iexact Hxq
      isplitl [Hxsb]; · iexists _; iexact Hxsb
      isplitl [Hws]; · iexists _; iexact Hws
      isplitl [Hwords]; · iexists _; iexact Hwords
      isplitl [Hcid]; · iexists _; iexact Hcid
      isplitl [HT_dst]; · iexists _; iexact HT_dst
      isplitl [Hcallow]; · iexists _; iexact Hcallow
      isplitl [Hxc_src]; · iexists _; iexact Hxc_src
      isplitl [Hxs_src]; · iexists _; iexact Hxs_src
      isplitl [Hlse]; · iexists _; iexact Hlse
      iexists _; iexact Hclp
    isplitl [HT HB Hxc Hxs Hc2 Hc3 Hc4]
    · isplitl [HT]; · iexact HT
      isplitl [HB]; · iexact HB
      isplitl [Hxc]; · iexact Hxc
      isplitl [Hxs]; · iexact Hxs
      isplitl [Hc2]; · iexact Hc2
      isplitl [Hc3]; · iexact Hc3
      iexact Hc4
    isplitl [HB_all HV HO]
    · isplitl [HB_all]; · iexact HB_all
      isplitl [HV]; · iexists _; iexact HV
      iexact HO
    isplitl [Hxc_dst Hxs_dst HLse HClp]
    · isplitl [Hxc_dst]; · iexists _; iexact Hxc_dst
      isplitl [Hxs_dst]; · iexists _; iexact Hxs_dst
      isplitl [HLse]; · iexists _; iexact HLse
      iexists _; iexact HClp
    iexists _; iexact HOw

end Cert.Kernel.Hand
-- ==== Proof.Kernel.Body.lean ====
/-
  The whole body: its two halves joined, the buffers held in blocks in between.
-/
module

public import proofs.«01_k».proof.Proof.Kernel.Main

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Whole

variable (c : Dev nD) (fX : Bf (F := F) c mX) (fWs : Bf (F := F) c mWs) (fBm : Bf (F := F) c mBm) (fCand : Bf (F := F) c mCand)
  (Lws : List (View.Piece (Elt F) S50257 .f32)) (Lxq : List (View.Piece (Elt F) S32x1600 .fp8e4m3)) (Lwords : List (View.Piece (Elt F) S12x1664 .i32)) (Lcid : List (View.Piece (Elt F) S12x128 .i32))
  (Lxsb Lm Ls Lclog : List (View.Piece (Elt F) S12x128 .f32)) (Lcallow : List (View.Piece (Elt F) S12x128 .i32))
  (Lxc : List (View.Piece (Elt F) S12x1600 .fp8e4m3)) (Lxs : List (View.Piece (Elt F) S1x12 .f32))

/-- What the beginning of the body does, as `proRun` states it. -/
def ProSpec (R : (PUnit.{1} → sProp 𝕄) → sProp 𝕄) : Prop :=
      ∀ (fW : Bf (F := F) c mW) (fXc : Bf (F := F) c mXc) (fXs : Bf (F := F) c mXs) (W : Waits sig Unit) (K : PUnit.{1} → sProp 𝕄),
        iprop(((pt c mX fX ∗ pt c mWs fWs ∗ pt c mBm fBm ∗ pt c mCand fCand ∗ pt c mXc fXc ∗ pt c mXs fXs)
            ∗ (any c vX ∗ any c vWs ∗ any c vBm ∗ any c vCand ∗ any c vXq ∗ any c vXc ∗ any c vWords ∗ any c vCid ∗ any c vXsb ∗ any c vM ∗ any c vS ∗ any c vClog
            ∗ any c vCallow ∗ any c vXs)
            ∗ (zero c 0 ∗ zero c 1 ∗ zero c 2 ∗ zero c 3 ∗ zero c 10 ∗ zero c 11)
            ∗ (own c (slabW 0) fW ∗ own c (slabW 1) fW ∗ own c (slabW 2) fW ∗ own c (slabW 3) fW)
            ∗ (slotFree c 0 ∗ slotFree c 1 ∗ slotFree c 2 ∗ slotFree c 3)
            ∗ owes (c : Thread nD τ) 0 W)
          ∗ (iprop((pt c mX fX ∗ pt c mWs fWs ∗ pt c mBm fBm ∗ pt c mCand fCand)
            ∗ (any c vX ∗ any c vBm ∗ any c vCand)
            ∗ (pt c vWs (vWs.view.writes (Elt F) vWs.view.junk Lws) ∗ pt c vXq (vXq.view.writes (Elt F) vXq.view.junk Lxq) ∗ pt c vWords (vWords.view.writes (Elt F) vWords.view.junk Lwords)
              ∗ pt c vCid (vCid.view.writes (Elt F) vCid.view.junk Lcid) ∗ pt c vXsb (vXsb.view.writes (Elt F) vXsb.view.junk Lxsb)
              ∗ pt c vM (vM.view.writes (Elt F) vM.view.junk Lm) ∗ pt c vS (vS.view.writes (Elt F) vS.view.junk Ls) ∗ pt c vClog (vClog.view.writes (Elt F) vClog.view.junk Lclog)
              ∗ pt c vCallow (vCallow.view.writes (Elt F) vCallow.view.junk Lcallow))
            ∗ (zero c 0 ∗ zero c 1 ∗ zero c 2 ∗ zero c 3)
            ∗ (inFlight c 0 0 fW ∗ inFlight c 1 1 fW ∗ inFlight c 2 2 fW ∗ inFlight c 3 3 fW)
            ∗ ((∃ f, toRes c 10 vXc mXc f fXc 1664 Lxc) ∗ (∃ f, toRes c 11 vXs mXs f fXs 16 Lxs))
            ∗ ∃ W, owes (c : Thread nD τ) 0 W) -∗ R K))
        ⊢ wp frame (wpE (defs₀ (F := F)) Variants.none (c : Thread nD τ) none) Set.univ (bodyAt0 (F := F) t0_0) K

/-- What the rest of the body does, as `restRun` states it. -/
def RestSpec (D : Data F c) (fW : Bf (F := F) c mW) (fO : Bf (F := F) c mOut) (σ : St F c) (callow : Bf (F := F) c vCallow)
    (Lout : List (View.Piece (Elt F) S12x1x50257 .f32)) (Llse : List (View.Piece (Elt F) S1x12 .f32)) (Lclp : List (View.Piece (Elt F) S12x1x20 .f32)) (R : (PUnit.{1} → sProp 𝕄) → sProp 𝕄) : Prop :=
      ∀ (fLse : Bf (F := F) c mLse) (fClp : Bf (F := F) c mClp) (fXc : Bf (F := F) c mXc) (fXs : Bf (F := F) c mXs) (fV : Bf (F := F) c vOut) (K : PUnit.{1} → sProp 𝕄),
        iprop((bigSep (Ring.rangeSet 28 0 (0 + 4)) (ringAt D) ∗ bigSep (Ring.rangeSet 24 0 0) (wAt D)
              ∗ bigSep (Ring.rangeSet 24 (0 + 4) 24) (wAt D) ∗ tailAt D 0
              ∗ batch D 0 0 ∗ bigSep (Ring.rangeSet 24 0 24) (vAt (F := F) c) ∗ bigSep (Ring.rangeSet 24 0 24) (oAt D)
              ∗ stP σ ∗ fixed D ∗ ∃ W, owes (c : Thread nD τ) 0 W)
            ∗ (vOut.view.loc (c : Thread nD τ) ↦[vOut.view.setOn outTR.set]{fullShare} fV)
            ∗ (mOut.view.loc (c : Thread nD τ) ↦[mOut.view.setOn outTR.set]{fullShare} fO)
            ∗ (pt c mLse fLse ∗ pt c mClp fClp ∗ any c vLse ∗ any c vClp)
            ∗ pt c vCallow callow
            ∗ (zero c 12 ∗ zero c 13 ∗ zero c 14)
            ∗ ((∃ f, toRes c 10 vXc mXc f fXc 1664 Lxc) ∗ (∃ f, toRes c 11 vXs mXs f fXs 16 Lxs))
            ∗ (iprop((bigSep (Ring.rangeSet 28 24 (24 + 4)) (ringAt D) ∗ bigSep (Ring.rangeSet 24 0 24) (wAt D)
                  ∗ (tailW.view.loc (c : Thread nD τ) ↦[tailW.view.set]{fullShare} fW))
                ∗ (any c vM ∗ any c vS ∗ any c vClog ∗ any c vXq ∗ any c vXsb ∗ any c vWs ∗ any c vWords ∗ any c vCid ∗ any c vTail ∗ any c vCallow ∗ any c vXc ∗ any c vXs ∗ any c vLse ∗ any c vClp)
                ∗ (zero c 8 ∗ zero c 9 ∗ zero c 10 ∗ zero c 11 ∗ zero c 12 ∗ zero c 13 ∗ zero c 14)
                ∗ (bigSep Finset.univ (outD D) ∗ (∃ f : Bf (F := F) c vOut, vOut.view.loc (c : Thread nD τ) ↦[vOut.view.setOn outTR.set]{fullShare} f)
                  ∗ (mOut.view.loc (c : Thread nD τ) ↦[mOut.view.setOn outTR.set]{fullShare}
                    mOut.view.writes (Elt F) fO [⟨outTR, ReadAs.same.apply (tailV.view.read (Elt F) (vOut.view.writes (Elt F) fV Lout))⟩]))
                ∗ ((∃ f, res c vXc mXc f Lxc) ∗ (∃ f, res c vXs mXs f Lxs) ∗ (∃ f, res c vLse mLse f Llse) ∗ (∃ f, res c vClp mClp f Lclp))
                ∗ ∃ W, owes (c : Thread nD τ) 0 W) -∗ K ⟨⟩))
        ⊢ R K

/-- What a result holds at the end: what the pieces `L` make of the kernel's buffer. -/
def resG (c : Dev nD) {S : Shape} {e : EltTy} (V : Memref sig .tc .vmem S e) (M : Memref sig .tc .hbm S e) (L : List (View.Piece (Elt F) S e)) : Bf (F := F) c M :=
  M.view.writes (Elt F) M.view.junk [⟨Rect.whole S, ReadAs.same.apply (V.view.read (Elt F) (V.view.writes (Elt F) V.view.junk L))⟩]
/-- The masked logits at the end: the slabs' and the tail's. -/
def outG {c : Dev nD} (D : Data F c) (Lout : List (View.Piece (Elt F) S12x1x50257 .f32)) : Bf (F := F) c mOut :=
  glue c mOut (fun b : Fin 24 => (outR b).set)
    (fun b => (slabO b).view.writes (Elt F) D.fO [⟨Rect.whole S12x1x2048, ReadAs.same.apply ((slabV b).view.read (Elt F) (slabC D (trip b)))⟩])
    (mOut.view.writes (Elt F) D.fO [⟨outTR, ReadAs.same.apply (tailV.view.read (Elt F) (vOut.view.writes (Elt F) vOut.view.junk Lout))⟩])

theorem res_eq (c : Dev nD) {S : Shape} {e : EltTy} (V : Memref sig .tc .vmem S e) (M : Memref sig .tc .hbm S e) (L : List (View.Piece (Elt F) S e))
    (h : ∀ y, ∃ p ∈ L, y ∈ p.1.set) (f : Bf (F := F) c V) : (res c V M f L : sProp 𝕄) = pt c M (resG c V M L) := by
  unfold res resG
  rw [View.read_writes_of_cover V.view f V.view V.view.junk L h]

theorem outTR_emb (y : S12x1x1105.Idx) : outTR.emb y ∈ outTR.set := by
  rw [mem_outTR]; exact Nat.le_add_right _ _

theorem tail_read (c : Dev nD) (L : List (View.Piece (Elt F) S12x1x50257 .f32)) (h : ∀ y ∈ outTR.set, ∃ p ∈ L, y ∈ p.1.set) (f : Bf (F := F) c vOut) :
    tailV.view.read (Elt F) (vOut.view.writes (Elt F) f L) = tailV.view.read (Elt F) (vOut.view.writes (Elt F) vOut.view.junk L) := by
  funext y
  exact View.read_writes_apply_eq vOut.view f vOut.view vOut.view.junk (outTR.emb y) L (h _ (outTR_emb y))

variable {c} (D : Data F c)
theorem wAt_eq (b : Fin 24) : wAt D b = (mW.view.loc (c : Thread nD τ) ↦[mW.view.setOn (slabWR b).set]{fullShare} D.fW : sProp 𝕄) := by
  unfold wAt; rw [slabW_set]; rfl
theorem oAt_eq (b : Fin 24) : oAt D b = (mOut.view.loc (c : Thread nD τ) ↦[mOut.view.setOn (outR b).set]{fullShare} D.fO : sProp 𝕄) := by
  unfold oAt; rw [slabO_set]; rfl
theorem tailW_eq (fW : Bf (F := F) c mW) : (own c tailW fW : sProp 𝕄) = (mW.view.loc (c : Thread nD τ) ↦[mW.view.setOn tailWR.set]{fullShare} fW) := by
  unfold own; rw [tailW_set]; rfl
theorem slotV_eq (s : Fin 4) (f : Bf (F := F) c vRing) : ((slotV s).view.loc (c : Thread nD τ) ↦[(slotV s).view.set]{fullShare} f : sProp 𝕄)
    = (vRing.view.loc (c : Thread nD τ) ↦[vRing.view.setOn (slotR s).set]{fullShare} f) := by
  rw [slotV_set]; rfl
theorem outD_eq (b : Fin 24) : outD D b = iprop((mOut.view.loc (c : Thread nD τ) ↦[mOut.view.setOn (outR b).set]{fullShare}
      (slabO b).view.writes (Elt F) D.fO [⟨Rect.whole S12x1x2048, ReadAs.same.apply ((slabV b).view.read (Elt F) (slabC D (trip b)))⟩])
    ∗ (vOut.view.loc (c : Thread nD τ) ↦[vOut.view.setOn (outR b).set]{fullShare} slabC D (trip b))) := by
  unfold outD; rw [slabO_set, slabV_set']; rfl

/-- Four of anything, one by one. -/
theorem bigSep_four (Φ : Fin 4 → sProp 𝕄) : bigSep Finset.univ Φ = iprop(Φ 0 ∗ Φ 1 ∗ Φ 2 ∗ Φ 3 ∗ BI.emp) := by
  rw [← Ring.rangeSet_univ, Ring.bigSep_rangeSet_head (by decide) (by decide), Ring.bigSep_rangeSet_head (by decide) (by decide),
    Ring.bigSep_rangeSet_head (by decide) (by decide), Ring.bigSep_rangeSet_head (by decide) (by decide), Ring.bigSep_rangeSet_empty (by decide)]
  rfl

theorem blocks_unsplit {sp : Space} {S : Shape} {e : EltTy} (M : Memref sig .tc sp S e) {n : ℕ} (Q : Fin n → Finset S.Idx) (T : Finset S.Idx)
    (hd : ∀ b b', b ≠ b' → Disjoint (Q b) (Q b')) (ht : ∀ b, Disjoint (Q b) T) (hc : ∀ i, (∃ b, i ∈ Q b) ∨ i ∈ T) (f : Bf (F := F) c M) :
    iprop((bigSep Finset.univ fun b => M.view.loc (c : Thread nD τ) ↦[M.view.setOn (Q b)]{fullShare} f)
      ∗ (M.view.loc (c : Thread nD τ) ↦[M.view.setOn T]{fullShare} f)) ⊢ (pt c M f : sProp 𝕄) := by
  unfold pt
  rw [← union_set c M Q T hc, ← blocks_eq c M Q hd f]
  exact (pointsTo_union (union_rest c M Q T ht)).2

theorem wAll_eq : bigSep (Ring.rangeSet 24 0 24) (wAt D) = bigSep Finset.univ fun b : Fin 24 => (mW.view.loc (c : Thread nD τ) ↦[mW.view.setOn (slabWR b).set]{fullShare} D.fW : sProp 𝕄) := by
  rw [Ring.rangeSet_univ]; exact BI.bigSep_congr fun b _ => wAt_eq D b
/-- The weights as slabs and a tail. -/
theorem w_split : (pt c mW D.fW : sProp 𝕄) ⊢ iprop(bigSep (Ring.rangeSet 24 0 24) (wAt D) ∗ own c tailW D.fW) := by
  rw [wAll_eq, tailW_eq]; exact blocks_split c mW _ _ slabWR_disjoint slabWR_tail slabWR_cover _
theorem w_join : iprop(bigSep (Ring.rangeSet 24 0 24) (wAt D) ∗ own c tailW D.fW) ⊢ (pt c mW D.fW : sProp 𝕄) := by
  rw [wAll_eq, tailW_eq]; exact blocks_unsplit mW _ _ slabWR_disjoint slabWR_tail slabWR_cover _
/-- The first four slabs, one by one. -/
theorem w_head : bigSep (Ring.rangeSet 24 0 24) (wAt D) = iprop(wAt D 0 ∗ wAt D 1 ∗ wAt D 2 ∗ wAt D 3 ∗ bigSep (Ring.rangeSet 24 (0 + 4) 24) (wAt D)) := by
  rw [Ring.bigSep_rangeSet_head (by decide) (by decide), Ring.bigSep_rangeSet_head (by decide) (by decide),
    Ring.bigSep_rangeSet_head (by decide) (by decide), Ring.bigSep_rangeSet_head (by decide) (by decide)]
  rfl
/-- The result's slabs and tail. -/
theorem o_split : (pt c mOut D.fO : sProp 𝕄) ⊢ iprop(bigSep (Ring.rangeSet 24 0 24) (oAt D) ∗ (mOut.view.loc (c : Thread nD τ) ↦[mOut.view.setOn outTR.set]{fullShare} D.fO)) := by
  rw [Ring.rangeSet_univ, BI.bigSep_congr fun b _ => oAt_eq D b]; exact blocks_split c mOut _ _ outR_disjoint outR_tail outR_cover _
theorem v_split (f : Bf (F := F) c vOut) : (pt c vOut f : sProp 𝕄) ⊢ iprop(bigSep (Ring.rangeSet 24 0 24) (vAt (F := F) c) ∗ (vOut.view.loc (c : Thread nD τ) ↦[vOut.view.setOn outTR.set]{fullShare} f)) := by
  rw [Ring.rangeSet_univ]
  exact (blocks_split c vOut _ _ outR_disjoint outR_tail outR_cover f).trans (sep_mono (BI.bigSep_mono fun b _ => exists_intro (Φ := fun f : Bf (F := F) c vOut => (vOut.view.loc (c : Thread nD τ) ↦[vOut.view.setOn (outR b).set]{fullShare} f : sProp 𝕄)) f) .rfl)
theorem outAll_eq : bigSep Finset.univ (outD D) = iprop((bigSep Finset.univ fun b : Fin 24 => (mOut.view.loc (c : Thread nD τ) ↦[mOut.view.setOn (outR b).set]{fullShare}
      (slabO b).view.writes (Elt F) D.fO [⟨Rect.whole S12x1x2048, ReadAs.same.apply ((slabV b).view.read (Elt F) (slabC D (trip b)))⟩] : sProp 𝕄))
    ∗ (bigSep Finset.univ fun b : Fin 24 => (vOut.view.loc (c : Thread nD τ) ↦[vOut.view.setOn (outR b).set]{fullShare} slabC D (trip b) : sProp 𝕄))) :=
  (BI.bigSep_congr fun b _ => outD_eq D b).trans (BI.bigSep_sep _ _ _)
/-- The slabs and the tail make up the result, and the kernel's buffer of it. -/
theorem out_join (Lout : List (View.Piece (Elt F) S12x1x50257 .f32)) :
    iprop(bigSep Finset.univ (outD D) ∗ (∃ f : Bf (F := F) c vOut, vOut.view.loc (c : Thread nD τ) ↦[vOut.view.setOn outTR.set]{fullShare} f)
      ∗ (mOut.view.loc (c : Thread nD τ) ↦[mOut.view.setOn outTR.set]{fullShare}
        mOut.view.writes (Elt F) D.fO [⟨outTR, ReadAs.same.apply (tailV.view.read (Elt F) (vOut.view.writes (Elt F) vOut.view.junk Lout))⟩]))
      ⊢ iprop(pt c mOut (outG D Lout) ∗ any c vOut) := by
  rw [outAll_eq]
  iintro ⟨⟨HO, HV⟩, ⟨%f, HVt⟩, HOt⟩
  isplitl [HO HOt]
  · iapply (blocks_glue c mOut (fun b : Fin 24 => (outR b).set) outTR.set outR_disjoint outR_tail outR_cover)
    isplitl [HO]; · iexact HO
    iexact HOt
  · iexists _
    iapply (blocks_glue c vOut (fun b : Fin 24 => (outR b).set) outTR.set outR_disjoint outR_tail outR_cover)
    isplitl [HV]; · iexact HV
    iexact HVt

theorem slotCell_eq (s : Fin 4) : slotCell s = SemLoc.dma (⟨4 + s.val, Nat.lt_of_lt_of_le (Nat.add_lt_add_left s.isLt 4) (by decide)⟩ : Fin 15) := by revert s; decide
/-- The ring as its four slots. -/
theorem ring_split : iprop(any (F := F) c vRing ∗ zero c 4 ∗ zero c 5 ∗ zero c 6 ∗ zero c 7)
    ⊢ (iprop((slotFree (F := F) c 0 ∗ slotFree c 1 ∗ slotFree c 2 ∗ slotFree c 3) ∗ (∃ f : Bf (F := F) c vRing, vRing.view.loc (c : Thread nD τ) ↦[vRing.view.setOn ∅]{fullShare} f)) : sProp 𝕄) := by
  unfold slotFree
  rw [slotCell_eq, slotCell_eq, slotCell_eq, slotCell_eq]
  iintro ⟨⟨%f, H⟩, H4, H5, H6, H7⟩
  ihave H := (blocks_split c vRing (fun s : Fin 4 => (slotR s).set) ∅ slotR_disjoint (fun _ => Finset.disjoint_empty_right _) slotR_cover f) $$ H
  rw [bigSep_four]
  icases H with ⟨⟨A, B, C, D, -⟩, T⟩
  isplitr [T]
  · isplitl [A H4]
    · isplitl [A]
      · iexists f; rw [slotV_eq]; iexact A
      · iexact H4
    isplitl [B H5]
    · isplitl [B]
      · iexists f; rw [slotV_eq]; iexact B
      · iexact H5
    isplitl [C H6]
    · isplitl [C]
      · iexists f; rw [slotV_eq]; iexact C
      · iexact H6
    isplitl [D]
    · iexists f; rw [slotV_eq]; iexact D
    · iexact H7
  · iexists f; iexact T
theorem ring_join : (iprop((slotFree (F := F) c 0 ∗ slotFree c 1 ∗ slotFree c 2 ∗ slotFree c 3) ∗ (∃ f : Bf (F := F) c vRing, vRing.view.loc (c : Thread nD τ) ↦[vRing.view.setOn ∅]{fullShare} f)) : sProp 𝕄)
    ⊢ iprop(any (F := F) c vRing ∗ zero c 4 ∗ zero c 5 ∗ zero c 6 ∗ zero c 7) := by
  unfold slotFree
  rw [slotCell_eq, slotCell_eq, slotCell_eq, slotCell_eq]
  iintro ⟨⟨⟨⟨%f0, A⟩, H4⟩, ⟨⟨%f1, B⟩, H5⟩, ⟨⟨%f2, C⟩, H6⟩, ⟨⟨%f3, D⟩, H7⟩⟩, ⟨%f, T⟩⟩
  ihave A := (Entails.of_eq (slotV_eq 0 f0)) $$ A
  ihave B := (Entails.of_eq (slotV_eq 1 f1)) $$ B
  ihave C := (Entails.of_eq (slotV_eq 2 f2)) $$ C
  ihave D := (Entails.of_eq (slotV_eq 3 f3)) $$ D
  isplitr [H4 H5 H6 H7]
  · iexists _
    iapply (blocks_glue c vRing (fun s : Fin 4 => (slotR s).set) ∅ slotR_disjoint (fun _ => Finset.disjoint_empty_right _) slotR_cover ![f0, f1, f2, f3] f)
    rw [bigSep_four]
    isplitr [T]
    · isplitl [A]; · iexact A
      isplitl [B]; · iexact B
      isplitl [C]; · iexact C
      isplitl [D]; · iexact D
      iempintro
    · iexact T
  · isplitl [H4]; · iexact H4
    isplitl [H5]; · iexact H5
    isplitl [H6]; · iexact H6
    iexact H7
theorem ringAt_of (b : Fin 28) (s : Fin 4) (b' : Fin 24) (hs : bSlot b = s) (hb : b.val = b'.val) : ringAt D b = inFlight c s b' D.fW := by
  subst hs
  have e : b' = ⟨b.val, hb ▸ b'.isLt⟩ := Fin.ext hb.symm
  rw [e]
  exact dif_pos _
theorem ringAt_free (b : Fin 28) (s : Fin 4) (hs : bSlot b = s) (hb : 24 ≤ b.val) : ringAt D b = slotFree c s := by
  subst hs
  exact dif_neg (Nat.not_lt.mpr hb)
theorem ring_in : iprop(inFlight c 0 0 D.fW ∗ inFlight c 1 1 D.fW ∗ inFlight c 2 2 D.fW ∗ inFlight c 3 3 D.fW) ⊢ bigSep (Ring.rangeSet 28 0 (0 + 4)) (ringAt D) := by
  rw [Ring.bigSep_rangeSet_head (by decide) (by decide), Ring.bigSep_rangeSet_head (by decide) (by decide),
    Ring.bigSep_rangeSet_head (by decide) (by decide), Ring.bigSep_rangeSet_head (by decide) (by decide), Ring.bigSep_rangeSet_empty (by decide)]
  rw [show ringAt D ⟨0, by decide⟩ = inFlight c 0 0 D.fW from ringAt_of D _ _ _ (by decide) (by decide), show ringAt D ⟨0 + 1, by decide⟩ = inFlight c 1 1 D.fW from ringAt_of D _ _ _ (by decide) (by decide),
    show ringAt D ⟨0 + 1 + 1, by decide⟩ = inFlight c 2 2 D.fW from ringAt_of D _ _ _ (by decide) (by decide), show ringAt D ⟨0 + 1 + 1 + 1, by decide⟩ = inFlight c 3 3 D.fW from ringAt_of D _ _ _ (by decide) (by decide)]
  iintro ⟨A, B, C, D⟩
  isplitl [A]; · iexact A
  isplitl [B]; · iexact B
  isplitl [C]; · iexact C
  isplitl [D]; · iexact D
  iempintro
theorem ring_out : bigSep (Ring.rangeSet 28 24 (24 + 4)) (ringAt D) ⊢ iprop(slotFree (F := F) c 0 ∗ slotFree c 1 ∗ slotFree c 2 ∗ slotFree c 3) := by
  rw [Ring.bigSep_rangeSet_head (by decide) (by decide), Ring.bigSep_rangeSet_head (by decide) (by decide),
    Ring.bigSep_rangeSet_head (by decide) (by decide), Ring.bigSep_rangeSet_head (by decide) (by decide), Ring.bigSep_rangeSet_empty (by decide)]
  rw [show ringAt D ⟨24, by decide⟩ = slotFree c 0 from ringAt_free D _ _ (by decide) (by decide), show ringAt D ⟨24 + 1, by decide⟩ = slotFree c 1 from ringAt_free D _ _ (by decide) (by decide),
    show ringAt D ⟨24 + 1 + 1, by decide⟩ = slotFree c 2 from ringAt_free D _ _ (by decide) (by decide), show ringAt D ⟨24 + 1 + 1 + 1, by decide⟩ = slotFree c 3 from ringAt_free D _ _ (by decide) (by decide)]
  iintro ⟨A, B, C, D, -⟩
  isplitl [A]; · iexact A
  isplitl [B]; · iexact B
  isplitl [C]; · iexact C
  iexact D

/-! ## The whole body -/

variable {Lws Lxq Lwords Lcid Lxsb Lm Ls Lclog Lcallow Lxc Lxs} {fX fWs fBm fCand}

/-- The contents the beginning leaves for the loops. -/
abbrev datR (fW : Bf (F := F) c mW) (fO : Bf (F := F) c mOut) (Lxq : List (View.Piece (Elt F) S32x1600 .fp8e4m3)) (Lxsb : List (View.Piece (Elt F) S12x128 .f32)) (Lws : List (View.Piece (Elt F) S50257 .f32))
    (Lwords : List (View.Piece (Elt F) S12x1664 .i32)) (Lcid : List (View.Piece (Elt F) S12x128 .i32)) : Data F c :=
  ⟨shrsi proRun.sl.v369 proRun.sl.v150, proRun.sl.v375, fW, vXq.view.writes (Elt F) vXq.view.junk Lxq, vXsb.view.writes (Elt F) vXsb.view.junk Lxsb,
    vWs.view.writes (Elt F) vWs.view.junk Lws, vWords.view.writes (Elt F) vWords.view.junk Lwords, vCid.view.writes (Elt F) vCid.view.junk Lcid, fO⟩
abbrev stR (Lm Ls Lclog : List (View.Piece (Elt F) S12x128 .f32)) : St F c :=
  ⟨vM.view.writes (Elt F) vM.view.junk Lm, vS.view.writes (Elt F) vS.view.junk Ls, vClog.view.writes (Elt F) vClog.view.junk Lclog⟩

variable {fW : Bf (F := F) c mW} {fO : Bf (F := F) c mOut} {D} {σ : St F c}

/-- Elements of a buffer may be kept in an invariant. -/
theorem pts_storable (ℓ : Loc nD τ sig) (I : Finset (Idx ℓ)) (f : Buf (Elt F) ℓ) : BI.Storable (upEmb : UEmb _ 𝕄) (ℓ ↦[I]{fullShare} f : sProp 𝕄) := inferInstance
theorem sep_storable (P Q : sProp 𝕄) (hP : BI.Storable (upEmb : UEmb _ 𝕄) P) (hQ : BI.Storable (upEmb : UEmb _ 𝕄) Q) : BI.Storable (upEmb : UEmb _ 𝕄) (iprop(P ∗ Q) : sProp 𝕄) := inferInstance
/-- So may what a slab's transfer delivers. -/
theorem outD_storable (D : Data F c) (t : Fin 24) : BI.Storable (upEmb : UEmb _ 𝕄) (outD D t) :=
  sep_storable _ _ (pts_storable _ _ _) (pts_storable _ _ _)

/-- The transfers of the logits' slabs, none begun. -/
theorem batch_begin (D : Data F c) : (zero c 9 : sProp 𝕄) ⊢ |={Set.univ}[frame]=> batch D 0 0 :=
  @Transfers.batch_alloc' nD τ sig Unit _ (Elt F) ℕ _ (Pipeline.UD sig nD τ) _ ℕ (countersEmb (U := Pipeline.UD sig nD τ)) _ (c : Thread nD τ) 24 _ _ outCell () NN (outD D) (fun t => outD_storable D t) Set.univ

set_option maxHeartbeats 1000000 in
/-- The whole body: it gives back its arguments, its buffers at some contents and its cells at zero, and leaves the
    results at the contents named. -/
theorem whole {R : (PUnit.{1} → sProp 𝕄) → sProp 𝕄} (hP : ProSpec c fX fWs fBm fCand Lws Lxq Lwords Lcid Lxsb Lm Ls Lclog Lcallow Lxc Lxs R)
    (hD : D = datR fW fO Lxq Lxsb Lws Lwords Lcid) (hσ : σ = stR Lm Ls Lclog)
    {Lout : List (View.Piece (Elt F) S12x1x50257 .f32)} {Llse : List (View.Piece (Elt F) S1x12 .f32)} {Lclp : List (View.Piece (Elt F) S12x1x20 .f32)}
    (hR : RestSpec c Lxc Lxs D fW fO σ (vCallow.view.writes (Elt F) vCallow.view.junk Lcallow) Lout Llse Lclp R)
    (hout : ∀ y ∈ outTR.set, ∃ p ∈ Lout, y ∈ p.1.set) (hlse : ∀ y, ∃ p ∈ Llse, y ∈ p.1.set) (hclp : ∀ y, ∃ p ∈ Lclp, y ∈ p.1.set)
    (hxc : ∀ y, ∃ p ∈ Lxc, y ∈ p.1.set) (hxs : ∀ y, ∃ p ∈ Lxs, y ∈ p.1.set)
    (fLse : Bf (F := F) c mLse) (fClp : Bf (F := F) c mClp) (fXc : Bf (F := F) c mXc) (fXs : Bf (F := F) c mXs) (W : Waits sig Unit) (K : PUnit.{1} → sProp 𝕄) :
    iprop((pt c mX fX ∗ pt c mW fW ∗ pt c mWs fWs ∗ pt c mBm fBm ∗ pt c mCand fCand)
        ∗ (pt c mOut fO ∗ pt c mLse fLse ∗ pt c mClp fClp ∗ pt c mXc fXc ∗ pt c mXs fXs)
        ∗ (any c vX ∗ any c vWs ∗ any c vBm ∗ any c vCand ∗ any c vRing ∗ any c vTail ∗ any c vOut ∗ any c vXq ∗ any c vXc ∗ any c vWords ∗ any c vCid ∗ any c vXsb
          ∗ any c vM ∗ any c vS ∗ any c vClog ∗ any c vCallow ∗ any c vLse ∗ any c vClp ∗ any c vXs)
        ∗ (zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14)
        ∗ owes (c : Thread nD τ) 0 W
        ∗ (iprop((pt c mX fX ∗ pt c mW fW ∗ pt c mWs fWs ∗ pt c mBm fBm ∗ pt c mCand fCand)
          ∗ (pt c mOut (outG D Lout) ∗ pt c mLse (resG c vLse mLse Llse) ∗ pt c mClp (resG c vClp mClp Lclp) ∗ pt c mXc (resG c vXc mXc Lxc) ∗ pt c mXs (resG c vXs mXs Lxs))
          ∗ (any c vX ∗ any c vWs ∗ any c vBm ∗ any c vCand ∗ any c vRing ∗ any c vTail ∗ any c vOut ∗ any c vXq ∗ any c vXc ∗ any c vWords ∗ any c vCid ∗ any c vXsb
            ∗ any c vM ∗ any c vS ∗ any c vClog ∗ any c vCallow ∗ any c vLse ∗ any c vClp ∗ any c vXs)
          ∗ (zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14)
          ∗ ∃ W, owes (c : Thread nD τ) 0 W) -∗ K ⟨⟩))
      ⊢ wp frame (wpE (defs₀ (F := F)) Variants.none (c : Thread nD τ) none) Set.univ (bodyAt0 (F := F) t0_0) K := by
  have eW : D.fW = fW := by rw [hD]
  have eO : D.fO = fO := by rw [hD]
  have eF : fixed D = iprop(pt c vXq (vXq.view.writes (Elt F) vXq.view.junk Lxq) ∗ pt c vXsb (vXsb.view.writes (Elt F) vXsb.view.junk Lxsb)
    ∗ pt c vWs (vWs.view.writes (Elt F) vWs.view.junk Lws) ∗ pt c vWords (vWords.view.writes (Elt F) vWords.view.junk Lwords) ∗ pt c vCid (vCid.view.writes (Elt F) vCid.view.junk Lcid)) := by rw [hD]
  have eS : stP σ = iprop(pt c vM (vM.view.writes (Elt F) vM.view.junk Lm) ∗ pt c vS (vS.view.writes (Elt F) vS.view.junk Ls) ∗ pt c vClog (vClog.view.writes (Elt F) vClog.view.junk Lclog)) := by rw [hσ]
  clear hD hσ
  unfold ProSpec at hP
  unfold RestSpec at hR
  subst eW eO
  iintro ⟨⟨HX, HW, HWs, HBm, HCand⟩, ⟨HOut, HLse, HClp, HXc, HXs⟩,
    ⟨Hx, Hws, Hbm, Hcand, Hring, Htail, ⟨%fV, Hv⟩, Hxq, Hxc, Hwords, Hcid, Hxsb, Hm, Hs, Hclog, Hcallow, Hlse, Hclp, Hxs⟩,
    ⟨C0, C1, C2, C3, C4, C5, C6, C7, C8, C9, C10, C11, C12, C13, C14⟩, HO, Hk⟩
  imod (batch_begin D) $$ C9 with HB
  ihave HW := (w_split D) $$ HW
  icases HW with ⟨HW, HT⟩
  ihave HW := (Entails.of_eq (w_head D)) $$ HW
  icases HW with ⟨W0, W1, W2, W3, HW⟩
  ihave HOut := (o_split D) $$ HOut
  icases HOut with ⟨HOut, HOt⟩
  ihave Hv := (v_split fV) $$ Hv
  icases Hv with ⟨Hv, Hvt⟩
  ihave Hring := (ring_split (F := F) (c := c)) $$ [Hring C4 C5 C6 C7]
  · isplitl [Hring]; · iexact Hring
    isplitl [C4]; · iexact C4
    isplitl [C5]; · iexact C5
    isplitl [C6]; · iexact C6
    iexact C7
  icases Hring with ⟨Hring, HRE⟩
  iapply (hP D.fW fXc fXs W K)
  isplitl [HX HWs HBm HCand HXc HXs Hx Hws Hbm Hcand Hxq Hxc Hwords Hcid Hxsb Hm Hs Hclog Hcallow Hxs C0 C1 C2 C3 C10 C11 W0 W1 W2 W3 Hring HO]
  · isplitl [HX HWs HBm HCand HXc HXs]
    · isplitl [HX]; · iexact HX
      isplitl [HWs]; · iexact HWs
      isplitl [HBm]; · iexact HBm
      isplitl [HCand]; · iexact HCand
      isplitl [HXc]; · iexact HXc
      iexact HXs
    isplitl [Hx Hws Hbm Hcand Hxq Hxc Hwords Hcid Hxsb Hm Hs Hclog Hcallow Hxs]
    · isplitl [Hx]; · iexact Hx
      isplitl [Hws]; · iexact Hws
      isplitl [Hbm]; · iexact Hbm
      isplitl [Hcand]; · iexact Hcand
      isplitl [Hxq]; · iexact Hxq
      isplitl [Hxc]; · iexact Hxc
      isplitl [Hwords]; · iexact Hwords
      isplitl [Hcid]; · iexact Hcid
      isplitl [Hxsb]; · iexact Hxsb
      isplitl [Hm]; · iexact Hm
      isplitl [Hs]; · iexact Hs
      isplitl [Hclog]; · iexact Hclog
      isplitl [Hcallow]; · iexact Hcallow
      iexact Hxs
    isplitl [C0 C1 C2 C3 C10 C11]
    · isplitl [C0]; · iexact C0
      isplitl [C1]; · iexact C1
      isplitl [C2]; · iexact C2
      isplitl [C3]; · iexact C3
      isplitl [C10]; · iexact C10
      iexact C11
    isplitl [W0 W1 W2 W3]
    · isplitl [W0]; · iexact W0
      isplitl [W1]; · iexact W1
      isplitl [W2]; · iexact W2
      iexact W3
    isplitl [Hring]; · iexact Hring
    iexact HO
  iintro ⟨⟨HX, HWs, HBm, HCand⟩, ⟨Hx, Hbm, Hcand⟩, ⟨Hws, Hxq, Hwords, Hcid, Hxsb, Hm, Hs, Hclog, Hcallow⟩, ⟨C0, C1, C2, C3⟩, Hring, Hfl, HO⟩
  ihave Hring := (ring_in D) $$ Hring
  iapply (hR fLse fClp fXc fXs fV K)
  rw [eF, eS]
  isplitl [Hring HW HT C8 Htail HB Hv HOut Hm Hs Hclog Hxq Hxsb Hws Hwords Hcid HO]
  · isplitl [Hring]; · iexact Hring
    isplitr
    · rw [Ring.bigSep_rangeSet_empty (by decide)]; iempintro
    isplitl [HW]; · iexact HW
    isplitl [HT C8 Htail]
    · rw [show tailAt D 0 = tailFree c D.fW from if_pos (by decide)]
      isplitl [Htail]; · iexact Htail
      isplitl [HT]; · iexact HT
      iexact C8
    isplitl [HB]; · iexact HB
    isplitl [Hv]; · iexact Hv
    isplitl [HOut]; · iexact HOut
    isplitl [Hm Hs Hclog]
    · isplitl [Hm]; · iexact Hm
      isplitl [Hs]; · iexact Hs
      iexact Hclog
    isplitl [Hxq Hxsb Hws Hwords Hcid]
    · isplitl [Hxq]; · iexact Hxq
      isplitl [Hxsb]; · iexact Hxsb
      isplitl [Hws]; · iexact Hws
      isplitl [Hwords]; · iexact Hwords
      iexact Hcid
    iexact HO
  isplitl [Hvt]; · iexact Hvt
  isplitl [HOt]; · iexact HOt
  isplitl [HLse HClp Hlse Hclp]
  · isplitl [HLse]; · iexact HLse
    isplitl [HClp]; · iexact HClp
    isplitl [Hlse]; · iexact Hlse
    iexact Hclp
  isplitl [Hcallow]; · iexact Hcallow
  isplitl [C12 C13 C14]
  · isplitl [C12]; · iexact C12
    isplitl [C13]; · iexact C13
    iexact C14
  isplitl [Hfl]; · iexact Hfl
  rw [tail_read c Lout hout fV]
  iintro ⟨⟨Hring, HW, HT⟩, ⟨Hm, Hs, Hclog, Hxq, Hxsb, Hws, Hwords, Hcid, Htail, Hcallow, Hxc, Hxs, Hlse, Hclp⟩, ⟨C8, C9, C10, C11, C12, C13, C14⟩, HOut, ⟨⟨%g1, HXc⟩, ⟨%g2, HXs⟩, ⟨%g3, HLse⟩, ⟨%g4, HClp⟩⟩, HO⟩
  ihave HXc := (Entails.of_eq (res_eq c vXc mXc Lxc hxc g1)) $$ HXc
  ihave HXs := (Entails.of_eq (res_eq c vXs mXs Lxs hxs g2)) $$ HXs
  ihave HLse := (Entails.of_eq (res_eq c vLse mLse Llse hlse g3)) $$ HLse
  ihave HClp := (Entails.of_eq (res_eq c vClp mClp Lclp hclp g4)) $$ HClp
  ihave HOut := (out_join D Lout) $$ HOut
  icases HOut with ⟨HOut, Hv⟩
  ihave HW := (w_join D) $$ [HW HT]
  · isplitl [HW]; · iexact HW
    iexact HT
  ihave Hring := (ring_out D) $$ Hring
  ihave Hring := (ring_join (F := F) (c := c)) $$ [Hring HRE]
  · isplitl [Hring]; · iexact Hring
    iexact HRE
  icases Hring with ⟨Hring, C4, C5, C6, C7⟩
  iapply Hk
  isplitl [HX HW HWs HBm HCand]
  · isplitl [HX]; · iexact HX
    isplitl [HW]; · iexact HW
    isplitl [HWs]; · iexact HWs
    isplitl [HBm]; · iexact HBm
    iexact HCand
  isplitl [HOut HLse HClp HXc HXs]
  · isplitl [HOut]; · iexact HOut
    isplitl [HLse]; · iexact HLse
    isplitl [HClp]; · iexact HClp
    isplitl [HXc]; · iexact HXc
    iexact HXs
  isplitl [Hx Hws Hbm Hcand Hring Htail Hv Hxq Hxc Hwords Hcid Hxsb Hm Hs Hclog Hcallow Hlse Hclp Hxs]
  · isplitl [Hx]; · iexact Hx
    isplitl [Hws]; · iexact Hws
    isplitl [Hbm]; · iexact Hbm
    isplitl [Hcand]; · iexact Hcand
    isplitl [Hring]; · iexact Hring
    isplitl [Htail]; · iexact Htail
    isplitl [Hv]; · iexact Hv
    isplitl [Hxq]; · iexact Hxq
    isplitl [Hxc]; · iexact Hxc
    isplitl [Hwords]; · iexact Hwords
    isplitl [Hcid]; · iexact Hcid
    isplitl [Hxsb]; · iexact Hxsb
    isplitl [Hm]; · iexact Hm
    isplitl [Hs]; · iexact Hs
    isplitl [Hclog]; · iexact Hclog
    isplitl [Hcallow]; · iexact Hcallow
    isplitl [Hlse]; · iexact Hlse
    isplitl [Hclp]; · iexact Hclp
    iexact Hxs
  isplitl [C0 C1 C2 C3 C4 C5 C6 C7 C8 C9 C10 C11 C12 C13 C14]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    iexact C14
  iexact HO

end Whole

end Cert.Kernel.Hand
-- ==== Proof.Kernel.Values.lean ====
/-
  What the body leaves in the results, and the body's statement at it.
-/
module

public import proofs.«01_k».proof.Proof.Kernel.Body
public import Idealize.ShloMosaic.Lib.Pipeline.FrameBody
public import Idealize.ShloMosaic.Lib.Pipeline.FrameValue

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the body leaves -/

section Values

variable (c : Dev nD) (fX : Bf (F := F) c mX) (fW : Bf (F := F) c mW) (fWs : Bf (F := F) c mWs) (fBm : Bf (F := F) c mBm) (fCand : Bf (F := F) c mCand) (fO : Bf (F := F) c mOut)

/-- The contents the loops find. -/
def datK : Data F c := datR (c := c) fW fO (proRun c fX fWs fBm fCand).2.1 (proRun c fX fWs fBm fCand).2.2.2.2.1 (proRun c fX fWs fBm fCand).1
  (proRun c fX fWs fBm fCand).2.2.1 (proRun c fX fWs fBm fCand).2.2.2.1
/-- The running maxima, sums and candidate logits the loops begin with. -/
def stK : St F c := stR (c := c) (proRun c fX fWs fBm fCand).2.2.2.2.2.1 (proRun c fX fWs fBm fCand).2.2.2.2.2.2.1 (proRun c fX fWs fBm fCand).2.2.2.2.2.2.2.1
/-- The candidates' allowed bits before the loops. -/
def callowK : Bf (F := F) c vCallow := vCallow.view.writes (Elt F) vCallow.view.junk (proRun c fX fWs fBm fCand).2.2.2.2.2.2.2.2.1
/-- The pieces written into the codes. -/
def xcL : List (View.Piece (Elt F) S12x1600 .fp8e4m3) := (proRun c fX fWs fBm fCand).2.2.2.2.2.2.2.2.2.1
/-- The pieces written into the scales. -/
def xsL : List (View.Piece (Elt F) S1x12 .f32) := (proRun c fX fWs fBm fCand).2.2.2.2.2.2.2.2.2.2.1
/-- The state after the loops. -/
def stN : St F c := stAt (datK c fX fW fWs fBm fCand fO) (stK c fX fWs fBm fCand) 24
/-- The rest of the body, at the contents the loops leave. -/
def restK := restRun c fW (datK c fX fW fWs fBm fCand fO).xq (datK c fX fW fWs fBm fCand fO).xsb (datK c fX fW fWs fBm fCand fO).ws (datK c fX fW fWs fBm fCand fO).words
  (datK c fX fW fWs fBm fCand fO).cid fO (stN c fX fW fWs fBm fCand fO) (callowK c fX fWs fBm fCand) (xcL c fX fWs fBm fCand) (xsL c fX fWs fBm fCand)
/-- The pieces written into the tail of the logits, into the log sums and into the candidates. -/
def outL : List (View.Piece (Elt F) S12x1x50257 .f32) := (restK c fX fW fWs fBm fCand fO).1
def lseL : List (View.Piece (Elt F) S1x12 .f32) := (restK c fX fW fWs fBm fCand fO).2.1
def clpL : List (View.Piece (Elt F) S12x1x20 .f32) := (restK c fX fW fWs fBm fCand fO).2.2.1

/-- The codes' one piece is the whole. -/
theorem xcL_rects : (xcL c fX fWs fBm fCand).map Sigma.fst = [Rect.unit (s := S12x1600) ![0, 0] S12x1600.size inb_S12x1600_S12x1600_0_0] := rfl
theorem xsL_rects : (xsL c fX fWs fBm fCand).map Sigma.fst = [Rect.unit (s := S1x12) ![0, 0] S1x12.size inb_S1x12_S1x12_0_0] := rfl
theorem lseL_rects : (lseL c fX fW fWs fBm fCand fO).map Sigma.fst = [Rect.unit (s := S1x12) ![0, 0] S1x12.size inb_S1x12_S1x12_0_0] := rfl
theorem clpL_rects : (clpL c fX fW fWs fBm fCand fO).map Sigma.fst = [Rect.unit (s := S12x1x20) ![0, 0, 0] S12x1x20.size inb_S12x1x20_S12x1x20_0_0_0] := rfl

/-- The tail's pieces: eight tiles of 128 columns and one of 81. -/
def tailRects : List (Rect S12x1x50257) := [Rect.unit (s := S12x1x50257) ![0, 0, 50176] S12x1x81.size inb_S12x1x50257_S12x1x81_0_0_50176,
  Rect.unit (s := S12x1x50257) ![0, 0, 50048] S12x1x128.size inb_S12x1x50257_S12x1x128_0_0_50048,
  Rect.unit (s := S12x1x50257) ![0, 0, 49920] S12x1x128.size inb_S12x1x50257_S12x1x128_0_0_49920,
  Rect.unit (s := S12x1x50257) ![0, 0, 49792] S12x1x128.size inb_S12x1x50257_S12x1x128_0_0_49792,
  Rect.unit (s := S12x1x50257) ![0, 0, 49664] S12x1x128.size inb_S12x1x50257_S12x1x128_0_0_49664,
  Rect.unit (s := S12x1x50257) ![0, 0, 49536] S12x1x128.size inb_S12x1x50257_S12x1x128_0_0_49536,
  Rect.unit (s := S12x1x50257) ![0, 0, 49408] S12x1x128.size inb_S12x1x50257_S12x1x128_0_0_49408,
  Rect.unit (s := S12x1x50257) ![0, 0, 49280] S12x1x128.size inb_S12x1x50257_S12x1x128_0_0_49280,
  Rect.unit (s := S12x1x50257) ![0, 0, 49152] S12x1x128.size inb_S12x1x50257_S12x1x128_0_0_49152]
theorem outL_rects : (outL c fX fW fWs fBm fCand fO).map Sigma.fst = tailRects := rfl

/-- One piece that is the whole covers. -/
theorem cover_one {S : Shape} {e : EltTy} (L : List (View.Piece (Elt F) S e)) (r : Rect S) (hL : L.map Sigma.fst = [r]) (hr : ∀ y, y ∈ r.set) : ∀ y, ∃ p ∈ L, y ∈ p.1.set := by
  intro y
  obtain ⟨p, hp, e⟩ := List.mem_map.mp (show r ∈ L.map Sigma.fst by rw [hL]; exact List.mem_singleton.mpr rfl)
  exact ⟨p, hp, e ▸ hr y⟩

theorem whole2 {n m : ℕ} {S : Shape} (hS : S = ⟨2, ![n, m]⟩) (h) (y : S.Idx) : y ∈ (Rect.unit (s := S) (hS ▸ ![0, 0]) S.size h).set := by
  subst hS; rw [Rect.mem_set_unit]; intro a; fin_cases a
  · exact ⟨Nat.zero_le _, by have := (y 0).isLt; simpa using this⟩
  · exact ⟨Nat.zero_le _, by have := (y 1).isLt; simpa using this⟩

theorem xcL_cover : ∀ y, ∃ p ∈ xcL c fX fWs fBm fCand, y ∈ p.1.set :=
  cover_one _ _ (xcL_rects c fX fWs fBm fCand) (fun y => whole2 (S := S12x1600) rfl _ y)
theorem xsL_cover : ∀ y, ∃ p ∈ xsL c fX fWs fBm fCand, y ∈ p.1.set :=
  cover_one _ _ (xsL_rects c fX fWs fBm fCand) (fun y => whole2 (S := S1x12) rfl _ y)
theorem lseL_cover : ∀ y, ∃ p ∈ lseL c fX fW fWs fBm fCand fO, y ∈ p.1.set :=
  cover_one _ _ (lseL_rects c fX fW fWs fBm fCand fO) (fun y => whole2 (S := S1x12) rfl _ y)
theorem clpL_cover : ∀ y, ∃ p ∈ clpL c fX fW fWs fBm fCand fO, y ∈ p.1.set :=
  cover_one _ _ (clpL_rects c fX fW fWs fBm fCand fO) fun y => by
    rw [Rect.mem_set_unit]; intro a; fin_cases a
    · exact ⟨Nat.zero_le _, by have := (y 0).isLt; show (y 0).val < 0 + 12; change (y 0).val < 12 at this; omega⟩
    · exact ⟨Nat.zero_le _, by have := (y 1).isLt; show (y 1).val < 0 + 1; change (y 1).val < 1 at this; omega⟩
    · exact ⟨Nat.zero_le _, by have := (y 2).isLt; show (y 2).val < 0 + 20; change (y 2).val < 20 at this; omega⟩

/-- An element whose column lies in a tile's range lies in the tile. -/
theorem mem_cols (o w : ℕ) (z : Fin 3 → ℕ) (z0 : z 0 = 12) (z1 : z 1 = 1) (z2 : z 2 = w) (h : ∀ a, (![0, 0, o] : Fin 3 → Nat) a + z a ≤ S12x1x50257.size a)
    (y : S12x1x50257.Idx) (h1 : o ≤ (y 2).val) (h2 : (y 2).val < o + w) : y ∈ (Rect.unit (s := S12x1x50257) ![0, 0, o] z h).set := by
  rw [Rect.mem_set_unit]; intro a; fin_cases a
  · exact ⟨Nat.zero_le _, by have := (y 0).isLt; show (y 0).val < 0 + z 0; change (y 0).val < 12 at this; omega⟩
  · exact ⟨Nat.zero_le _, by have := (y 1).isLt; show (y 1).val < 0 + z 1; change (y 1).val < 1 at this; omega⟩
  · exact ⟨h1, by show (y 2).val < o + z 2; omega⟩

/-- An element of the tail lies in one of its tiles. -/
theorem tail_cover (y : S12x1x50257.Idx) (hy : 49152 ≤ (y 2).val) : ∃ r ∈ tailRects, y ∈ r.set := by
  have hlt : (y 2).val < 50257 := (y 2).isLt
  unfold tailRects
  by_cases h : 50176 ≤ (y 2).val
  · exact ⟨_, List.mem_cons_self, mem_cols 50176 81 _ rfl rfl rfl inb_S12x1x50257_S12x1x81_0_0_50176 y h (by omega)⟩
  by_cases h : 50048 ≤ (y 2).val
  · exact ⟨_, List.mem_cons_of_mem _ (List.mem_cons_self), mem_cols 50048 128 _ rfl rfl rfl inb_S12x1x50257_S12x1x128_0_0_50048 y h (by omega)⟩
  by_cases h : 49920 ≤ (y 2).val
  · exact ⟨_, List.mem_cons_of_mem _ (List.mem_cons_of_mem _ (List.mem_cons_self)), mem_cols 49920 128 _ rfl rfl rfl inb_S12x1x50257_S12x1x128_0_0_49920 y h (by omega)⟩
  by_cases h : 49792 ≤ (y 2).val
  · exact ⟨_, List.mem_cons_of_mem _ (List.mem_cons_of_mem _ (List.mem_cons_of_mem _ (List.mem_cons_self))), mem_cols 49792 128 _ rfl rfl rfl inb_S12x1x50257_S12x1x128_0_0_49792 y h (by omega)⟩
  by_cases h : 49664 ≤ (y 2).val
  · exact ⟨_, List.mem_cons_of_mem _ (List.mem_cons_of_mem _ (List.mem_cons_of_mem _ (List.mem_cons_of_mem _ (List.mem_cons_self)))), mem_cols 49664 128 _ rfl rfl rfl inb_S12x1x50257_S12x1x128_0_0_49664 y h (by omega)⟩
  by_cases h : 49536 ≤ (y 2).val
  · exact ⟨_, List.mem_cons_of_mem _ (List.mem_cons_of_mem _ (List.mem_cons_of_mem _ (List.mem_cons_of_mem _ (List.mem_cons_of_mem _ (List.mem_cons_self))))), mem_cols 49536 128 _ rfl rfl rfl inb_S12x1x50257_S12x1x128_0_0_49536 y h (by omega)⟩
  by_cases h : 49408 ≤ (y 2).val
  · exact ⟨_, List.mem_cons_of_mem _ (List.mem_cons_of_mem _ (List.mem_cons_of_mem _ (List.mem_cons_of_mem _ (List.mem_cons_of_mem _ (List.mem_cons_of_mem _ (List.mem_cons_self)))))), mem_cols 49408 128 _ rfl rfl rfl inb_S12x1x50257_S12x1x128_0_0_49408 y h (by omega)⟩
  by_cases h : 49280 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_cols 49280 128 _ rfl rfl rfl inb_S12x1x50257_S12x1x128_0_0_49280 y h (by omega)⟩
  exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_cols 49152 128 _ rfl rfl rfl inb_S12x1x50257_S12x1x128_0_0_49152 y hy (by omega)⟩

theorem outL_cover : ∀ y ∈ outTR.set, ∃ p ∈ outL c fX fW fWs fBm fCand fO, y ∈ p.1.set := by
  intro y hy
  obtain ⟨r, hr, hm⟩ := tail_cover y ((mem_outTR y).mp hy)
  obtain ⟨p, hp, e⟩ := List.mem_map.mp (show r ∈ (outL c fX fW fWs fBm fCand fO).map Sigma.fst by rw [outL_rects]; exact hr)
  exact ⟨p, hp, e ▸ hm⟩

/-- The masked logits the body leaves. -/
def outV : Bf (F := F) c mOut := outG (datK c fX fW fWs fBm fCand fO) (outL c fX fW fWs fBm fCand fO)
/-- The log sums it leaves. -/
def lseV : Bf (F := F) c mLse := resG c vLse mLse (lseL c fX fW fWs fBm fCand fO)
/-- The candidates' logits it leaves. -/
def clpV : Bf (F := F) c mClp := resG c vClp mClp (clpL c fX fW fWs fBm fCand fO)
/-- The codes it leaves. -/
def xcV : Bf (F := F) c mXc := resG c vXc mXc (xcL c fX fWs fBm fCand)
/-- The scales it leaves. -/
def xsV : Bf (F := F) c mXs := resG c vXs mXs (xsL c fX fWs fBm fCand)

end Values
end Cert.Kernel.Hand
-- ==== Proof.Kernel.Run.lean ====
/-
  The call: its launch, what it leaves in the results, and the run of the program.
-/
module

public import proofs.«01_k».proof.Proof.Kernel.Values
public import Idealize.ShloMosaic.Lib.Pipeline.FrameBody
public import Idealize.ShloMosaic.Lib.Pipeline.FrameValue

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Values

variable (c : Dev nD) (fX : Bf (F := F) c mX) (fW : Bf (F := F) c mW) (fWs : Bf (F := F) c mWs) (fBm : Bf (F := F) c mBm) (fCand : Bf (F := F) c mCand) (fO : Bf (F := F) c mOut)

attribute [local irreducible] proRun restRun

/-- The beginning of the body, at the pieces it stores. -/
theorem proSpec : ProSpec c fX fWs fBm fCand (proRun c fX fWs fBm fCand).1 (proRun c fX fWs fBm fCand).2.1 (proRun c fX fWs fBm fCand).2.2.1 (proRun c fX fWs fBm fCand).2.2.2.1
    (proRun c fX fWs fBm fCand).2.2.2.2.1 (proRun c fX fWs fBm fCand).2.2.2.2.2.1 (proRun c fX fWs fBm fCand).2.2.2.2.2.2.1 (proRun c fX fWs fBm fCand).2.2.2.2.2.2.2.1
    (proRun c fX fWs fBm fCand).2.2.2.2.2.2.2.2.1 (xcL c fX fWs fBm fCand) (xsL c fX fWs fBm fCand) (proRun c fX fWs fBm fCand).2.2.2.2.2.2.2.2.2.2.2.1 := by
  unfold ProSpec xcL xsL
  exact (proRun c fX fWs fBm fCand).2.2.2.2.2.2.2.2.2.2.2.2

/-- The rest of the body, at the pieces it stores. -/
theorem restSpec : RestSpec c (xcL c fX fWs fBm fCand) (xsL c fX fWs fBm fCand) (datK c fX fW fWs fBm fCand fO) fW fO (stK c fX fWs fBm fCand) (callowK c fX fWs fBm fCand)
    (outL c fX fW fWs fBm fCand fO) (lseL c fX fW fWs fBm fCand fO) (clpL c fX fW fWs fBm fCand fO) (proRun c fX fWs fBm fCand).2.2.2.2.2.2.2.2.2.2.2.1 := by
  unfold RestSpec outL lseL clpL
  intro fLse fClp fXc fXs fV K
  exact (restK c fX fW fWs fBm fCand fO).2.2.2 (datK c fX fW fWs fBm fCand fO) rfl (stK c fX fWs fBm fCand) rfl fX fWs fBm fCand fLse fClp fXc fXs fV K

/-- The body at the contents it leaves. -/
theorem body_run (fLse : Bf (F := F) c mLse) (fClp : Bf (F := F) c mClp) (fXc : Bf (F := F) c mXc) (fXs : Bf (F := F) c mXs) (W : Waits sig Unit) (K : PUnit.{1} → sProp 𝕄) :
    iprop((pt c mX fX ∗ pt c mW fW ∗ pt c mWs fWs ∗ pt c mBm fBm ∗ pt c mCand fCand)
        ∗ (pt c mOut fO ∗ pt c mLse fLse ∗ pt c mClp fClp ∗ pt c mXc fXc ∗ pt c mXs fXs)
        ∗ (any c vX ∗ any c vWs ∗ any c vBm ∗ any c vCand ∗ any c vRing ∗ any c vTail ∗ any c vOut ∗ any c vXq ∗ any c vXc ∗ any c vWords ∗ any c vCid ∗ any c vXsb ∗ any c vM ∗ any c vS ∗ any c vClog ∗ any c vCallow ∗ any c vLse ∗ any c vClp ∗ any c vXs)
        ∗ (zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14)
        ∗ owes (c : Thread nD τ) 0 W
        ∗ (iprop((pt c mX fX ∗ pt c mW fW ∗ pt c mWs fWs ∗ pt c mBm fBm ∗ pt c mCand fCand)
          ∗ (pt c mOut (outV c fX fW fWs fBm fCand fO) ∗ pt c mLse (lseV c fX fW fWs fBm fCand fO) ∗ pt c mClp (clpV c fX fW fWs fBm fCand fO) ∗ pt c mXc (xcV c fX fWs fBm fCand) ∗ pt c mXs (xsV c fX fWs fBm fCand))
          ∗ (any c vX ∗ any c vWs ∗ any c vBm ∗ any c vCand ∗ any c vRing ∗ any c vTail ∗ any c vOut ∗ any c vXq ∗ any c vXc ∗ any c vWords ∗ any c vCid ∗ any c vXsb ∗ any c vM ∗ any c vS ∗ any c vClog ∗ any c vCallow ∗ any c vLse ∗ any c vClp ∗ any c vXs)
          ∗ (zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14)
          ∗ ∃ W, owes (c : Thread nD τ) 0 W) -∗ K ⟨⟩))
      ⊢ wp frame (wpE (defs₀ (F := F)) Variants.none (c : Thread nD τ) none) Set.univ (bodyAt0 (F := F) t0_0) K := by
  have hR := restSpec c fX fW fWs fBm fCand fO
  unfold callowK at hR
  exact whole (proSpec c fX fWs fBm fCand) (D := datK c fX fW fWs fBm fCand fO) (σ := stK c fX fWs fBm fCand) rfl rfl hR
    (outL_cover c fX fW fWs fBm fCand fO) (lseL_cover c fX fW fWs fBm fCand fO) (clpL_cover c fX fW fWs fBm fCand fO) (xcL_cover c fX fWs fBm fCand) (xsL_cover c fX fWs fBm fCand)
    fLse fClp fXc fXs W K

end Values
end Cert.Kernel.Hand
-- ==== Proof.Kernel.Launch.lean ====
/-
  The call: its launch, what it leaves in the results, and the run of the program.
-/
module

public import proofs.«01_k».proof.Proof.Kernel.Run
public import proofs.«01_k».proof.Proof.Gen.Kernel.Frame
public import Idealize.ShloMosaic.Lib.Pipeline.FrameBody
public import Idealize.ShloMosaic.Lib.Pipeline.FrameValue

@[expose] public section

set_option maxRecDepth 16384

noncomputable section

namespace Cert.Kernel.Hand

open Cert.Kernel Cert.Kernel.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program up to the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's cells. -/
abbrev osem0 : Fin 15 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14] : Fin 15 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14) := by
  rw [Pipeline.ownSems0_eq_of_list c osem0 [0, 1, 2, 3, 4, 5, 6, 7, 8, 9, 10, 11, 12, 13, 14] (by decide) (by decide)]; rfl

/-- The buffers the body reads. -/
def H0 : Finset (Ref sig .tc) := {main_v0, main_arg1, main_arg2, main_arg3, main_arg4}
theorem H0_sub : H0 ⊆ Pipeline.restRefs sig cfg0.spec := by decide
/-- The results. -/
def R0 : Finset (Ref sig .tc) := {main_v1_0, main_v1_1, main_v1_2, main_v1_3, main_v1_4}
theorem R0_sub : R0 ⊆ Pipeline.restRefs sig cfg0.spec \ H0 := by decide

theorem hbmPts0_eq (c : Dev nD) :
    (bigSep H0 (fun b => ((c : Thread nD τ).loc b) ↦{fullShare} V m c b) : sProp 𝕄)
      = iprop(pt c mX (V m c main_v0) ∗ pt c mW (V m c main_arg1) ∗ pt c mWs (V m c main_arg2) ∗ pt c mBm (V m c main_arg3) ∗ pt c mCand (V m c main_arg4)) := by
  rw [BI.bigSep_eq_bigSepL_of_eq [main_v0, main_arg1, main_arg2, main_arg3, main_arg4] (by decide) (by decide)]
  unfold pt; simp only [View.set_whole]; rfl

theorem routed_eq (G : (c : Dev nD) → (b : Ref sig .tc) → Buf (Elt F) ((c : Thread nD τ).loc b)) (c : Dev nD) :
    (Pipeline.routed R0 c (G c) : sProp 𝕄) = iprop(pt c mOut (G c main_v1_0) ∗ pt c mLse (G c main_v1_1) ∗ pt c mClp (G c main_v1_2) ∗ pt c mXc (G c main_v1_3) ∗ pt c mXs (G c main_v1_4)) := by
  unfold Pipeline.routed
  rw [BI.bigSep_eq_bigSepL_of_eq [main_v1_0, main_v1_1, main_v1_2, main_v1_3, main_v1_4] (by decide) (by decide)]
  unfold pt; simp only [View.set_whole]; rfl

theorem scoped_eq (c : Dev nD) : (Pipeline.scopedRest (Ix := Unit) (Name := ℕ) (U := Pipeline.UD sig nD τ) (Lvl := ℕ) (Val := Elt F) cfg0.spec c : sProp 𝕄) = iprop(any c vX ∗ any c vWs ∗ any c vBm ∗ any c vCand ∗ any c vRing ∗ any c vTail ∗ any c vOut ∗ any c vXq ∗ any c vXc ∗ any c vWords ∗ any c vCid ∗ any c vXsb ∗ any c vM ∗ any c vS ∗ any c vClog ∗ any c vCallow ∗ any c vLse ∗ any c vClp ∗ any c vXs) := by
  rw [scopedRest0_eq]
  unfold any pt; simp only [View.set_whole]

/-- What the call holds beside its windows, conjunct by conjunct. -/
theorem Phi_eq (G : (c : Dev nD) → (b : Ref sig .tc) → Buf (Elt F) ((c : Thread nD τ).loc b)) (c : Dev nD) :
    (Pipeline.ΦDRG osem0 cfg0.spec H0 R0 (V m) G c : sProp 𝕄)
      = iprop((any c vX ∗ any c vWs ∗ any c vBm ∗ any c vCand ∗ any c vRing ∗ any c vTail ∗ any c vOut ∗ any c vXq ∗ any c vXc ∗ any c vWords ∗ any c vCid ∗ any c vXsb ∗ any c vM ∗ any c vS ∗ any c vClog ∗ any c vCallow ∗ any c vLse ∗ any c vClp ∗ any c vXs)
          ∗ (∃ r, prngReg c r) ∗ (zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14) ∗ (pt c mX (V m c main_v0) ∗ pt c mW (V m c main_arg1) ∗ pt c mWs (V m c main_arg2) ∗ pt c mBm (V m c main_arg3) ∗ pt c mCand (V m c main_arg4)) ∗ (pt c mOut (G c main_v1_0) ∗ pt c mLse (G c main_v1_1) ∗ pt c mClp (G c main_v1_2) ∗ pt c mXc (G c main_v1_3) ∗ pt c mXs (G c main_v1_4))) := by
  rw [Pipeline.ΦDRG_eq, scoped_eq, ownSems00_eq, hbmPts0_eq, routed_eq]

/-- What the buffers hold at the end: the results at what the body leaves, the others as found. -/
def outs (c : Dev nD) : (b : Ref sig .tc) → Buf (Elt F) ((c : Thread nD τ).loc b) :=
  Function.update (Function.update (Function.update (Function.update (Function.update (V m c) main_v1_0 (outV c (V m c main_v0) (V m c main_arg1) (V m c main_arg2) (V m c main_arg3) (V m c main_arg4) (V m c main_v1_0)))
    main_v1_1 (lseV c (V m c main_v0) (V m c main_arg1) (V m c main_arg2) (V m c main_arg3) (V m c main_arg4) (V m c main_v1_0))) main_v1_2 (clpV c (V m c main_v0) (V m c main_arg1) (V m c main_arg2) (V m c main_arg3) (V m c main_arg4) (V m c main_v1_0)))
    main_v1_3 (xcV c (V m c main_v0) (V m c main_arg2) (V m c main_arg3) (V m c main_arg4))) main_v1_4 (xsV c (V m c main_v0) (V m c main_arg2) (V m c main_arg3) (V m c main_arg4))

theorem outs_0 (c : Dev nD) : outs m c main_v1_0 = outV c (V m c main_v0) (V m c main_arg1) (V m c main_arg2) (V m c main_arg3) (V m c main_arg4) (V m c main_v1_0) := by
  unfold outs; rw [Function.update_of_ne (by decide), Function.update_of_ne (by decide), Function.update_of_ne (by decide), Function.update_of_ne (by decide), Function.update_self]
theorem outs_1 (c : Dev nD) : outs m c main_v1_1 = lseV c (V m c main_v0) (V m c main_arg1) (V m c main_arg2) (V m c main_arg3) (V m c main_arg4) (V m c main_v1_0) := by
  unfold outs; rw [Function.update_of_ne (by decide), Function.update_of_ne (by decide), Function.update_of_ne (by decide), Function.update_self]
theorem outs_2 (c : Dev nD) : outs m c main_v1_2 = clpV c (V m c main_v0) (V m c main_arg1) (V m c main_arg2) (V m c main_arg3) (V m c main_arg4) (V m c main_v1_0) := by
  unfold outs; rw [Function.update_of_ne (by decide), Function.update_of_ne (by decide), Function.update_self]
theorem outs_3 (c : Dev nD) : outs m c main_v1_3 = xcV c (V m c main_v0) (V m c main_arg2) (V m c main_arg3) (V m c main_arg4) := by
  unfold outs; rw [Function.update_of_ne (by decide), Function.update_self]
theorem outs_4 (c : Dev nD) : outs m c main_v1_4 = xsV c (V m c main_v0) (V m c main_arg2) (V m c main_arg3) (V m c main_arg4) := by
  unfold outs; rw [Function.update_self]

/-- The call's data: no window; its results at the launch's contents before the point, at the body's after it. -/
def dats (_ : Fin 1) (c : Dev nD) : Dat τ (Elt F) Unit ℕ (Pipeline.UD sig nD τ) ℕ cfg0 c where
  A w := V m c (Pipeline.arrRef cfg0.spec w)
  after w _ := Fin.elim0 (show Fin 0 from w)
  Φ t := Pipeline.ΦDRG osem0 cfg0.spec H0 R0 (V m) (if t.val = 0 then V m else outs m) c
  q _ := fullShare
  owed _ := 0

theorem A_eq (c : Dev nD) (w : Fin cfg0.W) : (dats m 0 c).A w = V m c (Pipeline.arrRef cfg0.spec w) := by
  dsimp only [dats]

theorem Phi_before (c : Dev nD) : (dats m 0 c).Φ (t0_0.castSucc) = Pipeline.ΦDRG osem0 cfg0.spec H0 R0 (V m) (V m) c := rfl
theorem Phi_after (c : Dev nD) : (dats m 0 c).Φ (t0_0.succ) = Pipeline.ΦDRG osem0 cfg0.spec H0 R0 (V m) (outs m) c := rfl

set_option maxHeartbeats 1000000 in
theorem sound_body (c : Dev nD) :
    iprop((dats m 0 c).Φ (t0_0.castSucc) ∗ (dats m 0 c).owesAt () (t0_0.castSucc))
      ⊢ wp frame (wpE (defs₀ (F := F)) Variants.none (c : Thread nD τ) none) Set.univ (bodyAt0 (F := F) t0_0)
          (fun _ => iprop((dats m 0 c).Φ (t0_0.succ) ∗ (dats m 0 c).owesAt () (t0_0.succ))) := by
  rw [Phi_before, Phi_after, Phi_eq, Phi_eq, outs_0, outs_1, outs_2, outs_3, outs_4]
  unfold Dat.owesAt Pipeline.owesWithin
  rw [show (dats m 0 c).owed t0_0.castSucc = 0 from rfl, show (dats m 0 c).owed t0_0.succ = 0 from rfl]
  iintro ⟨⟨HS, Hg, HZ, HA, HR⟩, ⟨%W, -, HW⟩⟩
  icases HR with ⟨H1, H2, H3, H4, H5⟩
  iapply (body_run c (V m c main_v0) (V m c main_arg1) (V m c main_arg2) (V m c main_arg3) (V m c main_arg4) (V m c main_v1_0) (V m c main_v1_1) (V m c main_v1_2) (V m c main_v1_3) (V m c main_v1_4) W _)
  isplitl [HA]; · iexact HA
  isplitl [H1 H2 H3 H4 H5]
  · isplitl [H1]; · iexact H1
    isplitl [H2]; · iexact H2
    isplitl [H3]; · iexact H3
    isplitl [H4]; · iexact H4
    iexact H5
  isplitl [HS]; · iexact HS
  isplitl [HZ]; · iexact HZ
  isplitl [HW]; · iexact HW
  iintro ⟨HA, HR, HS, HZ, ⟨%W', HW⟩⟩
  isplitl [HA HR HS HZ Hg]
  · isplitl [HS]; · iexact HS
    isplitl [Hg]; · iexact Hg
    isplitl [HZ]; · iexact HZ
    isplitl [HA]; · iexact HA
    iexact HR
  iexists W'; isplitr; · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem bigSep_none (Φ : Fin 0 → sProp 𝕄) : bigSep Finset.univ Φ = (BI.emp : sProp 𝕄) := by
  rw [show (Finset.univ : Finset (Fin 0)) = ∅ from rfl, BI.bigSep_empty]
theorem bigSep_W0 (Φ : Fin cfg0.W → sProp 𝕄) : bigSep Finset.univ Φ = (BI.emp : sProp 𝕄) := bigSep_none Φ

theorem body_obligation (c : Dev nD) : BodyObligation (dats (F := F) m 0 c) (defs₀ (F := F)) Variants.none () Set.univ := fun t => by
  rw [show t = t0_0 from fin_N0 t, defs₀_row]
  refine triple_restated (sound_body m c) rfl ?_ fun _ => ?_
  · iintro ⟨A, B, C⟩
    isplitl [A]; · iexact A
    iexact B
  · iintro ⟨A, B⟩
    isplitl [A]; · iexact A
    isplitl [B]; · iexact B
    rw [bigSep_W0]; iempintro

/-! ## The run -/

set_option backward.isDefEq.respectTransparency.types false in
/-- The program runs to its end, every cell zero, the results at what the body leaves. -/
theorem run_main : θ_run defs (onTc (τ := τ) (main (F := F))) (s₀ m ρ) (fun r => Pipeline.FramePostRG cfgs (dats m) 0 R0 (V m) (outs m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := outs m)
    (hin := fun _ => .rfl) (hout := fun _ => .rfl)

/-- Every run of the program ends with the arguments as they were, each result at what the body leaves and every counter at zero. -/
theorem run_values : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) ∧ ∀ (c : Dev nD), ∀ b ∈ R0, r.2.mem ((c.tc : Thread nD τ).loc b) = outs m c b) :=
  (θ_run defs _ _).mono (fun _ h => ⟨⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c)⟩, h.2⟩,
    fun c b hb => h.1.2 c b hb⟩) (run_main m ρ)

/-- Every run of the program ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => h.1) (run_values m ρ)

end Cert.Kernel.Hand
-- ==== Proof.KernelIdeal.Setup.lean ====
/-
  The names of the kernel's run: its buffers, the slots and semaphores of the ring of weight slabs, the slabs of the
  weights and of the logits, and the equations that turn the program's spelling of each into its name.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The buffers -/

abbrev mX : Memref sig .tc .hbm S12x1600 .bf16 := Memref.whole main_v0
abbrev mW : Memref sig .tc .hbm S1600x50257 .fp8e4m3 := Memref.whole main_arg1
abbrev mWs : Memref sig .tc .hbm S50257 .f32 := Memref.whole main_arg2
abbrev mBm : Memref sig .tc .hbm S12x1571 .i32 := Memref.whole main_arg3
abbrev mCand : Memref sig .tc .hbm S12x1x20 .i32 := Memref.whole main_arg4
abbrev mOut : Memref sig .tc .hbm S12x1x50257 .f32 := Memref.whole main_v1_0
abbrev mLse : Memref sig .tc .hbm S1x12 .f32 := Memref.whole main_v1_1
abbrev mClp : Memref sig .tc .hbm S12x1x20 .f32 := Memref.whole main_v1_2
abbrev mXc : Memref sig .tc .hbm S12x1600 .fp8e4m3 := Memref.whole main_v1_3
abbrev mXs : Memref sig .tc .hbm S1x12 .f32 := Memref.whole main_v1_4
abbrev vX : Memref sig .tc .vmem S12x1600 .bf16 := Memref.whole cc0_scratch0
abbrev vWs : Memref sig .tc .vmem S50257 .f32 := Memref.whole cc0_scratch1
abbrev vBm : Memref sig .tc .vmem S12x1571 .i32 := Memref.whole cc0_scratch2
abbrev vCand : Memref sig .tc .vmem S12x1x20 .i32 := Memref.whole cc0_scratch3
abbrev vRing : Memref sig .tc .vmem S4x1600x2048 .fp8e4m3 := Memref.whole cc0_scratch4
abbrev vTail : Memref sig .tc .vmem S1600x1105 .fp8e4m3 := Memref.whole cc0_scratch5
abbrev vOut : Memref sig .tc .vmem S12x1x50257 .f32 := Memref.whole cc0_scratch6
abbrev vXq : Memref sig .tc .vmem S32x1600 .fp8e4m3 := Memref.whole cc0_scratch7
abbrev vXc : Memref sig .tc .vmem S12x1600 .fp8e4m3 := Memref.whole cc0_scratch8
abbrev vWords : Memref sig .tc .vmem S12x1664 .i32 := Memref.whole cc0_scratch9
abbrev vCid : Memref sig .tc .vmem S12x128 .i32 := Memref.whole cc0_scratch10
abbrev vXsb : Memref sig .tc .vmem S12x128 .f32 := Memref.whole cc0_scratch11
abbrev vM : Memref sig .tc .vmem S12x128 .f32 := Memref.whole cc0_scratch12
abbrev vS : Memref sig .tc .vmem S12x128 .f32 := Memref.whole cc0_scratch13
abbrev vClog : Memref sig .tc .vmem S12x128 .f32 := Memref.whole cc0_scratch14
abbrev vCallow : Memref sig .tc .vmem S12x128 .i32 := Memref.whole cc0_scratch15
abbrev vLse : Memref sig .tc .vmem S1x12 .f32 := Memref.whole cc0_scratch16
abbrev vClp : Memref sig .tc .vmem S12x1x20 .f32 := Memref.whole cc0_scratch17
abbrev vXs : Memref sig .tc .vmem S1x12 .f32 := Memref.whole cc0_scratch18

/-- The contents of a memref's buffer on a core. -/
abbrev Bf (c : Dev nD) {sp : Space} {S : Shape} {e : EltTy} (M : Memref sig .tc sp S e) : Type := Buf (Elt F) (M.view.loc (c : Thread nD τ))
/-- A buffer held whole at the contents `f`. -/
abbrev pt (c : Dev nD) {sp : Space} {S : Shape} {e : EltTy} (M : Memref sig .tc sp S e) (f : Bf (F := F) c M) : sProp 𝕄 :=
  M.view.loc (c : Thread nD τ) ↦[M.view.set]{fullShare} f

theorem trips1 : k0_t1_loop.trips = 24 := by decide

theorem slot_inb (s : Fin 4) : ∀ a, (![s.val, 0, 0] : Fin 3 → Nat) a + S1x1600x2048.size a ≤ S4x1600x2048.size a := by
  have := s.isLt; intro a; fin_cases a
  · show s.val + 1 ≤ 4; omega
  · show 0 + 1600 ≤ 1600; omega
  · show 0 + 2048 ≤ 2048; omega
/-- Where slot `s` of the ring begins. -/
def slotOff (s : Fin 4) : Fin 3 → Nat := ![s.val, 0, 0]
instance (s : Fin 4) : ClosedOff (slotOff s) := ⟨![s.val, 0, 0], rfl⟩
/-- Slot `s` of the ring of weight slabs. -/
def slotV (s : Fin 4) : Memref sig .tc .vmem S1600x2048 .fp8e4m3 :=
  (vRing.slice (Rect.unit (s := S4x1600x2048) (slotOff s) S1x1600x2048.size (slot_inb s)) (fun _ => rfl)).squeeze S1600x2048 squeezes_S1x1600x2048_S1600x2048
theorem sem_inb (s : Fin 4) : ∀ a, (![s.val] : Fin 1 → Nat) a + S1.size a ≤ S4.size a := by
  have := s.isLt; intro a; fin_cases a; show s.val + 1 ≤ 4; omega
/-- Its semaphore. -/
def slotSem (s : Fin 4) : DmaSems sig S_ := (cc0_scratch20.slice (Rect.unit (s := S4) ![s.val] S1.size (sem_inb s))).squeeze S_ squeezes_S1_S_
abbrev slotCell (s : Fin 4) : SemLoc sig := SemLoc.dma (slotSem s).sem

theorem slab_inb (b : Fin 24) : ∀ a, (![0, 2048 * b.val] : Fin 2 → Nat) a + S1600x2048.size a ≤ S1600x50257.size a := by
  have := b.isLt; intro a; fin_cases a
  · show 0 + 1600 ≤ 1600; omega
  · show 2048 * b.val + 2048 ≤ 50257; omega
/-- Slab `b` of the weights. -/
def slabW (b : Fin 24) : Memref sig .tc .hbm S1600x2048 .fp8e4m3 :=
  mW.slice (Rect.unit (s := S1600x50257) ![0, 2048 * b.val] S1600x2048.size (slab_inb b)) (fun _ => rfl)
/-- What a transfer of slab `b` carries. -/
abbrev slabPay (c : Dev nD) (b : Fin 24) (fW : Bf (F := F) c mW) : S1600x2048.Idx → Elt F .fp8e4m3 :=
  ReadAs.same.apply ((slabW b).view.read (Elt F) fW)

theorem outR_inb (b : Fin 24) : ∀ a, (![0, 0, 2048 * b.val] : Fin 3 → Nat) a + S12x1x2048.size a ≤ S12x1x50257.size a := by
  have := b.isLt; intro a; fin_cases a
  · show 0 + 12 ≤ 12; omega
  · show 0 + 1 ≤ 1; omega
  · show 2048 * b.val + 2048 ≤ 50257; omega
/-- The columns of slab `b` in the logits. -/
abbrev outR (b : Fin 24) : Rect S12x1x50257 := Rect.unit (s := S12x1x50257) ![0, 0, 2048 * b.val] S12x1x2048.size (outR_inb b)

/-- Slab `b` of the logits, in the kernel's buffer and in the result. -/
def slabV (b : Fin 24) : Memref sig .tc .vmem S12x1x2048 .f32 := vOut.slice (outR b) (fun _ => rfl)
def slabO (b : Fin 24) : Memref sig .tc .hbm S12x1x2048 .f32 := mOut.slice (outR b) (fun _ => rfl)

/-- The tail of the weights: the columns after the last slab. -/
def tailW : Memref sig .tc .hbm S1600x1105 .fp8e4m3 :=
  mW.slice (Rect.unit (s := S1600x50257) ![0, 49152] S1600x1105.size inb_S1600x50257_S1600x1105_0_49152) (fun _ => rfl)
abbrev tailCell : SemLoc sig := SemLoc.dma (SemArray.sem cc0_scratch21)
abbrev outCell : SemLoc sig := SemLoc.dma (SemArray.sem cc0_scratch22)

/-- A memref's elements held at the contents `f`. -/
abbrev own (c : Dev nD) {sp : Space} {S : Shape} {e : EltTy} (M : Memref sig .tc sp S e) (f : Bf (F := F) c M) : sProp 𝕄 :=
  M.view.loc (c : Thread nD τ) ↦[M.view.set]{fullShare} f

/-- The tail in flight into its buffer. -/
abbrev tailFlight (c : Dev nD) (fW : Bf (F := F) c mW) : sProp 𝕄 :=
  iprop(∃ f, Transfers.Flight (countersEmb (U := Pipeline.UD sig nD τ)) (c : Thread nD τ) tailCell () vTail.view.dmaCredit
    iprop((vTail.view.loc (c : Thread nD τ) ↦[vTail.view.set]{fullShare}
            vTail.view.writes (Elt F) f [⟨Rect.whole S1600x1105, ReadAs.same.apply (tailW.view.read (Elt F) fW)⟩])
      ∗ (tailW.view.loc (c : Thread nD τ) ↦[tailW.view.set]{fullShare} fW)))
/-- The tail not yet asked for. -/
abbrev tailFree (c : Dev nD) (fW : Bf (F := F) c mW) : sProp 𝕄 :=
  iprop((∃ f, vTail.view.loc (c : Thread nD τ) ↦[vTail.view.set]{fullShare} f)
    ∗ (tailW.view.loc (c : Thread nD τ) ↦[tailW.view.set]{fullShare} fW) ∗ semVal ((c : Thread nD τ), tailCell) 0)

/-- A slab in flight: slab `b` of the weights into slot `s`, over what the slot held. -/
abbrev inFlight (c : Dev nD) (s : Fin 4) (b : Fin 24) (fW : Bf (F := F) c mW) : sProp 𝕄 :=
  iprop(∃ f, Transfers.Flight (countersEmb (U := Pipeline.UD sig nD τ)) (c : Thread nD τ) (slotCell s) () (slotV s).view.dmaCredit
    iprop(((slotV s).view.loc (c : Thread nD τ) ↦[(slotV s).view.set]{fullShare}
            (slotV s).view.writes (Elt F) f [⟨Rect.whole S1600x2048, slabPay c b fW⟩])
      ∗ ((slabW b).view.loc (c : Thread nD τ) ↦[(slabW b).view.set]{fullShare} fW)))

/-- The loop's trip on the kernel's buffers. -/
abbrev slabBody (v371 v375 : IVec S12x128 32) : Fin k0_t1_loop.trips → Unit → Prog (TpuEff nD τ sig (Elt F) Λ₀ .tc) Unit :=
  k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23 v371 v375 0#32 1#32

abbrev tripSlot (k : Fin k0_t1_loop.trips) : Fin 4 := ⟨k.val % 4, Nat.mod_lt _ (by decide)⟩
abbrev tripSlab (k : Fin k0_t1_loop.trips) : Fin 24 := ⟨k.val, lt_of_lt_of_eq k.isLt trips1⟩

/-- The columns of the trip's slab. -/
abbrev tripR (k : Fin k0_t1_loop.trips) : Rect S12x1x50257 := Rect.unit (s := S12x1x50257) ![0, 0, 2048 * k.val] S12x1x2048.size (outR_inb (tripSlab k))

/-! ## The program's spellings -/

private theorem sem_congr {off : Fin 1 → Nat} {s : Fin 4} (e : off = ![s.val]) (hh) :
    (cc0_scratch20.slice (Rect.unit (s := S4) off S1.size hh)).squeeze S_ squeezes_S1_S_ = slotSem s :=
  congrArg (fun A : DmaSems sig S1 => A.squeeze S_ squeezes_S1_S_) (SemArray.slice_unit_congr _ e _ _)
private theorem slot_congr {off : Fin 3 → Nat} {s : Fin 4} (e : off = slotOff s) (hh hs) :
    (vRing.slice (Rect.unit (s := S4x1600x2048) off S1x1600x2048.size hh) hs).squeeze S1600x2048 squeezes_S1x1600x2048_S1600x2048 = slotV s :=
  congrArg (fun M : Memref sig .tc .vmem S1x1600x2048 .fp8e4m3 => M.squeeze S1600x2048 squeezes_S1x1600x2048_S1600x2048) (Memref.slice_unit_congr _ e _ _ _ _)
private theorem slab_congr {off : Fin 2 → Nat} {b : Fin 24} (e : off = ![0, 2048 * b.val]) (hh hs) :
    mW.slice (Rect.unit (s := S1600x50257) off S1600x2048.size hh) hs = slabW b := Memref.slice_unit_congr _ e _ _ _ (fun _ => rfl)

@[sl_canon] theorem semL0 (hh) : (cc0_scratch20.slice (Rect.unit (s := S4) ![0] S1.size hh)).squeeze S_ squeezes_S1_S_ = slotSem 0 := sem_congr (by decide) _
@[sl_canon] theorem slotL0 (hh hs) : (vRing.slice (Rect.unit (s := S4x1600x2048) ![0, 0, 0] S1x1600x2048.size hh) hs).squeeze S1600x2048 squeezes_S1x1600x2048_S1600x2048 = slotV 0 := slot_congr (by decide) _ _
@[sl_canon] theorem slabL0 (hh hs) : mW.slice (Rect.unit (s := S1600x50257) ![0, 0] S1600x2048.size hh) hs = slabW 0 := slab_congr (by decide) _ _
@[sl_canon] theorem semL1 (hh) : (cc0_scratch20.slice (Rect.unit (s := S4) ![1] S1.size hh)).squeeze S_ squeezes_S1_S_ = slotSem 1 := sem_congr (by decide) _
@[sl_canon] theorem slotL1 (hh hs) : (vRing.slice (Rect.unit (s := S4x1600x2048) ![1, 0, 0] S1x1600x2048.size hh) hs).squeeze S1600x2048 squeezes_S1x1600x2048_S1600x2048 = slotV 1 := slot_congr (by decide) _ _
@[sl_canon] theorem slabL1 (hh hs) : mW.slice (Rect.unit (s := S1600x50257) ![0, 2048] S1600x2048.size hh) hs = slabW 1 := slab_congr (by decide) _ _
@[sl_canon] theorem semL2 (hh) : (cc0_scratch20.slice (Rect.unit (s := S4) ![2] S1.size hh)).squeeze S_ squeezes_S1_S_ = slotSem 2 := sem_congr (by decide) _
@[sl_canon] theorem slotL2 (hh hs) : (vRing.slice (Rect.unit (s := S4x1600x2048) ![2, 0, 0] S1x1600x2048.size hh) hs).squeeze S1600x2048 squeezes_S1x1600x2048_S1600x2048 = slotV 2 := slot_congr (by decide) _ _
@[sl_canon] theorem slabL2 (hh hs) : mW.slice (Rect.unit (s := S1600x50257) ![0, 4096] S1600x2048.size hh) hs = slabW 2 := slab_congr (by decide) _ _
@[sl_canon] theorem semL3 (hh) : (cc0_scratch20.slice (Rect.unit (s := S4) ![3] S1.size hh)).squeeze S_ squeezes_S1_S_ = slotSem 3 := sem_congr (by decide) _
@[sl_canon] theorem slotL3 (hh hs) : (vRing.slice (Rect.unit (s := S4x1600x2048) ![3, 0, 0] S1x1600x2048.size hh) hs).squeeze S1600x2048 squeezes_S1x1600x2048_S1600x2048 = slotV 3 := slot_congr (by decide) _ _
@[sl_canon] theorem slabL3 (hh hs) : mW.slice (Rect.unit (s := S1600x50257) ![0, 6144] S1600x2048.size hh) hs = slabW 3 := slab_congr (by decide) _ _

@[sl_canon] theorem semK (k : Fin k0_t1_loop.trips) (hh) :
    (cc0_scratch20.slice (Rect.unit (s := S4) (k0_off1 k) S1.size hh)).squeeze S_ squeezes_S1_S_ = slotSem (tripSlot k) := sem_congr (k0_off1_eq k) _
@[sl_canon] theorem semI (k : Fin k0_t1_loop.trips) (hh) :
    (cc0_scratch20.slice (Rect.unit (s := S4) (k0_off15 k) S1.size hh)).squeeze S_ squeezes_S1_S_ = slotSem (tripSlot k) := sem_congr (k0_off15_eq k) _
@[sl_canon] theorem slotK (k : Fin k0_t1_loop.trips) (hh hs) :
    (vRing.slice (Rect.unit (s := S4x1600x2048) (k0_off2 k) S1x1600x2048.size hh) hs).squeeze S1600x2048 squeezes_S1x1600x2048_S1600x2048 = slotV (tripSlot k) := slot_congr (k0_off2_eq k) _ _
@[sl_canon] theorem slotI (k : Fin k0_t1_loop.trips) (hh hs) :
    (vRing.slice (Rect.unit (s := S4x1600x2048) (k0_off16 k) S1x1600x2048.size hh) hs).squeeze S1600x2048 squeezes_S1x1600x2048_S1600x2048 = slotV (tripSlot k) := slot_congr (k0_off16_eq k) _ _
@[sl_canon] theorem slabK (k : Fin k0_t1_loop.trips) (hh hs) :
    mW.slice (Rect.unit (s := S1600x50257) (k0_off3 k) S1600x2048.size hh) hs = slabW (tripSlab k) := slab_congr (k0_off3_eq k) _ _
@[sl_canon] theorem slabI (k : Fin k0_t1_loop.trips) (hk : k.val + 4 < 24) (hh hs) :
    mW.slice (Rect.unit (s := S1600x50257) (k0_off17 k) S1600x2048.size hh) hs = slabW ⟨k.val + 4, hk⟩ :=
  slab_congr ((k0_off17_eq k).trans (congrArg (fun n => ![0, n]) (by show 2048 * k.val + 8192 = 2048 * (k.val + 4); omega))) _ _
@[sl_canon] theorem slabVK (k : Fin k0_t1_loop.trips) (hh hs) :
    vOut.slice (Rect.unit (s := S12x1x50257) (k0_off18 k) S12x1x2048.size hh) hs = slabV (tripSlab k) := Memref.slice_unit_congr _ (k0_off18_eq k) _ _ _ (fun _ => rfl)
@[sl_canon] theorem slabOK (k : Fin k0_t1_loop.trips) (hh hs) :
    mOut.slice (Rect.unit (s := S12x1x50257) (k0_off18 k) S12x1x2048.size hh) hs = slabO (tripSlab k) := Memref.slice_unit_congr _ (k0_off18_eq k) _ _ _ (fun _ => rfl)
@[sl_canon] theorem tailWL (hh hs) :
    mW.slice (Rect.unit (s := S1600x50257) ![0, 49152] S1600x1105.size hh) hs = tailW := rfl

/-! The trip's loads of its slot, over the slot's name. -/
instance (k : Fin k0_t1_loop.trips) : ClosedOff (k0_off5 k) := ⟨![(tripSlot k).val, 0, 0], k0_off5_eq k⟩
instance (k : Fin k0_t1_loop.trips) : ClosedOff (k0_off8 k) := ⟨![(tripSlot k).val, 0, 256], k0_off8_eq k⟩
instance (k : Fin k0_t1_loop.trips) : ClosedOff (k0_off9 k) := ⟨![(tripSlot k).val, 0, 512], k0_off9_eq k⟩
instance (k : Fin k0_t1_loop.trips) : ClosedOff (k0_off10 k) := ⟨![(tripSlot k).val, 0, 768], k0_off10_eq k⟩
instance (k : Fin k0_t1_loop.trips) : ClosedOff (k0_off11 k) := ⟨![(tripSlot k).val, 0, 1024], k0_off11_eq k⟩
instance (k : Fin k0_t1_loop.trips) : ClosedOff (k0_off12 k) := ⟨![(tripSlot k).val, 0, 1280], k0_off12_eq k⟩
instance (k : Fin k0_t1_loop.trips) : ClosedOff (k0_off13 k) := ⟨![(tripSlot k).val, 0, 1536], k0_off13_eq k⟩
instance (k : Fin k0_t1_loop.trips) : ClosedOff (k0_off14 k) := ⟨![(tripSlot k).val, 0, 1792], k0_off14_eq k⟩

end Cert.KernelIdeal.Hand

end
-- ==== Proof.KernelIdeal.Trip.lean ====
/-
  One trip of the kernel's loop over the slabs of the weights, up to the transfers it starts: what it loads, what it
  stores, found by running it once at a symbolic trip.
-/
module

public import proofs.«01_k».proof.Proof.KernelIdeal.Setup

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- One trip up to the transfers it starts, at any contents: the pieces it stores into its slab of the logits, what is
    left of the trip, and the pieces it stores into the running maxima, the running sums and the candidates' logits. -/
def tripRun (c : Dev nD) (v371 v375 : IVec S12x128 32) (k : Fin k0_t1_loop.trips) (fW : Bf (F := F) c mW)
    (xq : Bf (F := F) c vXq) (xsb : Bf (F := F) c vXsb) (ws : Bf (F := F) c vWs) (words : Bf (F := F) c vWords) (cid : Bf (F := F) c vCid) :
    Σ' (L : List (View.Piece (Elt F) S12x1x50257 .f32)) (R : (Unit → sProp 𝕄) → sProp 𝕄), ∀ (m s clog : Bf (F := F) c vM),
      { P : List (View.Piece (Elt F) S12x128 .f32) × List (View.Piece (Elt F) S12x128 .f32) × List (View.Piece (Elt F) S12x128 .f32) //
        ∀ (f16 : Bf (F := F) c vOut) (W : Waits sig Unit) (K : Unit → sProp 𝕄),
        iprop((inFlight c (tripSlot k) (tripSlab k) fW ∗ pt c vXq xq ∗ pt c vXsb xsb ∗ pt c vWs ws ∗ pt c vWords words ∗ pt c vCid cid
            ∗ pt c vM m ∗ pt c vS s ∗ pt c vClog clog
            ∗ (vOut.view.loc (c : Thread nD τ) ↦[vOut.view.setOn (tripR k).set]{fullShare} f16)
            ∗ owes (c : Thread nD τ) 0 W)
          ∗ (iprop((∃ f, (slotV (tripSlot k)).view.loc (c : Thread nD τ) ↦[(slotV (tripSlot k)).view.set]{fullShare} f)
              ∗ ((slabW (tripSlab k)).view.loc (c : Thread nD τ) ↦[(slabW (tripSlab k)).view.set]{fullShare} fW)
              ∗ semVal ((c : Thread nD τ), slotCell (tripSlot k)) 0
              ∗ pt c vXq xq ∗ pt c vXsb xsb ∗ pt c vWs ws ∗ pt c vWords words ∗ pt c vCid cid
              ∗ pt c vM (vM.view.writes (Elt F) vM.view.junk P.1) ∗ pt c vS (vS.view.writes (Elt F) vS.view.junk P.2.1)
              ∗ pt c vClog (vClog.view.writes (Elt F) vClog.view.junk P.2.2)
              ∗ (vOut.view.loc (c : Thread nD τ) ↦[vOut.view.setOn (tripR k).set]{fullShare} vOut.view.writes (Elt F) f16 L)
              ∗ ∃ W, owes (c : Thread nD τ) 0 W) -∗ R K))
        ⊢ wp frame (wpE (defs₀ (F := F)) Variants.none (c : Thread nD τ) none) Set.univ (slabBody (F := F) v371 v375 k ()) K } := by
  refine ⟨?_, ?_, fun m s clog => ⟨⟨?_, ?_, ?_⟩, fun f16 W K => ?run⟩⟩
  case run =>
    iintro ⟨⟨⟨%f, HF⟩, Hxq, Hxsb, Hws, Hwords, Hcid, Hm, Hs, Hclog, Hout, HO⟩, Hk⟩
    unfold slabBody k0_t1_body
    sl_exec!
    iapply Hk
    isplitl [HF_dst]; · iexists _; iexact HF_dst
    isplitl [HF_src]; · iexact HF_src
    isplitl [HF]; · iexact HF
    isplitl [Hxq]; · iexact Hxq
    isplitl [Hxsb]; · iexact Hxsb
    isplitl [Hws]; · iexact Hws
    isplitl [Hwords]; · iexact Hwords
    isplitl [Hcid]; · iexact Hcid
    isplitl [Hm]; · iexact Hm
    isplitl [Hs]; · iexact Hs
    isplitl [Hclog]; · iexact Hclog
    isplitl [Hout]; · iexact Hout
    iexists _; iexact HO

end Cert.KernelIdeal.Hand

end
-- ==== Proof.KernelIdeal.Step.lean ====
/-
  One whole trip of the loop over the slabs, with the transfers it starts: the next slab of the weights but three (or
  the tail), and its slab of the logits to the result.
-/
module

public import proofs.«01_k».proof.Proof.KernelIdeal.Trip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What a trip leaves -/

/-- What the trips have in common on a core: the lane words, and the contents of the buffers they only read and of the
    result before the kernel. -/
structure Data (F : FTy → Type) (c : Dev nD) where
  v371 : IVec S12x128 32
  v375 : IVec S12x128 32
  fW : Bf (F := F) c mW
  xq : Bf (F := F) c vXq
  xsb : Bf (F := F) c vXsb
  ws : Bf (F := F) c vWs
  words : Bf (F := F) c vWords
  cid : Bf (F := F) c vCid
  fO : Bf (F := F) c mOut

/-- The running maxima, the running sums and the candidates' logits. -/
structure St (F : FTy → Type) (c : Dev nD) where
  m : Bf (F := F) c vM
  s : Bf (F := F) c vS
  clog : Bf (F := F) c vClog

abbrev trip (b : Fin 24) : Fin k0_t1_loop.trips := ⟨b.val, lt_of_lt_of_eq b.isLt trips1.symm⟩

variable {c : Dev nD} (D : Data F c)

abbrev runAt (k : Fin k0_t1_loop.trips) := tripRun (F := F) c D.v371 D.v375 k D.fW D.xq D.xsb D.ws D.words D.cid

/-- The pieces trip `k` stores into the logits. -/
def slabL (k : Fin k0_t1_loop.trips) : List (View.Piece (Elt F) S12x1x50257 .f32) := (runAt D k).1

/-- The logits' buffer with trip `k`'s pieces stored. -/
def slabC (k : Fin k0_t1_loop.trips) : Bf (F := F) c vOut := vOut.view.writes (Elt F) vOut.view.junk (slabL D k)

/-- The running values after trip `k`. -/
def stNext (k : Fin k0_t1_loop.trips) (σ : St F c) : St F c :=
  let P := ((runAt D k).2.2 σ.m σ.s σ.clog).1
  ⟨vM.view.writes (Elt F) vM.view.junk P.1, vS.view.writes (Elt F) vS.view.junk P.2.1, vClog.view.writes (Elt F) vClog.view.junk P.2.2⟩

/-- The running values before trip `n`, from `σ`. -/
def stAt (σ : St F c) : ℕ → St F c
  | 0 => σ
  | n + 1 => if h : n < k0_t1_loop.trips then stNext D ⟨n, h⟩ (stAt σ n) else stAt σ n

theorem stAt_succ (σ : St F c) (k : Fin k0_t1_loop.trips) : stAt D σ (k.val + 1) = stNext D k (stAt D σ k.val) := by
  simp only [stAt, dif_pos k.isLt]

/-- Tile `r` of trip `k`'s slab: 128 columns. -/
abbrev tileR (k : Fin k0_t1_loop.trips) (r : Fin 16) : Rect S12x1x50257 :=
  Rect.unit (s := S12x1x50257) (k0_off7 k (BitVec.ofNat 32 (128 * r.val))) S12x1x128.size (k0_off7_inb k r)

/-- A trip stores its sixteen tiles, one piece each. -/
theorem slabL_rects (k : Fin k0_t1_loop.trips) : (slabL D k).map Sigma.fst = (List.finRange 16).reverse.map (tileR k) := rfl

/-- An element of a trip's slab lies in one of its tiles. -/
theorem mem_tile (k : Fin k0_t1_loop.trips) (y : S12x1x50257.Idx) (hy : y ∈ (tripR k).set) : ∃ r : Fin 16, y ∈ (tileR k r).set := by
  rw [Rect.mem_set_unit] at hy
  have h2 := hy 2
  change 2048 * k.val ≤ (y 2).val ∧ (y 2).val < 2048 * k.val + 2048 at h2
  refine ⟨⟨((y 2).val - 2048 * k.val) / 128, by omega⟩, ?_⟩
  rw [Rect.mem_set_unit, k0_off7_eq]
  intro a
  fin_cases a
  · exact ⟨Nat.zero_le _, by have := (y 0).isLt; show (y 0).val < 0 + 12; change (y 0).val < 12 at this; omega⟩
  · exact ⟨Nat.zero_le _, by have := (y 1).isLt; show (y 1).val < 0 + 1; change (y 1).val < 1 at this; omega⟩
  · show 2048 * k.val + 128 * (((y 2).val - 2048 * k.val) / 128) ≤ (y 2).val ∧ (y 2).val < 2048 * k.val + 128 * (((y 2).val - 2048 * k.val) / 128) + 128
    omega

/-- The pieces of a trip cover its slab. -/
theorem slabL_cover (k : Fin k0_t1_loop.trips) (y : S12x1x50257.Idx) (hy : y ∈ (tripR k).set) : ∃ p ∈ slabL D k, y ∈ p.1.set := by
  obtain ⟨r, hr⟩ := mem_tile k y hy
  have hm : tileR k r ∈ (slabL D k).map Sigma.fst := by
    rw [slabL_rects]; exact List.mem_map.mpr ⟨r, List.mem_reverse.mpr (List.mem_finRange r), rfl⟩
  obtain ⟨p, hp, e⟩ := List.mem_map.mp hm
  exact ⟨p, hp, e ▸ hr⟩

/-- Elements of the logits' buffer that stored pieces cover hold the same whatever the buffer held before. -/
theorem writes_junk_of_cover (S : Finset S12x1x50257.Idx) (f : Bf (F := F) c vOut) (L : List (View.Piece (Elt F) S12x1x50257 .f32))
    (hc : ∀ y ∈ S, ∃ p ∈ L, y ∈ p.1.set) :
    (vOut.view.loc (c : Thread nD τ) ↦[vOut.view.setOn S]{fullShare} vOut.view.writes (Elt F) f L : sProp 𝕄)
      = vOut.view.loc (c : Thread nD τ) ↦[vOut.view.setOn S]{fullShare} vOut.view.writes (Elt F) vOut.view.junk L :=
  pointsTo_congr fun i hi => by
    obtain ⟨y, hy, rfl⟩ := Finset.mem_map.mp hi
    have h := View.read_writes_apply_eq vOut.view f vOut.view vOut.view.junk y L (hc y hy)
    rw [View.read_apply, View.read_apply] at h
    simpa only [cast_cast, cast_eq] using congrArg (_root_.cast (congrArg (Elt F) vOut.view.elt_eq).symm) h

theorem slabV_set (k : Fin k0_t1_loop.trips) : (slabV (tripSlab k)).view.set = vOut.view.setOn (tripR k).set := by
  unfold slabV; exact View.set_slice _ _

/-- A trip's slab after its stores, by its own elements. -/
theorem slab_own (k : Fin k0_t1_loop.trips) (f16 : Bf (F := F) c vOut) :
    (vOut.view.loc (c : Thread nD τ) ↦[vOut.view.setOn (tripR k).set]{fullShare} vOut.view.writes (Elt F) f16 (runAt D k).1 : sProp 𝕄)
      ⊢ own c (slabV (tripSlab k)) (slabC D k) := by
  change (vOut.view.loc (c : Thread nD τ) ↦[vOut.view.setOn (tripR k).set]{fullShare} vOut.view.writes (Elt F) f16 (slabL D k) : sProp 𝕄) ⊢ _
  rw [writes_junk_of_cover _ f16 _ (slabL_cover D k)]
  unfold own
  rw [slabV_set]
  exact Entails.rfl

abbrev NN : ℕ := (slabO 0).view.dmaCredit

/-- What the transfer of slab `b` of the logits leaves: the result's slab written with the buffer's, which comes back. -/
abbrev outD (b : Fin 24) : sProp 𝕄 :=
  iprop(((slabO b).view.loc (c : Thread nD τ) ↦[(slabO b).view.set]{fullShare}
      (slabO b).view.writes (Elt F) D.fO [⟨Rect.whole S12x1x2048, ReadAs.same.apply ((slabV b).view.read (Elt F) (slabC D (trip b)))⟩])
    ∗ ((slabV b).view.loc (c : Thread nD τ) ↦[(slabV b).view.set]{fullShare} slabC D (trip b)))

/-- The transfers of the logits' slabs: `j` begun, `u` units waited for. -/
abbrev batch (j u : ℕ) : sProp 𝕄 :=
  Transfers.Batch (countersEmb (U := Pipeline.UD sig nD τ)) (c : Thread nD τ) outCell () NN (outD D) j u

/-- What a trip finds beside its slab: the slab four further on, or the tail. -/
abbrev ahead (k : Fin k0_t1_loop.trips) : sProp 𝕄 :=
  if h : k.val + 4 < 24 then iprop((slabW ⟨k.val + 4, h⟩).view.loc (c : Thread nD τ) ↦[(slabW ⟨k.val + 4, h⟩).view.set]{fullShare} D.fW)
  else if k.val + 4 = 24 then tailFree c D.fW else (BI.emp : sProp 𝕄)
/-- What it leaves of it. -/
abbrev asked (k : Fin k0_t1_loop.trips) : sProp 𝕄 :=
  if h : k.val + 4 < 24 then inFlight c (tripSlot k) ⟨k.val + 4, h⟩ D.fW
  else iprop((∃ f, (slotV (tripSlot k)).view.loc (c : Thread nD τ) ↦[(slotV (tripSlot k)).view.set]{fullShare} f)
    ∗ semVal ((c : Thread nD τ), slotCell (tripSlot k)) 0 ∗ (if k.val + 4 = 24 then tailFlight c D.fW else (BI.emp : sProp 𝕄)))

/-- The buffers a trip only reads. -/
abbrev fixed : sProp 𝕄 := iprop(pt c vXq D.xq ∗ pt c vXsb D.xsb ∗ pt c vWs D.ws ∗ pt c vWords D.words ∗ pt c vCid D.cid)
/-- The running values in their buffers. -/
abbrev stP (σ : St F c) : sProp 𝕄 := iprop(pt c vM σ.m ∗ pt c vS σ.s ∗ pt c vClog σ.clog)

theorem ahead_pos (k : Fin k0_t1_loop.trips) (h : k.val + 4 < 24) :
    ahead D k = iprop((slabW ⟨k.val + 4, h⟩).view.loc (c : Thread nD τ) ↦[(slabW ⟨k.val + 4, h⟩).view.set]{fullShare} D.fW) := dif_pos h
theorem ahead_tail (k : Fin k0_t1_loop.trips) (h : k.val + 4 = 24) : ahead D k = tailFree c D.fW := (dif_neg (by omega)).trans (if_pos h)
theorem ahead_none (k : Fin k0_t1_loop.trips) (h : 24 < k.val + 4) : ahead D k = BI.emp := (dif_neg (by omega)).trans (if_neg (by omega))
theorem asked_pos (k : Fin k0_t1_loop.trips) (h : k.val + 4 < 24) : asked D k = inFlight c (tripSlot k) ⟨k.val + 4, h⟩ D.fW := dif_pos h
theorem asked_tail (k : Fin k0_t1_loop.trips) (h : k.val + 4 = 24) :
    asked D k = iprop((∃ f, (slotV (tripSlot k)).view.loc (c : Thread nD τ) ↦[(slotV (tripSlot k)).view.set]{fullShare} f)
      ∗ semVal ((c : Thread nD τ), slotCell (tripSlot k)) 0 ∗ tailFlight c D.fW) :=
  (dif_neg (by omega)).trans (by rw [if_pos h])
theorem asked_none (k : Fin k0_t1_loop.trips) (h : 24 < k.val + 4) :
    asked D k = iprop((∃ f, (slotV (tripSlot k)).view.loc (c : Thread nD τ) ↦[(slotV (tripSlot k)).view.set]{fullShare} f)
      ∗ semVal ((c : Thread nD τ), slotCell (tripSlot k)) 0 ∗ (BI.emp : sProp 𝕄)) :=
  (dif_neg (by omega)).trans (by rw [if_neg (by omega)])

theorem cond1_iff : ∀ k : Fin k0_t1_loop.trips, k0_cond1 k = 1#1 ↔ k.val + 4 < 24 := by decide
/-- Whether trip `k` asks for the tail. -/
abbrev cond2 (k : Fin k0_t1_loop.trips) : BitVec 1 :=
  Scalar.cmpi .ne (Scalar.extui (Scalar.cmpi .eq (Scalar.addi (Scf.iv 0#32 1#32 k) 4#32) 24#32)) 0#32
theorem cond2_iff : ∀ k : Fin k0_t1_loop.trips, cond2 k = 1#1 ↔ k.val + 4 = 24 := by decide

/-- What is left of a trip: the transfers it starts. -/
theorem rest_step (k : Fin k0_t1_loop.trips) (K : Unit → sProp 𝕄) :
    iprop(((∃ f, own c (slotV (tripSlot k)) f) ∗ semVal ((c : Thread nD τ), slotCell (tripSlot k)) 0
        ∗ own c (slabV (tripSlab k)) (slabC D k)
        ∗ ((slabO (tripSlab k)).view.loc (c : Thread nD τ) ↦[(slabO (tripSlab k)).view.set]{fullShare} D.fO)
        ∗ ahead D k ∗ batch D k.val 0 ∗ ∃ W, owes (c : Thread nD τ) 0 W)
      ∗ (iprop(asked D k ∗ batch D (k.val + 1) 0 ∗ ∃ W, owes (c : Thread nD τ) 0 W) -∗ K ()))
    ⊢ (runAt D k).2.1 K := by
  have hk := lt_of_lt_of_eq k.isLt trips1
  unfold runAt tripRun
  conv => rhs; with_reducible whnf
  rcases Nat.lt_trichotomy (k.val + 4) 24 with h4 | h4 | h4
  · have hc := (cond1_iff k).mpr h4
    have hd : ¬ cond2 k = 1#1 := fun h => by have := (cond2_iff k).mp h; omega
    rw [ahead_pos D k h4, asked_pos D k h4]
    iintro ⟨⟨⟨%fs, Hslot⟩, Hcell, Hout, HO, Ha, HB, ⟨%W, HW⟩⟩, Hk⟩
    sl_exec
    sl_step
    iapply Hk
    isplitl [Hcell]; · iexists _; iexact Hcell
    isplitl [HB]; · iexact HB
    iexists _; iexact HW
  · have hc : ¬ k0_cond1 k = 1#1 := fun h => by have := (cond1_iff k).mp h; omega
    have hd := (cond2_iff k).mpr h4
    rw [ahead_tail D k h4, asked_tail D k h4]
    iintro ⟨⟨⟨%fs, Hslot⟩, Hcell, Hout, HO, ⟨⟨%ft, Ht⟩, HtW, Htc⟩, HB, ⟨%W, HW⟩⟩, Hk⟩
    sl_exec
    sl_step
    iapply Hk
    isplitl [Hslot Hcell Htc]
    · isplitl [Hslot]; · iexists _; iexact Hslot
      isplitl [Hcell]; · iexact Hcell
      iexists _; iexact Htc
    isplitl [HB]; · iexact HB
    iexists _; iexact HW
  · have hc : ¬ k0_cond1 k = 1#1 := fun h => by have := (cond1_iff k).mp h; omega
    have hd : ¬ cond2 k = 1#1 := fun h => by have := (cond2_iff k).mp h; omega
    rw [ahead_none D k h4, asked_none D k h4]
    iintro ⟨⟨⟨%fs, Hslot⟩, Hcell, Hout, HO, He, HB, ⟨%W, HW⟩⟩, Hk⟩
    sl_exec
    sl_step
    iapply Hk
    isplitl [Hslot Hcell He]
    · isplitl [Hslot]; · iexists _; iexact Hslot
      isplitl [Hcell]; · iexact Hcell
      iexact He
    isplitl [HB]; · iexact HB
    iexists _; iexact HW

/-- One trip. -/
theorem trip_step (k : Fin k0_t1_loop.trips) (σ : St F c) (K : Unit → sProp 𝕄) :
    iprop((inFlight c (tripSlot k) (tripSlab k) D.fW ∗ fixed D ∗ stP σ
        ∗ (∃ f, vOut.view.loc (c : Thread nD τ) ↦[vOut.view.setOn (tripR k).set]{fullShare} f)
        ∗ ((slabO (tripSlab k)).view.loc (c : Thread nD τ) ↦[(slabO (tripSlab k)).view.set]{fullShare} D.fO)
        ∗ ahead D k ∗ batch D k.val 0 ∗ ∃ W, owes (c : Thread nD τ) 0 W)
      ∗ (iprop(((slabW (tripSlab k)).view.loc (c : Thread nD τ) ↦[(slabW (tripSlab k)).view.set]{fullShare} D.fW)
          ∗ fixed D ∗ stP (stNext D k σ) ∗ asked D k ∗ batch D (k.val + 1) 0 ∗ ∃ W, owes (c : Thread nD τ) 0 W) -∗ K ()))
    ⊢ wp frame (wpE (defs₀ (F := F)) Variants.none (c : Thread nD τ) none) Set.univ (slabBody (F := F) D.v371 D.v375 k ()) K := by
  iintro ⟨⟨HF, ⟨Hxq, Hxsb, Hws, Hwords, Hcid⟩, ⟨Hm, Hs, Hclog⟩, ⟨%f16, Hout⟩, HO, Ha, HB, ⟨%W, HW⟩⟩, Hk⟩
  iapply ((runAt D k).2.2 σ.m σ.s σ.clog).2 f16 W K
  isplitl [HF Hxq Hxsb Hws Hwords Hcid Hm Hs Hclog Hout HW]
  · isplitl [HF]; · iexact HF
    isplitl [Hxq]; · iexact Hxq
    isplitl [Hxsb]; · iexact Hxsb
    isplitl [Hws]; · iexact Hws
    isplitl [Hwords]; · iexact Hwords
    isplitl [Hcid]; · iexact Hcid
    isplitl [Hm]; · iexact Hm
    isplitl [Hs]; · iexact Hs
    isplitl [Hclog]; · iexact Hclog
    isplitl [Hout]; · iexact Hout
    iexact HW
  iintro ⟨⟨%fs, Hslot⟩, HsW, Hcell, Hxq, Hxsb, Hws, Hwords, Hcid, Hm, Hs, Hclog, Hout, ⟨%W', HW⟩⟩
  ihave Hout := (slab_own D k f16) $$ Hout
  iapply (rest_step D k K)
  isplitl [Hslot Hcell Hout HO Ha HB HW]
  · isplitl [Hslot]; · iexists _; iexact Hslot
    isplitl [Hcell]; · iexact Hcell
    isplitl [Hout]; · iexact Hout
    isplitl [HO]; · iexact HO
    isplitl [Ha]; · iexact Ha
    isplitl [HB]; · iexact HB
    iexists _; iexact HW
  iintro ⟨Ha, HB, HW⟩
  iapply Hk
  isplitl [HsW]; · iexact HsW
  isplitl [Hxq Hxsb Hws Hwords Hcid]
  · isplitl [Hxq]; · iexact Hxq
    isplitl [Hxsb]; · iexact Hxsb
    isplitl [Hws]; · iexact Hws
    isplitl [Hwords]; · iexact Hwords
    iexact Hcid
  isplitl [Hm Hs Hclog]
  · isplitl [Hm]; · iexact Hm
    isplitl [Hs]; · iexact Hs
    iexact Hclog
  isplitl [Ha]; · iexact Ha
  isplitl [HB]; · iexact HB
  iexact HW

end Cert.KernelIdeal.Hand

end
-- ==== Proof.KernelIdeal.Loop.lean ====
/-
  The loop over the slabs of the weights, and the loop that waits for the transfers of the logits' slabs.
-/
module

public import proofs.«01_k».proof.Proof.KernelIdeal.Step

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The loop over the slabs -/

variable {c : Dev nD} (D : Data F c)

/-- Slab `b` of the weights at hand. -/
abbrev wAt (b : Fin 24) : sProp 𝕄 := (slabW b).view.loc (c : Thread nD τ) ↦[(slabW b).view.set]{fullShare} D.fW
/-- Slab `b` of the kernel's logits at some contents. -/
abbrev vAt (c : Dev nD) (b : Fin 24) : sProp 𝕄 := iprop(∃ f : Bf (F := F) c vOut, vOut.view.loc (c : Thread nD τ) ↦[vOut.view.setOn (outR b).set]{fullShare} f)
/-- Slab `b` of the result at its first contents. -/
abbrev oAt (b : Fin 24) : sProp 𝕄 := (slabO b).view.loc (c : Thread nD τ) ↦[(slabO b).view.set]{fullShare} D.fO
/-- The slot of slab `b`, for four slabs beyond the last too. -/
abbrev bSlot (b : Fin 28) : Fin 4 := ⟨b.val % 4, Nat.mod_lt _ (by decide)⟩
/-- A slot at rest. -/
abbrev slotFree (c : Dev nD) (s : Fin 4) : sProp 𝕄 :=
  iprop((∃ f : Bf (F := F) c (slotV s), (slotV s).view.loc (c : Thread nD τ) ↦[(slotV s).view.set]{fullShare} f) ∗ semVal ((c : Thread nD τ), slotCell s) 0)
/-- A slot of the ring: its slab in flight, or at rest beyond the last slab. -/
def ringAt (b : Fin 28) : sProp 𝕄 := if h : b.val < 24 then inFlight c (bSlot b) ⟨b.val, h⟩ D.fW else slotFree c (bSlot b)
/-- The tail before trip `k`. -/
def tailAt (k : ℕ) : sProp 𝕄 := if k ≤ 20 then tailFree c D.fW else tailFlight c D.fW

/-- The loop before trip `k`. -/
def inv (σ : St F c) (k : ℕ) (_ : Unit) : sProp 𝕄 :=
  iprop(bigSep (Ring.rangeSet 28 k (k + 4)) (ringAt D) ∗ bigSep (Ring.rangeSet 24 0 k) (wAt D) ∗ bigSep (Ring.rangeSet 24 (k + 4) 24) (wAt D) ∗ tailAt D k
    ∗ batch D k 0 ∗ bigSep (Ring.rangeSet 24 k 24) (vAt (F := F) c) ∗ bigSep (Ring.rangeSet 24 k 24) (oAt D)
    ∗ stP (stAt D σ k) ∗ fixed D ∗ ∃ W, owes (c : Thread nD τ) 0 W)

/-- What stays aside in a trip of the slabs ahead and the tail. -/
abbrev kept (k : ℕ) : sProp 𝕄 :=
  if k + 4 < 24 then iprop(bigSep (Ring.rangeSet 24 (k + 5) 24) (wAt D) ∗ tailFree c D.fW) else if k + 4 = 24 then (BI.emp : sProp 𝕄) else tailFlight c D.fW

/-- A trip takes the slab ahead, or the tail. -/
theorem take_ahead (k : Fin k0_t1_loop.trips) :
    iprop(bigSep (Ring.rangeSet 24 (k.val + 4) 24) (wAt D) ∗ tailAt D k.val) ⊢ iprop(ahead D k ∗ kept D k.val) := by
  have hk := lt_of_lt_of_eq k.isLt trips1
  rcases Nat.lt_trichotomy (k.val + 4) 24 with h | h | h
  · rw [ahead_pos D k h, kept, if_pos h, tailAt, if_pos (by omega), Ring.bigSep_rangeSet_head (Φ := wAt D) h h]
    iintro ⟨⟨A, B⟩, C⟩
    isplitl [A]; · iexact A
    isplitl [B] <;> iassumption
  · rw [ahead_tail D k h, kept, if_neg (by omega), if_pos h, tailAt, if_pos (by omega), Ring.bigSep_rangeSet_empty (Φ := wAt D) (by omega)]
    iintro ⟨A, B⟩
    isplitl [B] <;> iassumption
  · rw [ahead_none D k h, kept, if_neg (by omega), if_neg (by omega), tailAt, if_neg (by omega), Ring.bigSep_rangeSet_empty (Φ := wAt D) (by omega)]
    exact Entails.rfl

/-- What it leaves makes up the slabs ahead, the tail and its slot before the next trip. -/
theorem give_asked (k : Fin k0_t1_loop.trips) (hb : k.val + 4 < 28) :
    iprop(asked D k ∗ kept D k.val) ⊢ iprop(ringAt D ⟨k.val + 4, hb⟩ ∗ bigSep (Ring.rangeSet 24 (k.val + 5) 24) (wAt D) ∗ tailAt D (k.val + 1)) := by
  have hk := lt_of_lt_of_eq k.isLt trips1
  have hs : bSlot ⟨k.val + 4, hb⟩ = tripSlot k := Fin.ext (by show (k.val + 4) % 4 = k.val % 4; omega)
  unfold ringAt
  rw [hs]
  rcases Nat.lt_trichotomy (k.val + 4) 24 with h | h | h
  · rw [asked_pos D k h, kept, if_pos h, tailAt, if_pos (by omega), dif_pos h]
  · rw [asked_tail D k h, kept, if_neg (by omega), if_pos h, tailAt, if_neg (by omega), dif_neg (by show ¬ k.val + 4 < 24; omega), Ring.bigSep_rangeSet_empty (Φ := wAt D) (by omega)]
    iintro ⟨⟨A, B, C⟩, E⟩
    isplitl [A B]; · isplitl [A] <;> iassumption
    isplitl [E] <;> iassumption
  · rw [asked_none D k h, kept, if_neg (by omega), if_neg (by omega), tailAt, if_neg (by omega), dif_neg (by show ¬ k.val + 4 < 24; omega), Ring.bigSep_rangeSet_empty (Φ := wAt D) (by omega)]
    iintro ⟨⟨A, B, C⟩, E⟩
    isplitl [A B]; · isplitl [A] <;> iassumption
    isplitl [C] <;> iassumption

/-- A trip keeps the invariant. -/
theorem inv_step (σ : St F c) (k : Fin k0_t1_loop.trips) (acc : Unit) :
    inv D σ k.val acc ⊢ wp frame (wpE (defs₀ (F := F)) Variants.none (c : Thread nD τ) none) Set.univ (slabBody (F := F) D.v371 D.v375 k acc) (inv D σ (k.val + 1)) := by
  have hk := lt_of_lt_of_eq k.isLt trips1
  have hb : k.val + 4 < 28 := by omega
  unfold inv
  rw [Ring.bigSep_rangeSet_head (Φ := ringAt D) (lo := k.val) (hi := k.val + 4) (by omega) (by omega),
    Ring.bigSep_rangeSet_head (Φ := vAt c) hk hk, Ring.bigSep_rangeSet_head (Φ := oAt D) hk hk]
  have h1 : bigSep (Ring.rangeSet 28 (k.val + 1) (k.val + 1 + 4)) (ringAt D) = iprop(ringAt D ⟨k.val + 4, hb⟩ ∗ bigSep (Ring.rangeSet 28 (k.val + 1) (k.val + 4)) (ringAt D)) :=
    Ring.bigSep_rangeSet_last (Φ := ringAt D) (lo := k.val + 1) (hi := k.val + 5) (by omega) (by omega)
  have h2 : bigSep (Ring.rangeSet 24 0 (k.val + 1)) (wAt D) = iprop(wAt D (tripSlab k) ∗ bigSep (Ring.rangeSet 24 0 k.val) (wAt D)) :=
    Ring.bigSep_rangeSet_last (Φ := wAt D) (lo := 0) (hi := k.val + 1) (by omega) (by omega)
  have h3 : ringAt D ⟨k.val, by omega⟩ = inFlight c (tripSlot k) (tripSlab k) D.fW := dif_pos hk
  iintro ⟨⟨HF, HR⟩, HW, HA, HT, HB, ⟨HV, HVs⟩, ⟨HO, HOs⟩, Hst, Hfix, HX⟩
  ihave HF := (Entails.of_eq h3) $$ HF
  ihave HA := (take_ahead D k) $$ [HA HT]
  · isplitl [HA] <;> iassumption
  icases HA with ⟨HA, HK⟩
  iapply (trip_step D k (stAt D σ k.val))
  isplitl [HF Hfix Hst HV HO HA HB HX]
  · isplitl [HF]; · iexact HF
    isplitl [Hfix]; · iexact Hfix
    isplitl [Hst]; · iexact Hst
    isplitl [HV]; · iexact HV
    isplitl [HO]; · iexact HO
    isplitl [HA]; · iexact HA
    isplitl [HB] <;> iassumption
  iintro ⟨HS, Hfix, Hst, HA, HB, HX⟩
  ihave HA := (give_asked D k hb) $$ [HA HK]
  · isplitl [HA] <;> iassumption
  icases HA with ⟨HF, HA, HT⟩
  rw [h1, h2, stAt_succ]
  isplitl [HF HR]; · isplitl [HF] <;> iassumption
  isplitl [HS HW]; · isplitl [HS] <;> iassumption
  isplitl [HA]; · iexact HA
  isplitl [HT]; · iexact HT
  isplitl [HB]; · iexact HB
  isplitl [HVs]; · iexact HVs
  isplitl [HOs]; · iexact HOs
  isplitl [Hst]; · iexact Hst
  isplitl [Hfix] <;> iassumption

/-! ## The loop that waits for the logits' transfers -/

theorem trips2 : k0_t2_loop.trips = 24 := by decide
abbrev drainSlab (k : Fin k0_t2_loop.trips) : Fin 24 := ⟨k.val, lt_of_lt_of_eq k.isLt trips2⟩
@[sl_canon] theorem slabVD (k : Fin k0_t2_loop.trips) (hh hs) :
    vOut.slice (Rect.unit (s := S12x1x50257) (k0_off19 k) S12x1x2048.size hh) hs = slabV (drainSlab k) := Memref.slice_unit_congr _ (k0_off19_eq k) _ _ _ (fun _ => rfl)
@[sl_canon] theorem slabOD (k : Fin k0_t2_loop.trips) (hh hs) :
    mOut.slice (Rect.unit (s := S12x1x50257) (k0_off19 k) S12x1x2048.size hh) hs = slabO (drainSlab k) := Memref.slice_unit_congr _ (k0_off19_eq k) _ _ _ (fun _ => rfl)

/-- A wait of it on the kernel's buffers. -/
abbrev drainBody (v818 : FVec F S12x1 .f32) : Fin k0_t2_loop.trips → Unit → Prog (TpuEff nD τ sig (Elt F) Λ₀ .tc) Unit :=
  k0_t2_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole main_v1_4) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) cc0_scratch19 cc0_scratch20 cc0_scratch21 cc0_scratch22 cc0_scratch23 v818

/-- The waits before wait `k`: every transfer begun, `k` of them waited for; after the last all they leave. -/
def drainInv (k : ℕ) (_ : Unit) : sProp 𝕄 :=
  iprop(⌜k ≤ 24⌝ ∗ (∃ W, owes (c : Thread nD τ) 0 W)
    ∗ if k < 24 then batch D 24 (k * NN) else iprop(semVal ((c : Thread nD τ), outCell) 0 ∗ bigSep Finset.univ (outD D)))

/-- One wait. -/
theorem drain_step (v818 : FVec F S12x1 .f32) (k : Fin k0_t2_loop.trips) (acc : Unit) :
    drainInv D k.val acc ⊢ wp frame (wpE (defs₀ (F := F)) Variants.none (c : Thread nD τ) none) Set.univ (drainBody (F := F) v818 k acc) (drainInv D (k.val + 1)) := by
  have hk : k.val < 24 := lt_of_lt_of_eq k.isLt trips2
  unfold drainInv
  rw [if_pos hk]
  rcases Nat.lt_or_ge (k.val + 1) 24 with h1 | h1
  · rw [if_pos h1]
    iintro ⟨-, ⟨%W, HO⟩, HB⟩
    unfold drainBody k0_t2_body
    sl_exec
    sl_step
    isplitr; · ipureintro; omega
    isplitl [HO]; · iexists _; iexact HO
    rw [show (k.val + 1) * NN = k.val * NN + NN by rw [Nat.add_mul, Nat.one_mul]]
    iexact HB
  · rw [if_neg (Nat.not_lt.mpr h1)]
    iintro ⟨-, ⟨%W, HO⟩, HB⟩
    unfold drainBody k0_t2_body
    sl_exec
    sl_step
    isplitr; · ipureintro; omega
    isplitl [HO]; · iexists _; iexact HO
    isplitl [HB]; · iexact HB
    iexact HB_all

end Cert.KernelIdeal.Hand
-- ==== Proof.KernelIdeal.Pro.lean ====
/-
  The body up to the loop over the slabs: the transfers it starts, the quantised rows, the words of the mask.
-/
module

public import proofs.«01_k».proof.Proof.KernelIdeal.Loop

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Any contents of a buffer held whole. -/
abbrev any (c : Dev nD) {sp : Space} {S : Shape} {e : EltTy} (M : Memref sig .tc sp S e) : sProp 𝕄 := iprop(∃ f : Bf (F := F) c M, pt c M f)
/-- A cell at zero. -/
abbrev zero (c : Dev nD) (i : Fin 15) : sProp 𝕄 := semVal ((c : Thread nD τ), (SemLoc.dma i : SemLoc sig)) 0

/-- A buffer of the kernel in flight to a result: the buffer's pieces `L` were stored over the contents `f`. -/
abbrev toRes (c : Dev nD) (i : Fin 15) {S : Shape} {e : EltTy} (V : Memref sig .tc .vmem S e) (M : Memref sig .tc .hbm S e) (f : Bf (F := F) c V)
    (g : Bf (F := F) c M) (n : ℕ) (L : List (View.Piece (Elt F) S e)) : sProp 𝕄 :=
  Transfers.Flight (countersEmb (U := Pipeline.UD sig nD τ)) (c : Thread nD τ) (SemLoc.dma i : SemLoc sig) () n
    iprop(pt c M (M.view.writes (Elt F) g [⟨Rect.whole S, ReadAs.same.apply (V.view.read (Elt F) (V.view.writes (Elt F) f L))⟩]) ∗ pt c V (V.view.writes (Elt F) f L))

/-- The body up to the loop over the slabs, at any contents: the pieces it stores into each buffer, and what is left. -/
def proRun (c : Dev nD) (fX : Bf (F := F) c mX) (fWs : Bf (F := F) c mWs) (fBm : Bf (F := F) c mBm) (fCand : Bf (F := F) c mCand) :
    Σ' (Lws : List (View.Piece (Elt F) S50257 .f32)) (Lxq : List (View.Piece (Elt F) S32x1600 .fp8e4m3)) (Lwords : List (View.Piece (Elt F) S12x1664 .i32)) (Lcid : List (View.Piece (Elt F) S12x128 .i32))
      (Lxsb Lm Ls Lclog : List (View.Piece (Elt F) S12x128 .f32)) (Lcallow : List (View.Piece (Elt F) S12x128 .i32))
      (Lxc : List (View.Piece (Elt F) S12x1600 .fp8e4m3)) (Lxs : List (View.Piece (Elt F) S1x12 .f32)) (R : (PUnit → sProp 𝕄) → sProp 𝕄),
      ∀ (fW : Bf (F := F) c mW) (fXc : Bf (F := F) c mXc) (fXs : Bf (F := F) c mXs) (W : Waits sig Unit) (K : PUnit → sProp 𝕄),
        iprop(((pt c mX fX ∗ pt c mWs fWs ∗ pt c mBm fBm ∗ pt c mCand fCand ∗ pt c mXc fXc ∗ pt c mXs fXs)
            ∗ (any c vX ∗ any c vWs ∗ any c vBm ∗ any c vCand ∗ any c vXq ∗ any c vXc ∗ any c vWords ∗ any c vCid ∗ any c vXsb ∗ any c vM ∗ any c vS ∗ any c vClog
            ∗ any c vCallow ∗ any c vXs)
            ∗ (zero c 0 ∗ zero c 1 ∗ zero c 2 ∗ zero c 3 ∗ zero c 10 ∗ zero c 11)
            ∗ (own c (slabW 0) fW ∗ own c (slabW 1) fW ∗ own c (slabW 2) fW ∗ own c (slabW 3) fW)
            ∗ (slotFree c 0 ∗ slotFree c 1 ∗ slotFree c 2 ∗ slotFree c 3)
            ∗ owes (c : Thread nD τ) 0 W)
          ∗ (iprop((pt c mX fX ∗ pt c mWs fWs ∗ pt c mBm fBm ∗ pt c mCand fCand)
            ∗ (any c vX ∗ any c vBm ∗ any c vCand)
            ∗ (pt c vWs (vWs.view.writes (Elt F) vWs.view.junk Lws) ∗ pt c vXq (vXq.view.writes (Elt F) vXq.view.junk Lxq) ∗ pt c vWords (vWords.view.writes (Elt F) vWords.view.junk Lwords)
              ∗ pt c vCid (vCid.view.writes (Elt F) vCid.view.junk Lcid) ∗ pt c vXsb (vXsb.view.writes (Elt F) vXsb.view.junk Lxsb)
              ∗ pt c vM (vM.view.writes (Elt F) vM.view.junk Lm) ∗ pt c vS (vS.view.writes (Elt F) vS.view.junk Ls) ∗ pt c vClog (vClog.view.writes (Elt F) vClog.view.junk Lclog)
              ∗ pt c vCallow (vCallow.view.writes (Elt F) vCallow.view.junk Lcallow))
            ∗ (zero c 0 ∗ zero c 1 ∗ zero c 2 ∗ zero c 3)
            ∗ (inFlight c 0 0 fW ∗ inFlight c 1 1 fW ∗ inFlight c 2 2 fW ∗ inFlight c 3 3 fW)
            ∗ ((∃ f, toRes c 10 vXc mXc f fXc 1664 Lxc) ∗ (∃ f, toRes c 11 vXs mXs f fXs 16 Lxs))
            ∗ ∃ W, owes (c : Thread nD τ) 0 W) -∗ R K))
        ⊢ wp frame (wpE (defs₀ (F := F)) Variants.none (c : Thread nD τ) none) Set.univ (bodyAt0 (F := F) t0_0) K := by
  refine ⟨?_, ?_, ?_, ?_, ?_, ?_, ?_, ?_, ?_, ?_, ?_, ?_, fun fW fXc fXs W K => ?run⟩
  case run =>
    iintro ⟨⟨⟨HX, HWs, HBm, HCand, HXc, HXs⟩, ⟨⟨%x, Hx⟩, ⟨%ws, Hws⟩, ⟨%bm, Hbm⟩, ⟨%cand, Hcand⟩, ⟨%xq, Hxq⟩, ⟨%xc, Hxc⟩, ⟨%words, Hwords⟩, ⟨%cid, Hcid⟩, ⟨%xsb, Hxsb⟩, ⟨%m, Hm⟩, ⟨%s, Hs⟩, ⟨%clog, Hclog⟩, ⟨%callow, Hcallow⟩, ⟨%xs, Hxs⟩⟩,
      ⟨Hi0, Hi1, Hi2, Hi3, Ho0, Ho1⟩, ⟨HW0, HW1, HW2, HW3⟩, ⟨⟨⟨%r0, Hr0⟩, Hc0⟩, ⟨⟨%r1, Hr1⟩, Hc1⟩, ⟨⟨%r2, Hr2⟩, Hc2⟩, ⟨⟨%r3, Hr3⟩, Hc3⟩⟩, HO⟩, Hk⟩
    unfold bodyAt0 cc0_masked_lm_head
    sl_exec!
    iapply Hk
    isplitl [HX HWs HBm HCand]
    · isplitl [HX]; · iexact HX
      isplitl [HWs]; · iexact HWs
      isplitl [HBm]; · iexact HBm
      iexact HCand
    isplitl [Hx Hbm Hcand]
    · isplitl [Hx]; · iexists _; iexact Hx
      isplitl [Hbm]; · iexists _; iexact Hbm
      iexists _; iexact Hcand
    isplitl [Hws Hxq Hwords Hcid Hxsb Hm Hs Hclog Hcallow]
    · isplitl [Hws]; · iexact Hws
      isplitl [Hxq]; · iexact Hxq
      isplitl [Hwords]; · iexact Hwords
      isplitl [Hcid]; · iexact Hcid
      isplitl [Hxsb]; · iexact Hxsb
      isplitl [Hm]; · iexact Hm
      isplitl [Hs]; · iexact Hs
      isplitl [Hclog]; · iexact Hclog
      iexact Hcallow
    isplitl [Hi0 Hi1 Hi2 Hi3]
    · isplitl [Hi0]; · iexact Hi0
      isplitl [Hi1]; · iexact Hi1
      isplitl [Hi2]; · iexact Hi2
      iexact Hi3
    isplitl [Hc0 Hc1 Hc2 Hc3]
    · isplitl [Hc0]; · iexists _; iexact Hc0
      isplitl [Hc1]; · iexists _; iexact Hc1
      isplitl [Hc2]; · iexists _; iexact Hc2
      iexists _; iexact Hc3
    case refine_10 => exact proRun.sl.Hxc_1 c fX
    case refine_11 => exact proRun.sl.Hxs_1 c fX
    isplitl [Ho0 Ho1]
    · isplitl [Ho0]; · iexists _; iexact Ho0
      iexists _; iexact Ho1
    iexists _; iexact HO

end Cert.KernelIdeal.Hand
-- ==== Proof.KernelIdeal.Blocks.lean ====
/-
  Buffers held whole and block by block: the slabs of the weights and of the logits, the slots of the ring.
-/
module

public import proofs.«01_k».proof.Proof.KernelIdeal.Pro

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Glue

variable (c : Dev nD) {sp : Space} {S : Shape} {e : EltTy} (M : Memref sig .tc sp S e) {n : ℕ} (R : Fin n → Finset S.Idx) (T : Finset S.Idx)
  (hd : ∀ b b', b ≠ b' → Disjoint (R b) (R b')) (ht : ∀ b, Disjoint (R b) T) (hc : ∀ i, (∃ b, i ∈ R b) ∨ i ∈ T)

/-- Block `b`, as elements of the buffer. -/
abbrev blk (b : Fin n) : Finset (Idx (M.view.loc (c : Thread nD τ))) := M.view.setOn (R b)
include hd in
theorem setOn_disjoint (b b' : Fin n) (h : b ≠ b') : Disjoint (M.view.setOn (R b)) (M.view.setOn (R b')) := (Finset.disjoint_map _).mpr (hd b b' h)
include ht in
theorem setOn_rest (b : Fin n) : Disjoint (M.view.setOn (R b)) (M.view.setOn T) := (Finset.disjoint_map _).mpr (ht b)
include ht in
theorem union_rest : Disjoint (Finset.univ.biUnion (blk c M R)) (M.view.setOn T : Finset (Idx (M.view.loc (c : Thread nD τ)))) :=
  (Finset.disjoint_biUnion_left _ _ _).mpr fun b _ => setOn_rest M R T ht b
include hc in
theorem union_set : (Finset.univ.biUnion (blk c M R)) ∪ (M.view.setOn T : Finset (Idx (M.view.loc (c : Thread nD τ)))) = M.view.set := by
  ext x
  unfold blk
  simp only [Finset.mem_union, Finset.mem_biUnion, Finset.mem_univ, true_and]
  constructor
  · rintro (⟨b, h⟩ | h) <;> obtain ⟨y, -, rfl⟩ := Finset.mem_map.mp h <;> exact Finset.mem_map.mpr ⟨y, Finset.mem_univ _, rfl⟩
  · intro h
    obtain ⟨y, -, rfl⟩ := Finset.mem_map.mp h
    rcases hc y with ⟨b, hb⟩ | hT
    · exact .inl ⟨b, Finset.mem_map.mpr ⟨y, hb, rfl⟩⟩
    · exact .inr (Finset.mem_map.mpr ⟨y, hT, rfl⟩)

include hd in
theorem blocks_eq (f : Bf (F := F) c M) :
    (M.view.loc (c : Thread nD τ) ↦[Finset.univ.biUnion (blk c M R)]{fullShare} f : sProp 𝕄)
      = bigSep Finset.univ fun b => M.view.loc (c : Thread nD τ) ↦[M.view.setOn (R b)]{fullShare} f :=
  pointsTo_biUnion Finset.univ (blk c M R) (fun b _ b' _ h => setOn_disjoint M R hd b b' h)

include hd ht hc in
/-- A buffer held whole is held block by block, and outside the blocks. -/
theorem blocks_split (f : Bf (F := F) c M) :
    (pt c M f : sProp 𝕄) ⊢ iprop((bigSep Finset.univ fun b => M.view.loc (c : Thread nD τ) ↦[M.view.setOn (R b)]{fullShare} f)
      ∗ (M.view.loc (c : Thread nD τ) ↦[M.view.setOn T]{fullShare} f)) := by
  unfold pt
  rw [← union_set c M R T hc, ← blocks_eq c M R hd f]
  exact (pointsTo_union (union_rest c M R T ht)).1

/-- The contents of a buffer held block by block: each block's, and the rest's. -/
def glue (fs : Fin n → Bf (F := F) c M) (ft : Bf (F := F) c M) : Bf (F := F) c M := fun i =>
  open Classical in if h : ∃ b, i ∈ M.view.setOn (R b) then fs h.choose i else ft i

include hd in
theorem glue_block (fs : Fin n → Bf (F := F) c M) (ft : Bf (F := F) c M) (b : Fin n) (i : _) (h : i ∈ M.view.setOn (R b)) : glue c M R fs ft i = fs b i := by
  have h' : ∃ b, i ∈ M.view.setOn (R b) := ⟨b, h⟩
  have e : h'.choose = b := by
    by_contra hne
    exact Finset.disjoint_left.mp (setOn_disjoint M R hd _ _ hne) h'.choose_spec h
  unfold glue
  rw [dif_pos h', e]

include ht in
theorem glue_rest (fs : Fin n → Bf (F := F) c M) (ft : Bf (F := F) c M) (i : _) (h : i ∈ M.view.setOn T) : glue c M R fs ft i = ft i := by
  unfold glue
  rw [dif_neg]
  rintro ⟨b, hb⟩
  exact Finset.disjoint_left.mp (setOn_rest M R T ht b) hb h

include hd ht hc in
/-- Blocks held at contents of their own make up the buffer held whole. -/
theorem blocks_glue (fs : Fin n → Bf (F := F) c M) (ft : Bf (F := F) c M) :
    iprop((bigSep Finset.univ fun b => M.view.loc (c : Thread nD τ) ↦[M.view.setOn (R b)]{fullShare} fs b)
      ∗ (M.view.loc (c : Thread nD τ) ↦[M.view.setOn T]{fullShare} ft)) ⊢ (pt c M (glue c M R fs ft) : sProp 𝕄) := by
  unfold pt
  have e : (M.view.loc (c : Thread nD τ) ↦[M.view.setOn T]{fullShare} ft : sProp 𝕄) = M.view.loc (c : Thread nD τ) ↦[M.view.setOn T]{fullShare} glue c M R fs ft :=
    pointsTo_congr fun i hi => (glue_rest c M R T ht fs ft i hi).symm
  rw [← union_set c M R T hc, e,
    BI.bigSep_congr (Ψ := fun b => (M.view.loc (c : Thread nD τ) ↦[M.view.setOn (R b)]{fullShare} glue c M R fs ft : sProp 𝕄)) fun b _ => pointsTo_congr fun i hi => (glue_block c M R hd fs ft b i hi).symm,
    ← blocks_eq c M R hd]
  exact (pointsTo_union (union_rest c M R T ht)).2

include hd ht hc in
/-- Blocks held at some contents make up the buffer held whole at some contents. -/
theorem blocks_join (f₀ : Bf (F := F) c M) :
    iprop((bigSep Finset.univ fun b => iprop(∃ f : Bf (F := F) c M, M.view.loc (c : Thread nD τ) ↦[M.view.setOn (R b)]{fullShare} f))
      ∗ (∃ f : Bf (F := F) c M, M.view.loc (c : Thread nD τ) ↦[M.view.setOn T]{fullShare} f)) ⊢ (any c M : sProp 𝕄) := by
  have : Nonempty (Bf (F := F) c M) := ⟨f₀⟩
  iintro ⟨H, ⟨%ft, HT⟩⟩
  ihave H := (Idealize.SL.BI.bigSep_exists_pi Finset.univ (fun b (f : Bf (F := F) c M) => (M.view.loc (c : Thread nD τ) ↦[M.view.setOn (R b)]{fullShare} f : sProp 𝕄))) $$ H
  icases H with ⟨%fs, H⟩
  iexists _
  iapply (blocks_glue c M R T hd ht hc fs ft)
  isplitl [H] <;> iassumption

end Glue

/-! ## The buffers in blocks -/

abbrev slabWR (b : Fin 24) : Rect S1600x50257 := Rect.unit (s := S1600x50257) ![0, 2048 * b.val] S1600x2048.size (slab_inb b)
abbrev tailWR : Rect S1600x50257 := Rect.unit (s := S1600x50257) ![0, 49152] S1600x1105.size inb_S1600x50257_S1600x1105_0_49152
abbrev outTR : Rect S12x1x50257 := Rect.unit (s := S12x1x50257) ![0, 0, 49152] S12x1x1105.size inb_S12x1x50257_S12x1x1105_0_0_49152
abbrev slotR (s : Fin 4) : Rect S4x1600x2048 := Rect.unit (s := S4x1600x2048) (slotOff s) S1x1600x2048.size (slot_inb s)

theorem mem_slabWR (b : Fin 24) (i : S1600x50257.Idx) : i ∈ (slabWR b).set ↔ 2048 * b.val ≤ (i 1).val ∧ (i 1).val < 2048 * b.val + 2048 := by
  rw [Rect.mem_set_unit]
  refine ⟨fun h => h 1, fun h a => ?_⟩
  fin_cases a
  · exact ⟨Nat.zero_le _, by have := (i 0).isLt; show (i 0).val < 0 + 1600; change (i 0).val < 1600 at this; omega⟩
  · exact h
theorem mem_tailWR (i : S1600x50257.Idx) : i ∈ tailWR.set ↔ 49152 ≤ (i 1).val := by
  rw [Rect.mem_set_unit]
  refine ⟨fun h => (h 1).1, fun h a => ?_⟩
  fin_cases a
  · exact ⟨Nat.zero_le _, by have := (i 0).isLt; show (i 0).val < 0 + 1600; change (i 0).val < 1600 at this; omega⟩
  · exact ⟨h, by have := (i 1).isLt; show (i 1).val < 49152 + 1105; change (i 1).val < 50257 at this; omega⟩
theorem mem_outR (b : Fin 24) (i : S12x1x50257.Idx) : i ∈ (outR b).set ↔ 2048 * b.val ≤ (i 2).val ∧ (i 2).val < 2048 * b.val + 2048 := by
  rw [Rect.mem_set_unit]
  refine ⟨fun h => h 2, fun h a => ?_⟩
  fin_cases a
  · exact ⟨Nat.zero_le _, by have := (i 0).isLt; show (i 0).val < 0 + 12; change (i 0).val < 12 at this; omega⟩
  · exact ⟨Nat.zero_le _, by have := (i 1).isLt; show (i 1).val < 0 + 1; change (i 1).val < 1 at this; omega⟩
  · exact h
theorem mem_outTR (i : S12x1x50257.Idx) : i ∈ outTR.set ↔ 49152 ≤ (i 2).val := by
  rw [Rect.mem_set_unit]
  refine ⟨fun h => (h 2).1, fun h a => ?_⟩
  fin_cases a
  · exact ⟨Nat.zero_le _, by have := (i 0).isLt; show (i 0).val < 0 + 12; change (i 0).val < 12 at this; omega⟩
  · exact ⟨Nat.zero_le _, by have := (i 1).isLt; show (i 1).val < 0 + 1; change (i 1).val < 1 at this; omega⟩
  · exact ⟨h, by have := (i 2).isLt; show (i 2).val < 49152 + 1105; change (i 2).val < 50257 at this; omega⟩
theorem mem_slotR (s : Fin 4) (i : S4x1600x2048.Idx) : i ∈ (slotR s).set ↔ (i 0).val = s.val := by
  refine Iff.trans (Rect.mem_set_unit (inb := slot_inb s)) ?_
  refine ⟨fun h => ?_, fun h a => ?_⟩
  · have h0 := h 0
    change s.val ≤ (i 0).val ∧ (i 0).val < s.val + 1 at h0
    omega
  fin_cases a
  · show s.val ≤ (i 0).val ∧ (i 0).val < s.val + 1; omega
  · exact ⟨Nat.zero_le _, by have := (i 1).isLt; show (i 1).val < 0 + 1600; change (i 1).val < 1600 at this; omega⟩
  · exact ⟨Nat.zero_le _, by have := (i 2).isLt; show (i 2).val < 0 + 2048; change (i 2).val < 2048 at this; omega⟩

theorem slabWR_disjoint (b b' : Fin 24) (h : b ≠ b') : Disjoint (slabWR b).set (slabWR b').set :=
  Finset.disjoint_left.mpr fun i h1 h2 => h (Fin.ext (by rw [mem_slabWR] at h1 h2; omega))
theorem slabWR_tail (b : Fin 24) : Disjoint (slabWR b).set tailWR.set :=
  Finset.disjoint_left.mpr fun i h1 h2 => by rw [mem_slabWR] at h1; rw [mem_tailWR] at h2; have := b.isLt; omega
theorem slabWR_cover (i : S1600x50257.Idx) : (∃ b, i ∈ (slabWR b).set) ∨ i ∈ tailWR.set := by
  rcases Nat.lt_or_ge (i 1).val 49152 with h | h
  · exact .inl ⟨⟨(i 1).val / 2048, by omega⟩, (mem_slabWR _ i).mpr (by show 2048 * ((i 1).val / 2048) ≤ _ ∧ _ < 2048 * ((i 1).val / 2048) + 2048; omega)⟩
  · exact .inr ((mem_tailWR i).mpr h)
theorem outR_disjoint (b b' : Fin 24) (h : b ≠ b') : Disjoint (outR b).set (outR b').set :=
  Finset.disjoint_left.mpr fun i h1 h2 => h (Fin.ext (by rw [mem_outR] at h1 h2; omega))
theorem outR_tail (b : Fin 24) : Disjoint (outR b).set outTR.set :=
  Finset.disjoint_left.mpr fun i h1 h2 => by rw [mem_outR] at h1; rw [mem_outTR] at h2; have := b.isLt; omega
theorem outR_cover (i : S12x1x50257.Idx) : (∃ b, i ∈ (outR b).set) ∨ i ∈ outTR.set := by
  rcases Nat.lt_or_ge (i 2).val 49152 with h | h
  · exact .inl ⟨⟨(i 2).val / 2048, by omega⟩, (mem_outR _ i).mpr (by show 2048 * ((i 2).val / 2048) ≤ _ ∧ _ < 2048 * ((i 2).val / 2048) + 2048; omega)⟩
  · exact .inr ((mem_outTR i).mpr h)
theorem slotR_disjoint (b b' : Fin 4) (h : b ≠ b') : Disjoint (slotR b).set (slotR b').set :=
  Finset.disjoint_left.mpr fun i h1 h2 => h (Fin.ext (by rw [mem_slotR] at h1 h2; omega))
theorem slotR_cover (i : S4x1600x2048.Idx) : (∃ b, i ∈ (slotR b).set) ∨ i ∈ (∅ : Finset S4x1600x2048.Idx) :=
  .inl ⟨⟨(i 0).val, (i 0).isLt⟩, (mem_slotR _ i).mpr rfl⟩

theorem slabW_set (b : Fin 24) : (slabW b).view.set = mW.view.setOn (slabWR b).set := by unfold slabW; exact View.set_slice _ _
theorem tailW_set : tailW.view.set = mW.view.setOn tailWR.set := by unfold tailW; exact View.set_slice _ _
theorem slabV_set' (b : Fin 24) : (slabV b).view.set = vOut.view.setOn (outR b).set := by unfold slabV; exact View.set_slice _ _
theorem slabO_set (b : Fin 24) : (slabO b).view.set = mOut.view.setOn (outR b).set := by unfold slabO; exact View.set_slice _ _
theorem slotV_set (s : Fin 4) : (slotV s).view.set = vRing.view.setOn (slotR s).set := by
  unfold slotV
  exact (View.set_reshape _ _).trans (View.set_slice _ _)

end Cert.KernelIdeal.Hand
-- ==== Proof.KernelIdeal.Main.lean ====
/-
  The whole body: the loop over the slabs, the tail, and the waits at the end, from what the beginning leaves.
-/
module

public import proofs.«01_k».proof.Proof.KernelIdeal.Blocks

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- What the loops have in common, from what the beginning leaves. -/
def datOf (c : Dev nD) (fX : Bf (F := F) c mX) (fWs : Bf (F := F) c mWs) (fBm : Bf (F := F) c mBm) (fCand : Bf (F := F) c mCand)
    (fW : Bf (F := F) c mW) (fO : Bf (F := F) c mOut) : Data F c where
  v371 := shrsi proRun.sl.v369 proRun.sl.v150
  v375 := proRun.sl.v375
  fW := fW
  xq := vXq.view.writes (Elt F) vXq.view.junk (proRun c fX fWs fBm fCand).2.1
  xsb := vXsb.view.writes (Elt F) vXsb.view.junk (proRun c fX fWs fBm fCand).2.2.2.2.1
  ws := vWs.view.writes (Elt F) vWs.view.junk (proRun c fX fWs fBm fCand).1
  words := vWords.view.writes (Elt F) vWords.view.junk (proRun c fX fWs fBm fCand).2.2.1
  cid := vCid.view.writes (Elt F) vCid.view.junk (proRun c fX fWs fBm fCand).2.2.2.1
  fO := fO
/-- The running values before the first slab. -/
def stOf (c : Dev nD) (fX : Bf (F := F) c mX) (fWs : Bf (F := F) c mWs) (fBm : Bf (F := F) c mBm) (fCand : Bf (F := F) c mCand) : St F c where
  m := vM.view.writes (Elt F) vM.view.junk (proRun c fX fWs fBm fCand).2.2.2.2.2.1
  s := vS.view.writes (Elt F) vS.view.junk (proRun c fX fWs fBm fCand).2.2.2.2.2.2.1
  clog := vClog.view.writes (Elt F) vClog.view.junk (proRun c fX fWs fBm fCand).2.2.2.2.2.2.2.1

/-- The tail of the logits' buffer. -/
abbrev tailV : Memref sig .tc .vmem S12x1x1105 .f32 := vOut.slice outTR (fun _ => rfl)
/-- A result holding what the kernel's buffer `V` held: the pieces `L` stored over the contents `f`. -/
abbrev res (c : Dev nD) {S : Shape} {e : EltTy} (V : Memref sig .tc .vmem S e) (M : Memref sig .tc .hbm S e) (f : Bf (F := F) c V) (L : List (View.Piece (Elt F) S e)) : sProp 𝕄 :=
  pt c M (M.view.writes (Elt F) M.view.junk [⟨Rect.whole S, ReadAs.same.apply (V.view.read (Elt F) (V.view.writes (Elt F) f L))⟩])

set_option maxHeartbeats 1000000 in
/-- The rest of the body, over any contents that the beginning leaves. -/
def restRun (c : Dev nD) (fW : Bf (F := F) c mW) (xq : Bf (F := F) c vXq) (xsb : Bf (F := F) c vXsb) (ws : Bf (F := F) c vWs) (words : Bf (F := F) c vWords) (cid : Bf (F := F) c vCid)
    (fO : Bf (F := F) c mOut) (σN : St F c) (callow : Bf (F := F) c vCallow) (Lxc : List (View.Piece (Elt F) S12x1600 .fp8e4m3)) (Lxs : List (View.Piece (Elt F) S1x12 .f32)) :
    Σ' (Lout : List (View.Piece (Elt F) S12x1x50257 .f32)) (Llse : List (View.Piece (Elt F) S1x12 .f32)) (Lclp : List (View.Piece (Elt F) S12x1x20 .f32)),
      ∀ (D : Data F c) (hD : D = ⟨shrsi proRun.sl.v369 proRun.sl.v150, proRun.sl.v375, fW, xq, xsb, ws, words, cid, fO⟩) (σ : St F c) (hσ : stAt D σ 24 = σN)
        (fX : Bf (F := F) c mX) (fWs : Bf (F := F) c mWs) (fBm : Bf (F := F) c mBm) (fCand : Bf (F := F) c mCand)
        (fLse : Bf (F := F) c mLse) (fClp : Bf (F := F) c mClp) (fXc : Bf (F := F) c mXc) (fXs : Bf (F := F) c mXs) (fV : Bf (F := F) c vOut) (K : PUnit → sProp 𝕄),
        iprop((bigSep (Ring.rangeSet 28 0 (0 + 4)) (ringAt D) ∗ bigSep (Ring.rangeSet 24 0 0) (wAt D)
              ∗ bigSep (Ring.rangeSet 24 (0 + 4) 24) (wAt D) ∗ tailAt D 0
              ∗ batch D 0 0 ∗ bigSep (Ring.rangeSet 24 0 24) (vAt (F := F) c) ∗ bigSep (Ring.rangeSet 24 0 24) (oAt D)
              ∗ stP σ ∗ fixed D ∗ ∃ W, owes (c : Thread nD τ) 0 W)
            ∗ (vOut.view.loc (c : Thread nD τ) ↦[vOut.view.setOn outTR.set]{fullShare} fV)
            ∗ (mOut.view.loc (c : Thread nD τ) ↦[mOut.view.setOn outTR.set]{fullShare} fO)
            ∗ (pt c mLse fLse ∗ pt c mClp fClp ∗ any c vLse ∗ any c vClp)
            ∗ pt c vCallow callow
            ∗ (zero c 12 ∗ zero c 13 ∗ zero c 14)
            ∗ ((∃ f, toRes c 10 vXc mXc f fXc 1664 Lxc) ∗ (∃ f, toRes c 11 vXs mXs f fXs 16 Lxs))
            ∗ (iprop((bigSep (Ring.rangeSet 28 24 (24 + 4)) (ringAt D) ∗ bigSep (Ring.rangeSet 24 0 24) (wAt D)
                  ∗ (tailW.view.loc (c : Thread nD τ) ↦[tailW.view.set]{fullShare} fW))
                ∗ (any c vM ∗ any c vS ∗ any c vClog ∗ any c vXq ∗ any c vXsb ∗ any c vWs ∗ any c vWords ∗ any c vCid ∗ any c vTail ∗ any c vCallow ∗ any c vXc ∗ any c vXs ∗ any c vLse ∗ any c vClp)
                ∗ (zero c 8 ∗ zero c 9 ∗ zero c 10 ∗ zero c 11 ∗ zero c 12 ∗ zero c 13 ∗ zero c 14)
                ∗ (bigSep Finset.univ (outD D) ∗ (∃ f : Bf (F := F) c vOut, vOut.view.loc (c : Thread nD τ) ↦[vOut.view.setOn outTR.set]{fullShare} f)
                  ∗ (mOut.view.loc (c : Thread nD τ) ↦[mOut.view.setOn outTR.set]{fullShare}
                    mOut.view.writes (Elt F) fO [⟨outTR, ReadAs.same.apply (tailV.view.read (Elt F) (vOut.view.writes (Elt F) fV Lout))⟩]))
                ∗ ((∃ f, res c vXc mXc f Lxc) ∗ (∃ f, res c vXs mXs f Lxs) ∗ (∃ f, res c vLse mLse f Llse) ∗ (∃ f, res c vClp mClp f Lclp))
                ∗ ∃ W, owes (c : Thread nD τ) 0 W) -∗ K ⟨⟩))
        ⊢ (proRun c fX fWs fBm fCand).2.2.2.2.2.2.2.2.2.2.2.1 K := by
  refine ⟨?_, ?_, ?_, fun D hD σ hσ fX fWs fBm fCand fLse fClp fXc fXs fV K => ?run⟩
  case run =>
    conv => rhs; unfold proRun; with_reducible whnf
    iintro ⟨HI, HV, HO, ⟨HLse, HClp, ⟨%lse, Hlse⟩, ⟨%clp, Hclp⟩⟩, Hcallow, ⟨Hc2, Hc3, Hc4⟩, ⟨⟨%gc, Hxc⟩, ⟨%gs, Hxs⟩⟩, Hk⟩
    sl_for (inv D σ) $$ [HI]
    · intro k acc; subst hD; exact inv_step _ σ k acc
    · unfold inv; iexact HI
    iintro %acc HI
    unfold inv
    rw [show Scf.trips k0_t1_loop.lb k0_t1_loop.ub k0_t1_loop.st = 24 from trips1, show tailAt D 24 = tailFlight c D.fW from if_neg (by decide)]
    have hW : D.fW = fW := by rw [hD]
    have hF : fixed D = iprop(pt c vXq xq ∗ pt c vXsb xsb ∗ pt c vWs ws ∗ pt c vWords words ∗ pt c vCid cid) := by rw [hD]
    rw [hW, hF]
    rw [hσ]
    icases HI with ⟨HR, HW0, HW1, ⟨%gt, HT⟩, HB, HVs, HOs, ⟨Hm, Hs, Hclog⟩, ⟨Hxq, Hxsb, Hws, Hwords, Hcid⟩, ⟨%W, HOw⟩⟩
    sl_exec!
    sl_for (drainInv D) $$ [HB HOw]
    · intro k acc; exact drain_step D _ k acc
    · unfold drainInv
      rw [if_pos (by decide), Nat.zero_mul]
      isplitr; · ipureintro; omega
      isplitl [HOw]; · iexists _; iexact HOw
      iexact HB
    iintro %acc2 HI
    unfold drainInv
    rw [show Scf.trips k0_t2_loop.lb k0_t2_loop.ub k0_t2_loop.st = 24 from trips2, if_neg (by decide)]
    icases HI with ⟨-, ⟨%W2, HOw⟩, HB, HB_all⟩
    sl_exec!
    sl_step
    case refine_1 => exact restRun.sl.HV_9 c fW xq xsb ws words
    case refine_2 => exact restRun.sl.Hlse_1 c fW xq xsb ws words σN
    case refine_3 => exact restRun.sl.Hclp_1 c fW xq xsb ws words cid σN callow
    iapply Hk
    isplitl [HR HW0 HT_src]
    · isplitl [HR]; · iexact HR
      isplitl [HW0]; · iexact HW0
      iexact HT_src
    isplitl [Hm Hs Hclog Hxq Hxsb Hws Hwords Hcid HT_dst Hcallow Hxc_src Hxs_src Hlse Hclp]
    · isplitl [Hm]; · iexists _; iexact Hm
      isplitl [Hs]; · iexists _; iexact Hs
      isplitl [Hclog]; · iexists _; iexact Hclog
      isplitl [Hxq]; · iexists _; iexact Hxq
      isplitl [Hxsb]; · iexists _; iexact Hxsb
      isplitl [Hws]; · iexists _; iexact Hws
      isplitl [Hwords]; · iexists _; iexact Hwords
      isplitl [Hcid]; · iexists _; iexact Hcid
      isplitl [HT_dst]; · iexists _; iexact HT_dst
      isplitl [Hcallow]; · iexists _; iexact Hcallow
      isplitl [Hxc_src]; · iexists _; iexact Hxc_src
      isplitl [Hxs_src]; · iexists _; iexact Hxs_src
      isplitl [Hlse]; · iexists _; iexact Hlse
      iexists _; iexact Hclp
    isplitl [HT HB Hxc Hxs Hc2 Hc3 Hc4]
    · isplitl [HT]; · iexact HT
      isplitl [HB]; · iexact HB
      isplitl [Hxc]; · iexact Hxc
      isplitl [Hxs]; · iexact Hxs
      isplitl [Hc2]; · iexact Hc2
      isplitl [Hc3]; · iexact Hc3
      iexact Hc4
    isplitl [HB_all HV HO]
    · isplitl [HB_all]; · iexact HB_all
      isplitl [HV]; · iexists _; iexact HV
      iexact HO
    isplitl [Hxc_dst Hxs_dst HLse HClp]
    · isplitl [Hxc_dst]; · iexists _; iexact Hxc_dst
      isplitl [Hxs_dst]; · iexists _; iexact Hxs_dst
      isplitl [HLse]; · iexists _; iexact HLse
      iexists _; iexact HClp
    iexists _; iexact HOw

end Cert.KernelIdeal.Hand
-- ==== Proof.KernelIdeal.Body.lean ====
/-
  The whole body: its two halves joined, the buffers held in blocks in between.
-/
module

public import proofs.«01_k».proof.Proof.KernelIdeal.Main

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Whole

variable (c : Dev nD) (fX : Bf (F := F) c mX) (fWs : Bf (F := F) c mWs) (fBm : Bf (F := F) c mBm) (fCand : Bf (F := F) c mCand)
  (Lws : List (View.Piece (Elt F) S50257 .f32)) (Lxq : List (View.Piece (Elt F) S32x1600 .fp8e4m3)) (Lwords : List (View.Piece (Elt F) S12x1664 .i32)) (Lcid : List (View.Piece (Elt F) S12x128 .i32))
  (Lxsb Lm Ls Lclog : List (View.Piece (Elt F) S12x128 .f32)) (Lcallow : List (View.Piece (Elt F) S12x128 .i32))
  (Lxc : List (View.Piece (Elt F) S12x1600 .fp8e4m3)) (Lxs : List (View.Piece (Elt F) S1x12 .f32))

/-- What the beginning of the body does, as `proRun` states it. -/
def ProSpec (R : (PUnit.{1} → sProp 𝕄) → sProp 𝕄) : Prop :=
      ∀ (fW : Bf (F := F) c mW) (fXc : Bf (F := F) c mXc) (fXs : Bf (F := F) c mXs) (W : Waits sig Unit) (K : PUnit.{1} → sProp 𝕄),
        iprop(((pt c mX fX ∗ pt c mWs fWs ∗ pt c mBm fBm ∗ pt c mCand fCand ∗ pt c mXc fXc ∗ pt c mXs fXs)
            ∗ (any c vX ∗ any c vWs ∗ any c vBm ∗ any c vCand ∗ any c vXq ∗ any c vXc ∗ any c vWords ∗ any c vCid ∗ any c vXsb ∗ any c vM ∗ any c vS ∗ any c vClog
            ∗ any c vCallow ∗ any c vXs)
            ∗ (zero c 0 ∗ zero c 1 ∗ zero c 2 ∗ zero c 3 ∗ zero c 10 ∗ zero c 11)
            ∗ (own c (slabW 0) fW ∗ own c (slabW 1) fW ∗ own c (slabW 2) fW ∗ own c (slabW 3) fW)
            ∗ (slotFree c 0 ∗ slotFree c 1 ∗ slotFree c 2 ∗ slotFree c 3)
            ∗ owes (c : Thread nD τ) 0 W)
          ∗ (iprop((pt c mX fX ∗ pt c mWs fWs ∗ pt c mBm fBm ∗ pt c mCand fCand)
            ∗ (any c vX ∗ any c vBm ∗ any c vCand)
            ∗ (pt c vWs (vWs.view.writes (Elt F) vWs.view.junk Lws) ∗ pt c vXq (vXq.view.writes (Elt F) vXq.view.junk Lxq) ∗ pt c vWords (vWords.view.writes (Elt F) vWords.view.junk Lwords)
              ∗ pt c vCid (vCid.view.writes (Elt F) vCid.view.junk Lcid) ∗ pt c vXsb (vXsb.view.writes (Elt F) vXsb.view.junk Lxsb)
              ∗ pt c vM (vM.view.writes (Elt F) vM.view.junk Lm) ∗ pt c vS (vS.view.writes (Elt F) vS.view.junk Ls) ∗ pt c vClog (vClog.view.writes (Elt F) vClog.view.junk Lclog)
              ∗ pt c vCallow (vCallow.view.writes (Elt F) vCallow.view.junk Lcallow))
            ∗ (zero c 0 ∗ zero c 1 ∗ zero c 2 ∗ zero c 3)
            ∗ (inFlight c 0 0 fW ∗ inFlight c 1 1 fW ∗ inFlight c 2 2 fW ∗ inFlight c 3 3 fW)
            ∗ ((∃ f, toRes c 10 vXc mXc f fXc 1664 Lxc) ∗ (∃ f, toRes c 11 vXs mXs f fXs 16 Lxs))
            ∗ ∃ W, owes (c : Thread nD τ) 0 W) -∗ R K))
        ⊢ wp frame (wpE (defs₀ (F := F)) Variants.none (c : Thread nD τ) none) Set.univ (bodyAt0 (F := F) t0_0) K

/-- What the rest of the body does, as `restRun` states it. -/
def RestSpec (D : Data F c) (fW : Bf (F := F) c mW) (fO : Bf (F := F) c mOut) (σ : St F c) (callow : Bf (F := F) c vCallow)
    (Lout : List (View.Piece (Elt F) S12x1x50257 .f32)) (Llse : List (View.Piece (Elt F) S1x12 .f32)) (Lclp : List (View.Piece (Elt F) S12x1x20 .f32)) (R : (PUnit.{1} → sProp 𝕄) → sProp 𝕄) : Prop :=
      ∀ (fLse : Bf (F := F) c mLse) (fClp : Bf (F := F) c mClp) (fXc : Bf (F := F) c mXc) (fXs : Bf (F := F) c mXs) (fV : Bf (F := F) c vOut) (K : PUnit.{1} → sProp 𝕄),
        iprop((bigSep (Ring.rangeSet 28 0 (0 + 4)) (ringAt D) ∗ bigSep (Ring.rangeSet 24 0 0) (wAt D)
              ∗ bigSep (Ring.rangeSet 24 (0 + 4) 24) (wAt D) ∗ tailAt D 0
              ∗ batch D 0 0 ∗ bigSep (Ring.rangeSet 24 0 24) (vAt (F := F) c) ∗ bigSep (Ring.rangeSet 24 0 24) (oAt D)
              ∗ stP σ ∗ fixed D ∗ ∃ W, owes (c : Thread nD τ) 0 W)
            ∗ (vOut.view.loc (c : Thread nD τ) ↦[vOut.view.setOn outTR.set]{fullShare} fV)
            ∗ (mOut.view.loc (c : Thread nD τ) ↦[mOut.view.setOn outTR.set]{fullShare} fO)
            ∗ (pt c mLse fLse ∗ pt c mClp fClp ∗ any c vLse ∗ any c vClp)
            ∗ pt c vCallow callow
            ∗ (zero c 12 ∗ zero c 13 ∗ zero c 14)
            ∗ ((∃ f, toRes c 10 vXc mXc f fXc 1664 Lxc) ∗ (∃ f, toRes c 11 vXs mXs f fXs 16 Lxs))
            ∗ (iprop((bigSep (Ring.rangeSet 28 24 (24 + 4)) (ringAt D) ∗ bigSep (Ring.rangeSet 24 0 24) (wAt D)
                  ∗ (tailW.view.loc (c : Thread nD τ) ↦[tailW.view.set]{fullShare} fW))
                ∗ (any c vM ∗ any c vS ∗ any c vClog ∗ any c vXq ∗ any c vXsb ∗ any c vWs ∗ any c vWords ∗ any c vCid ∗ any c vTail ∗ any c vCallow ∗ any c vXc ∗ any c vXs ∗ any c vLse ∗ any c vClp)
                ∗ (zero c 8 ∗ zero c 9 ∗ zero c 10 ∗ zero c 11 ∗ zero c 12 ∗ zero c 13 ∗ zero c 14)
                ∗ (bigSep Finset.univ (outD D) ∗ (∃ f : Bf (F := F) c vOut, vOut.view.loc (c : Thread nD τ) ↦[vOut.view.setOn outTR.set]{fullShare} f)
                  ∗ (mOut.view.loc (c : Thread nD τ) ↦[mOut.view.setOn outTR.set]{fullShare}
                    mOut.view.writes (Elt F) fO [⟨outTR, ReadAs.same.apply (tailV.view.read (Elt F) (vOut.view.writes (Elt F) fV Lout))⟩]))
                ∗ ((∃ f, res c vXc mXc f Lxc) ∗ (∃ f, res c vXs mXs f Lxs) ∗ (∃ f, res c vLse mLse f Llse) ∗ (∃ f, res c vClp mClp f Lclp))
                ∗ ∃ W, owes (c : Thread nD τ) 0 W) -∗ K ⟨⟩))
        ⊢ R K

/-- What a result holds at the end: what the pieces `L` make of the kernel's buffer. -/
def resG (c : Dev nD) {S : Shape} {e : EltTy} (V : Memref sig .tc .vmem S e) (M : Memref sig .tc .hbm S e) (L : List (View.Piece (Elt F) S e)) : Bf (F := F) c M :=
  M.view.writes (Elt F) M.view.junk [⟨Rect.whole S, ReadAs.same.apply (V.view.read (Elt F) (V.view.writes (Elt F) V.view.junk L))⟩]
/-- The masked logits at the end: the slabs' and the tail's. -/
def outG {c : Dev nD} (D : Data F c) (Lout : List (View.Piece (Elt F) S12x1x50257 .f32)) : Bf (F := F) c mOut :=
  glue c mOut (fun b : Fin 24 => (outR b).set)
    (fun b => (slabO b).view.writes (Elt F) D.fO [⟨Rect.whole S12x1x2048, ReadAs.same.apply ((slabV b).view.read (Elt F) (slabC D (trip b)))⟩])
    (mOut.view.writes (Elt F) D.fO [⟨outTR, ReadAs.same.apply (tailV.view.read (Elt F) (vOut.view.writes (Elt F) vOut.view.junk Lout))⟩])

theorem res_eq (c : Dev nD) {S : Shape} {e : EltTy} (V : Memref sig .tc .vmem S e) (M : Memref sig .tc .hbm S e) (L : List (View.Piece (Elt F) S e))
    (h : ∀ y, ∃ p ∈ L, y ∈ p.1.set) (f : Bf (F := F) c V) : (res c V M f L : sProp 𝕄) = pt c M (resG c V M L) := by
  unfold res resG
  rw [View.read_writes_of_cover V.view f V.view V.view.junk L h]

theorem outTR_emb (y : S12x1x1105.Idx) : outTR.emb y ∈ outTR.set := by
  rw [mem_outTR]; exact Nat.le_add_right _ _

theorem tail_read (c : Dev nD) (L : List (View.Piece (Elt F) S12x1x50257 .f32)) (h : ∀ y ∈ outTR.set, ∃ p ∈ L, y ∈ p.1.set) (f : Bf (F := F) c vOut) :
    tailV.view.read (Elt F) (vOut.view.writes (Elt F) f L) = tailV.view.read (Elt F) (vOut.view.writes (Elt F) vOut.view.junk L) := by
  funext y
  exact View.read_writes_apply_eq vOut.view f vOut.view vOut.view.junk (outTR.emb y) L (h _ (outTR_emb y))

variable {c} (D : Data F c)
theorem wAt_eq (b : Fin 24) : wAt D b = (mW.view.loc (c : Thread nD τ) ↦[mW.view.setOn (slabWR b).set]{fullShare} D.fW : sProp 𝕄) := by
  unfold wAt; rw [slabW_set]; rfl
theorem oAt_eq (b : Fin 24) : oAt D b = (mOut.view.loc (c : Thread nD τ) ↦[mOut.view.setOn (outR b).set]{fullShare} D.fO : sProp 𝕄) := by
  unfold oAt; rw [slabO_set]; rfl
theorem tailW_eq (fW : Bf (F := F) c mW) : (own c tailW fW : sProp 𝕄) = (mW.view.loc (c : Thread nD τ) ↦[mW.view.setOn tailWR.set]{fullShare} fW) := by
  unfold own; rw [tailW_set]; rfl
theorem slotV_eq (s : Fin 4) (f : Bf (F := F) c vRing) : ((slotV s).view.loc (c : Thread nD τ) ↦[(slotV s).view.set]{fullShare} f : sProp 𝕄)
    = (vRing.view.loc (c : Thread nD τ) ↦[vRing.view.setOn (slotR s).set]{fullShare} f) := by
  rw [slotV_set]; rfl
theorem outD_eq (b : Fin 24) : outD D b = iprop((mOut.view.loc (c : Thread nD τ) ↦[mOut.view.setOn (outR b).set]{fullShare}
      (slabO b).view.writes (Elt F) D.fO [⟨Rect.whole S12x1x2048, ReadAs.same.apply ((slabV b).view.read (Elt F) (slabC D (trip b)))⟩])
    ∗ (vOut.view.loc (c : Thread nD τ) ↦[vOut.view.setOn (outR b).set]{fullShare} slabC D (trip b))) := by
  unfold outD; rw [slabO_set, slabV_set']; rfl

/-- Four of anything, one by one. -/
theorem bigSep_four (Φ : Fin 4 → sProp 𝕄) : bigSep Finset.univ Φ = iprop(Φ 0 ∗ Φ 1 ∗ Φ 2 ∗ Φ 3 ∗ BI.emp) := by
  rw [← Ring.rangeSet_univ, Ring.bigSep_rangeSet_head (by decide) (by decide), Ring.bigSep_rangeSet_head (by decide) (by decide),
    Ring.bigSep_rangeSet_head (by decide) (by decide), Ring.bigSep_rangeSet_head (by decide) (by decide), Ring.bigSep_rangeSet_empty (by decide)]
  rfl

theorem blocks_unsplit {sp : Space} {S : Shape} {e : EltTy} (M : Memref sig .tc sp S e) {n : ℕ} (Q : Fin n → Finset S.Idx) (T : Finset S.Idx)
    (hd : ∀ b b', b ≠ b' → Disjoint (Q b) (Q b')) (ht : ∀ b, Disjoint (Q b) T) (hc : ∀ i, (∃ b, i ∈ Q b) ∨ i ∈ T) (f : Bf (F := F) c M) :
    iprop((bigSep Finset.univ fun b => M.view.loc (c : Thread nD τ) ↦[M.view.setOn (Q b)]{fullShare} f)
      ∗ (M.view.loc (c : Thread nD τ) ↦[M.view.setOn T]{fullShare} f)) ⊢ (pt c M f : sProp 𝕄) := by
  unfold pt
  rw [← union_set c M Q T hc, ← blocks_eq c M Q hd f]
  exact (pointsTo_union (union_rest c M Q T ht)).2

theorem wAll_eq : bigSep (Ring.rangeSet 24 0 24) (wAt D) = bigSep Finset.univ fun b : Fin 24 => (mW.view.loc (c : Thread nD τ) ↦[mW.view.setOn (slabWR b).set]{fullShare} D.fW : sProp 𝕄) := by
  rw [Ring.rangeSet_univ]; exact BI.bigSep_congr fun b _ => wAt_eq D b
/-- The weights as slabs and a tail. -/
theorem w_split : (pt c mW D.fW : sProp 𝕄) ⊢ iprop(bigSep (Ring.rangeSet 24 0 24) (wAt D) ∗ own c tailW D.fW) := by
  rw [wAll_eq, tailW_eq]; exact blocks_split c mW _ _ slabWR_disjoint slabWR_tail slabWR_cover _
theorem w_join : iprop(bigSep (Ring.rangeSet 24 0 24) (wAt D) ∗ own c tailW D.fW) ⊢ (pt c mW D.fW : sProp 𝕄) := by
  rw [wAll_eq, tailW_eq]; exact blocks_unsplit mW _ _ slabWR_disjoint slabWR_tail slabWR_cover _
/-- The first four slabs, one by one. -/
theorem w_head : bigSep (Ring.rangeSet 24 0 24) (wAt D) = iprop(wAt D 0 ∗ wAt D 1 ∗ wAt D 2 ∗ wAt D 3 ∗ bigSep (Ring.rangeSet 24 (0 + 4) 24) (wAt D)) := by
  rw [Ring.bigSep_rangeSet_head (by decide) (by decide), Ring.bigSep_rangeSet_head (by decide) (by decide),
    Ring.bigSep_rangeSet_head (by decide) (by decide), Ring.bigSep_rangeSet_head (by decide) (by decide)]
  rfl
/-- The result's slabs and tail. -/
theorem o_split : (pt c mOut D.fO : sProp 𝕄) ⊢ iprop(bigSep (Ring.rangeSet 24 0 24) (oAt D) ∗ (mOut.view.loc (c : Thread nD τ) ↦[mOut.view.setOn outTR.set]{fullShare} D.fO)) := by
  rw [Ring.rangeSet_univ, BI.bigSep_congr fun b _ => oAt_eq D b]; exact blocks_split c mOut _ _ outR_disjoint outR_tail outR_cover _
theorem v_split (f : Bf (F := F) c vOut) : (pt c vOut f : sProp 𝕄) ⊢ iprop(bigSep (Ring.rangeSet 24 0 24) (vAt (F := F) c) ∗ (vOut.view.loc (c : Thread nD τ) ↦[vOut.view.setOn outTR.set]{fullShare} f)) := by
  rw [Ring.rangeSet_univ]
  exact (blocks_split c vOut _ _ outR_disjoint outR_tail outR_cover f).trans (sep_mono (BI.bigSep_mono fun b _ => exists_intro (Φ := fun f : Bf (F := F) c vOut => (vOut.view.loc (c : Thread nD τ) ↦[vOut.view.setOn (outR b).set]{fullShare} f : sProp 𝕄)) f) .rfl)
theorem outAll_eq : bigSep Finset.univ (outD D) = iprop((bigSep Finset.univ fun b : Fin 24 => (mOut.view.loc (c : Thread nD τ) ↦[mOut.view.setOn (outR b).set]{fullShare}
      (slabO b).view.writes (Elt F) D.fO [⟨Rect.whole S12x1x2048, ReadAs.same.apply ((slabV b).view.read (Elt F) (slabC D (trip b)))⟩] : sProp 𝕄))
    ∗ (bigSep Finset.univ fun b : Fin 24 => (vOut.view.loc (c : Thread nD τ) ↦[vOut.view.setOn (outR b).set]{fullShare} slabC D (trip b) : sProp 𝕄))) :=
  (BI.bigSep_congr fun b _ => outD_eq D b).trans (BI.bigSep_sep _ _ _)
/-- The slabs and the tail make up the result, and the kernel's buffer of it. -/
theorem out_join (Lout : List (View.Piece (Elt F) S12x1x50257 .f32)) :
    iprop(bigSep Finset.univ (outD D) ∗ (∃ f : Bf (F := F) c vOut, vOut.view.loc (c : Thread nD τ) ↦[vOut.view.setOn outTR.set]{fullShare} f)
      ∗ (mOut.view.loc (c : Thread nD τ) ↦[mOut.view.setOn outTR.set]{fullShare}
        mOut.view.writes (Elt F) D.fO [⟨outTR, ReadAs.same.apply (tailV.view.read (Elt F) (vOut.view.writes (Elt F) vOut.view.junk Lout))⟩]))
      ⊢ iprop(pt c mOut (outG D Lout) ∗ any c vOut) := by
  rw [outAll_eq]
  iintro ⟨⟨HO, HV⟩, ⟨%f, HVt⟩, HOt⟩
  isplitl [HO HOt]
  · iapply (blocks_glue c mOut (fun b : Fin 24 => (outR b).set) outTR.set outR_disjoint outR_tail outR_cover)
    isplitl [HO]; · iexact HO
    iexact HOt
  · iexists _
    iapply (blocks_glue c vOut (fun b : Fin 24 => (outR b).set) outTR.set outR_disjoint outR_tail outR_cover)
    isplitl [HV]; · iexact HV
    iexact HVt

theorem slotCell_eq (s : Fin 4) : slotCell s = SemLoc.dma (⟨4 + s.val, Nat.lt_of_lt_of_le (Nat.add_lt_add_left s.isLt 4) (by decide)⟩ : Fin 15) := by revert s; decide
/-- The ring as its four slots. -/
theorem ring_split : iprop(any (F := F) c vRing ∗ zero c 4 ∗ zero c 5 ∗ zero c 6 ∗ zero c 7)
    ⊢ (iprop((slotFree (F := F) c 0 ∗ slotFree c 1 ∗ slotFree c 2 ∗ slotFree c 3) ∗ (∃ f : Bf (F := F) c vRing, vRing.view.loc (c : Thread nD τ) ↦[vRing.view.setOn ∅]{fullShare} f)) : sProp 𝕄) := by
  unfold slotFree
  rw [slotCell_eq, slotCell_eq, slotCell_eq, slotCell_eq]
  iintro ⟨⟨%f, H⟩, H4, H5, H6, H7⟩
  ihave H := (blocks_split c vRing (fun s : Fin 4 => (slotR s).set) ∅ slotR_disjoint (fun _ => Finset.disjoint_empty_right _) slotR_cover f) $$ H
  rw [bigSep_four]
  icases H with ⟨⟨A, B, C, D, -⟩, T⟩
  isplitr [T]
  · isplitl [A H4]
    · isplitl [A]
      · iexists f; rw [slotV_eq]; iexact A
      · iexact H4
    isplitl [B H5]
    · isplitl [B]
      · iexists f; rw [slotV_eq]; iexact B
      · iexact H5
    isplitl [C H6]
    · isplitl [C]
      · iexists f; rw [slotV_eq]; iexact C
      · iexact H6
    isplitl [D]
    · iexists f; rw [slotV_eq]; iexact D
    · iexact H7
  · iexists f; iexact T
theorem ring_join : (iprop((slotFree (F := F) c 0 ∗ slotFree c 1 ∗ slotFree c 2 ∗ slotFree c 3) ∗ (∃ f : Bf (F := F) c vRing, vRing.view.loc (c : Thread nD τ) ↦[vRing.view.setOn ∅]{fullShare} f)) : sProp 𝕄)
    ⊢ iprop(any (F := F) c vRing ∗ zero c 4 ∗ zero c 5 ∗ zero c 6 ∗ zero c 7) := by
  unfold slotFree
  rw [slotCell_eq, slotCell_eq, slotCell_eq, slotCell_eq]
  iintro ⟨⟨⟨⟨%f0, A⟩, H4⟩, ⟨⟨%f1, B⟩, H5⟩, ⟨⟨%f2, C⟩, H6⟩, ⟨⟨%f3, D⟩, H7⟩⟩, ⟨%f, T⟩⟩
  ihave A := (Entails.of_eq (slotV_eq 0 f0)) $$ A
  ihave B := (Entails.of_eq (slotV_eq 1 f1)) $$ B
  ihave C := (Entails.of_eq (slotV_eq 2 f2)) $$ C
  ihave D := (Entails.of_eq (slotV_eq 3 f3)) $$ D
  isplitr [H4 H5 H6 H7]
  · iexists _
    iapply (blocks_glue c vRing (fun s : Fin 4 => (slotR s).set) ∅ slotR_disjoint (fun _ => Finset.disjoint_empty_right _) slotR_cover ![f0, f1, f2, f3] f)
    rw [bigSep_four]
    isplitr [T]
    · isplitl [A]; · iexact A
      isplitl [B]; · iexact B
      isplitl [C]; · iexact C
      isplitl [D]; · iexact D
      iempintro
    · iexact T
  · isplitl [H4]; · iexact H4
    isplitl [H5]; · iexact H5
    isplitl [H6]; · iexact H6
    iexact H7
theorem ringAt_of (b : Fin 28) (s : Fin 4) (b' : Fin 24) (hs : bSlot b = s) (hb : b.val = b'.val) : ringAt D b = inFlight c s b' D.fW := by
  subst hs
  have e : b' = ⟨b.val, hb ▸ b'.isLt⟩ := Fin.ext hb.symm
  rw [e]
  exact dif_pos _
theorem ringAt_free (b : Fin 28) (s : Fin 4) (hs : bSlot b = s) (hb : 24 ≤ b.val) : ringAt D b = slotFree c s := by
  subst hs
  exact dif_neg (Nat.not_lt.mpr hb)
theorem ring_in : iprop(inFlight c 0 0 D.fW ∗ inFlight c 1 1 D.fW ∗ inFlight c 2 2 D.fW ∗ inFlight c 3 3 D.fW) ⊢ bigSep (Ring.rangeSet 28 0 (0 + 4)) (ringAt D) := by
  rw [Ring.bigSep_rangeSet_head (by decide) (by decide), Ring.bigSep_rangeSet_head (by decide) (by decide),
    Ring.bigSep_rangeSet_head (by decide) (by decide), Ring.bigSep_rangeSet_head (by decide) (by decide), Ring.bigSep_rangeSet_empty (by decide)]
  rw [show ringAt D ⟨0, by decide⟩ = inFlight c 0 0 D.fW from ringAt_of D _ _ _ (by decide) (by decide), show ringAt D ⟨0 + 1, by decide⟩ = inFlight c 1 1 D.fW from ringAt_of D _ _ _ (by decide) (by decide),
    show ringAt D ⟨0 + 1 + 1, by decide⟩ = inFlight c 2 2 D.fW from ringAt_of D _ _ _ (by decide) (by decide), show ringAt D ⟨0 + 1 + 1 + 1, by decide⟩ = inFlight c 3 3 D.fW from ringAt_of D _ _ _ (by decide) (by decide)]
  iintro ⟨A, B, C, D⟩
  isplitl [A]; · iexact A
  isplitl [B]; · iexact B
  isplitl [C]; · iexact C
  isplitl [D]; · iexact D
  iempintro
theorem ring_out : bigSep (Ring.rangeSet 28 24 (24 + 4)) (ringAt D) ⊢ iprop(slotFree (F := F) c 0 ∗ slotFree c 1 ∗ slotFree c 2 ∗ slotFree c 3) := by
  rw [Ring.bigSep_rangeSet_head (by decide) (by decide), Ring.bigSep_rangeSet_head (by decide) (by decide),
    Ring.bigSep_rangeSet_head (by decide) (by decide), Ring.bigSep_rangeSet_head (by decide) (by decide), Ring.bigSep_rangeSet_empty (by decide)]
  rw [show ringAt D ⟨24, by decide⟩ = slotFree c 0 from ringAt_free D _ _ (by decide) (by decide), show ringAt D ⟨24 + 1, by decide⟩ = slotFree c 1 from ringAt_free D _ _ (by decide) (by decide),
    show ringAt D ⟨24 + 1 + 1, by decide⟩ = slotFree c 2 from ringAt_free D _ _ (by decide) (by decide), show ringAt D ⟨24 + 1 + 1 + 1, by decide⟩ = slotFree c 3 from ringAt_free D _ _ (by decide) (by decide)]
  iintro ⟨A, B, C, D, -⟩
  isplitl [A]; · iexact A
  isplitl [B]; · iexact B
  isplitl [C]; · iexact C
  iexact D

/-! ## The whole body -/

variable {Lws Lxq Lwords Lcid Lxsb Lm Ls Lclog Lcallow Lxc Lxs} {fX fWs fBm fCand}

/-- The contents the beginning leaves for the loops. -/
abbrev datR (fW : Bf (F := F) c mW) (fO : Bf (F := F) c mOut) (Lxq : List (View.Piece (Elt F) S32x1600 .fp8e4m3)) (Lxsb : List (View.Piece (Elt F) S12x128 .f32)) (Lws : List (View.Piece (Elt F) S50257 .f32))
    (Lwords : List (View.Piece (Elt F) S12x1664 .i32)) (Lcid : List (View.Piece (Elt F) S12x128 .i32)) : Data F c :=
  ⟨shrsi proRun.sl.v369 proRun.sl.v150, proRun.sl.v375, fW, vXq.view.writes (Elt F) vXq.view.junk Lxq, vXsb.view.writes (Elt F) vXsb.view.junk Lxsb,
    vWs.view.writes (Elt F) vWs.view.junk Lws, vWords.view.writes (Elt F) vWords.view.junk Lwords, vCid.view.writes (Elt F) vCid.view.junk Lcid, fO⟩
abbrev stR (Lm Ls Lclog : List (View.Piece (Elt F) S12x128 .f32)) : St F c :=
  ⟨vM.view.writes (Elt F) vM.view.junk Lm, vS.view.writes (Elt F) vS.view.junk Ls, vClog.view.writes (Elt F) vClog.view.junk Lclog⟩

variable {fW : Bf (F := F) c mW} {fO : Bf (F := F) c mOut} {D} {σ : St F c}

/-- Elements of a buffer may be kept in an invariant. -/
theorem pts_storable (ℓ : Loc nD τ sig) (I : Finset (Idx ℓ)) (f : Buf (Elt F) ℓ) : BI.Storable (upEmb : UEmb _ 𝕄) (ℓ ↦[I]{fullShare} f : sProp 𝕄) := inferInstance
theorem sep_storable (P Q : sProp 𝕄) (hP : BI.Storable (upEmb : UEmb _ 𝕄) P) (hQ : BI.Storable (upEmb : UEmb _ 𝕄) Q) : BI.Storable (upEmb : UEmb _ 𝕄) (iprop(P ∗ Q) : sProp 𝕄) := inferInstance
/-- So may what a slab's transfer delivers. -/
theorem outD_storable (D : Data F c) (t : Fin 24) : BI.Storable (upEmb : UEmb _ 𝕄) (outD D t) :=
  sep_storable _ _ (pts_storable _ _ _) (pts_storable _ _ _)

/-- The transfers of the logits' slabs, none begun. -/
theorem batch_begin (D : Data F c) : (zero c 9 : sProp 𝕄) ⊢ |={Set.univ}[frame]=> batch D 0 0 :=
  @Transfers.batch_alloc' nD τ sig Unit _ (Elt F) ℕ _ (Pipeline.UD sig nD τ) _ ℕ (countersEmb (U := Pipeline.UD sig nD τ)) _ (c : Thread nD τ) 24 _ _ outCell () NN (outD D) (fun t => outD_storable D t) Set.univ

set_option maxHeartbeats 1000000 in
/-- The whole body: it gives back its arguments, its buffers at some contents and its cells at zero, and leaves the
    results at the contents named. -/
theorem whole {R : (PUnit.{1} → sProp 𝕄) → sProp 𝕄} (hP : ProSpec c fX fWs fBm fCand Lws Lxq Lwords Lcid Lxsb Lm Ls Lclog Lcallow Lxc Lxs R)
    (hD : D = datR fW fO Lxq Lxsb Lws Lwords Lcid) (hσ : σ = stR Lm Ls Lclog)
    {Lout : List (View.Piece (Elt F) S12x1x50257 .f32)} {Llse : List (View.Piece (Elt F) S1x12 .f32)} {Lclp : List (View.Piece (Elt F) S12x1x20 .f32)}
    (hR : RestSpec c Lxc Lxs D fW fO σ (vCallow.view.writes (Elt F) vCallow.view.junk Lcallow) Lout Llse Lclp R)
    (hout : ∀ y ∈ outTR.set, ∃ p ∈ Lout, y ∈ p.1.set) (hlse : ∀ y, ∃ p ∈ Llse, y ∈ p.1.set) (hclp : ∀ y, ∃ p ∈ Lclp, y ∈ p.1.set)
    (hxc : ∀ y, ∃ p ∈ Lxc, y ∈ p.1.set) (hxs : ∀ y, ∃ p ∈ Lxs, y ∈ p.1.set)
    (fLse : Bf (F := F) c mLse) (fClp : Bf (F := F) c mClp) (fXc : Bf (F := F) c mXc) (fXs : Bf (F := F) c mXs) (W : Waits sig Unit) (K : PUnit.{1} → sProp 𝕄) :
    iprop((pt c mX fX ∗ pt c mW fW ∗ pt c mWs fWs ∗ pt c mBm fBm ∗ pt c mCand fCand)
        ∗ (pt c mOut fO ∗ pt c mLse fLse ∗ pt c mClp fClp ∗ pt c mXc fXc ∗ pt c mXs fXs)
        ∗ (any c vX ∗ any c vWs ∗ any c vBm ∗ any c vCand ∗ any c vRing ∗ any c vTail ∗ any c vOut ∗ any c vXq ∗ any c vXc ∗ any c vWords ∗ any c vCid ∗ any c vXsb
          ∗ any c vM ∗ any c vS ∗ any c vClog ∗ any c vCallow ∗ any c vLse ∗ any c vClp ∗ any c vXs)
        ∗ (zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14)
        ∗ owes (c : Thread nD τ) 0 W
        ∗ (iprop((pt c mX fX ∗ pt c mW fW ∗ pt c mWs fWs ∗ pt c mBm fBm ∗ pt c mCand fCand)
          ∗ (pt c mOut (outG D Lout) ∗ pt c mLse (resG c vLse mLse Llse) ∗ pt c mClp (resG c vClp mClp Lclp) ∗ pt c mXc (resG c vXc mXc Lxc) ∗ pt c mXs (resG c vXs mXs Lxs))
          ∗ (any c vX ∗ any c vWs ∗ any c vBm ∗ any c vCand ∗ any c vRing ∗ any c vTail ∗ any c vOut ∗ any c vXq ∗ any c vXc ∗ any c vWords ∗ any c vCid ∗ any c vXsb
            ∗ any c vM ∗ any c vS ∗ any c vClog ∗ any c vCallow ∗ any c vLse ∗ any c vClp ∗ any c vXs)
          ∗ (zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14)
          ∗ ∃ W, owes (c : Thread nD τ) 0 W) -∗ K ⟨⟩))
      ⊢ wp frame (wpE (defs₀ (F := F)) Variants.none (c : Thread nD τ) none) Set.univ (bodyAt0 (F := F) t0_0) K := by
  have eW : D.fW = fW := by rw [hD]
  have eO : D.fO = fO := by rw [hD]
  have eF : fixed D = iprop(pt c vXq (vXq.view.writes (Elt F) vXq.view.junk Lxq) ∗ pt c vXsb (vXsb.view.writes (Elt F) vXsb.view.junk Lxsb)
    ∗ pt c vWs (vWs.view.writes (Elt F) vWs.view.junk Lws) ∗ pt c vWords (vWords.view.writes (Elt F) vWords.view.junk Lwords) ∗ pt c vCid (vCid.view.writes (Elt F) vCid.view.junk Lcid)) := by rw [hD]
  have eS : stP σ = iprop(pt c vM (vM.view.writes (Elt F) vM.view.junk Lm) ∗ pt c vS (vS.view.writes (Elt F) vS.view.junk Ls) ∗ pt c vClog (vClog.view.writes (Elt F) vClog.view.junk Lclog)) := by rw [hσ]
  clear hD hσ
  unfold ProSpec at hP
  unfold RestSpec at hR
  subst eW eO
  iintro ⟨⟨HX, HW, HWs, HBm, HCand⟩, ⟨HOut, HLse, HClp, HXc, HXs⟩,
    ⟨Hx, Hws, Hbm, Hcand, Hring, Htail, ⟨%fV, Hv⟩, Hxq, Hxc, Hwords, Hcid, Hxsb, Hm, Hs, Hclog, Hcallow, Hlse, Hclp, Hxs⟩,
    ⟨C0, C1, C2, C3, C4, C5, C6, C7, C8, C9, C10, C11, C12, C13, C14⟩, HO, Hk⟩
  imod (batch_begin D) $$ C9 with HB
  ihave HW := (w_split D) $$ HW
  icases HW with ⟨HW, HT⟩
  ihave HW := (Entails.of_eq (w_head D)) $$ HW
  icases HW with ⟨W0, W1, W2, W3, HW⟩
  ihave HOut := (o_split D) $$ HOut
  icases HOut with ⟨HOut, HOt⟩
  ihave Hv := (v_split fV) $$ Hv
  icases Hv with ⟨Hv, Hvt⟩
  ihave Hring := (ring_split (F := F) (c := c)) $$ [Hring C4 C5 C6 C7]
  · isplitl [Hring]; · iexact Hring
    isplitl [C4]; · iexact C4
    isplitl [C5]; · iexact C5
    isplitl [C6]; · iexact C6
    iexact C7
  icases Hring with ⟨Hring, HRE⟩
  iapply (hP D.fW fXc fXs W K)
  isplitl [HX HWs HBm HCand HXc HXs Hx Hws Hbm Hcand Hxq Hxc Hwords Hcid Hxsb Hm Hs Hclog Hcallow Hxs C0 C1 C2 C3 C10 C11 W0 W1 W2 W3 Hring HO]
  · isplitl [HX HWs HBm HCand HXc HXs]
    · isplitl [HX]; · iexact HX
      isplitl [HWs]; · iexact HWs
      isplitl [HBm]; · iexact HBm
      isplitl [HCand]; · iexact HCand
      isplitl [HXc]; · iexact HXc
      iexact HXs
    isplitl [Hx Hws Hbm Hcand Hxq Hxc Hwords Hcid Hxsb Hm Hs Hclog Hcallow Hxs]
    · isplitl [Hx]; · iexact Hx
      isplitl [Hws]; · iexact Hws
      isplitl [Hbm]; · iexact Hbm
      isplitl [Hcand]; · iexact Hcand
      isplitl [Hxq]; · iexact Hxq
      isplitl [Hxc]; · iexact Hxc
      isplitl [Hwords]; · iexact Hwords
      isplitl [Hcid]; · iexact Hcid
      isplitl [Hxsb]; · iexact Hxsb
      isplitl [Hm]; · iexact Hm
      isplitl [Hs]; · iexact Hs
      isplitl [Hclog]; · iexact Hclog
      isplitl [Hcallow]; · iexact Hcallow
      iexact Hxs
    isplitl [C0 C1 C2 C3 C10 C11]
    · isplitl [C0]; · iexact C0
      isplitl [C1]; · iexact C1
      isplitl [C2]; · iexact C2
      isplitl [C3]; · iexact C3
      isplitl [C10]; · iexact C10
      iexact C11
    isplitl [W0 W1 W2 W3]
    · isplitl [W0]; · iexact W0
      isplitl [W1]; · iexact W1
      isplitl [W2]; · iexact W2
      iexact W3
    isplitl [Hring]; · iexact Hring
    iexact HO
  iintro ⟨⟨HX, HWs, HBm, HCand⟩, ⟨Hx, Hbm, Hcand⟩, ⟨Hws, Hxq, Hwords, Hcid, Hxsb, Hm, Hs, Hclog, Hcallow⟩, ⟨C0, C1, C2, C3⟩, Hring, Hfl, HO⟩
  ihave Hring := (ring_in D) $$ Hring
  iapply (hR fLse fClp fXc fXs fV K)
  rw [eF, eS]
  isplitl [Hring HW HT C8 Htail HB Hv HOut Hm Hs Hclog Hxq Hxsb Hws Hwords Hcid HO]
  · isplitl [Hring]; · iexact Hring
    isplitr
    · rw [Ring.bigSep_rangeSet_empty (by decide)]; iempintro
    isplitl [HW]; · iexact HW
    isplitl [HT C8 Htail]
    · rw [show tailAt D 0 = tailFree c D.fW from if_pos (by decide)]
      isplitl [Htail]; · iexact Htail
      isplitl [HT]; · iexact HT
      iexact C8
    isplitl [HB]; · iexact HB
    isplitl [Hv]; · iexact Hv
    isplitl [HOut]; · iexact HOut
    isplitl [Hm Hs Hclog]
    · isplitl [Hm]; · iexact Hm
      isplitl [Hs]; · iexact Hs
      iexact Hclog
    isplitl [Hxq Hxsb Hws Hwords Hcid]
    · isplitl [Hxq]; · iexact Hxq
      isplitl [Hxsb]; · iexact Hxsb
      isplitl [Hws]; · iexact Hws
      isplitl [Hwords]; · iexact Hwords
      iexact Hcid
    iexact HO
  isplitl [Hvt]; · iexact Hvt
  isplitl [HOt]; · iexact HOt
  isplitl [HLse HClp Hlse Hclp]
  · isplitl [HLse]; · iexact HLse
    isplitl [HClp]; · iexact HClp
    isplitl [Hlse]; · iexact Hlse
    iexact Hclp
  isplitl [Hcallow]; · iexact Hcallow
  isplitl [C12 C13 C14]
  · isplitl [C12]; · iexact C12
    isplitl [C13]; · iexact C13
    iexact C14
  isplitl [Hfl]; · iexact Hfl
  rw [tail_read c Lout hout fV]
  iintro ⟨⟨Hring, HW, HT⟩, ⟨Hm, Hs, Hclog, Hxq, Hxsb, Hws, Hwords, Hcid, Htail, Hcallow, Hxc, Hxs, Hlse, Hclp⟩, ⟨C8, C9, C10, C11, C12, C13, C14⟩, HOut, ⟨⟨%g1, HXc⟩, ⟨%g2, HXs⟩, ⟨%g3, HLse⟩, ⟨%g4, HClp⟩⟩, HO⟩
  ihave HXc := (Entails.of_eq (res_eq c vXc mXc Lxc hxc g1)) $$ HXc
  ihave HXs := (Entails.of_eq (res_eq c vXs mXs Lxs hxs g2)) $$ HXs
  ihave HLse := (Entails.of_eq (res_eq c vLse mLse Llse hlse g3)) $$ HLse
  ihave HClp := (Entails.of_eq (res_eq c vClp mClp Lclp hclp g4)) $$ HClp
  ihave HOut := (out_join D Lout) $$ HOut
  icases HOut with ⟨HOut, Hv⟩
  ihave HW := (w_join D) $$ [HW HT]
  · isplitl [HW]; · iexact HW
    iexact HT
  ihave Hring := (ring_out D) $$ Hring
  ihave Hring := (ring_join (F := F) (c := c)) $$ [Hring HRE]
  · isplitl [Hring]; · iexact Hring
    iexact HRE
  icases Hring with ⟨Hring, C4, C5, C6, C7⟩
  iapply Hk
  isplitl [HX HW HWs HBm HCand]
  · isplitl [HX]; · iexact HX
    isplitl [HW]; · iexact HW
    isplitl [HWs]; · iexact HWs
    isplitl [HBm]; · iexact HBm
    iexact HCand
  isplitl [HOut HLse HClp HXc HXs]
  · isplitl [HOut]; · iexact HOut
    isplitl [HLse]; · iexact HLse
    isplitl [HClp]; · iexact HClp
    isplitl [HXc]; · iexact HXc
    iexact HXs
  isplitl [Hx Hws Hbm Hcand Hring Htail Hv Hxq Hxc Hwords Hcid Hxsb Hm Hs Hclog Hcallow Hlse Hclp Hxs]
  · isplitl [Hx]; · iexact Hx
    isplitl [Hws]; · iexact Hws
    isplitl [Hbm]; · iexact Hbm
    isplitl [Hcand]; · iexact Hcand
    isplitl [Hring]; · iexact Hring
    isplitl [Htail]; · iexact Htail
    isplitl [Hv]; · iexact Hv
    isplitl [Hxq]; · iexact Hxq
    isplitl [Hxc]; · iexact Hxc
    isplitl [Hwords]; · iexact Hwords
    isplitl [Hcid]; · iexact Hcid
    isplitl [Hxsb]; · iexact Hxsb
    isplitl [Hm]; · iexact Hm
    isplitl [Hs]; · iexact Hs
    isplitl [Hclog]; · iexact Hclog
    isplitl [Hcallow]; · iexact Hcallow
    isplitl [Hlse]; · iexact Hlse
    isplitl [Hclp]; · iexact Hclp
    iexact Hxs
  isplitl [C0 C1 C2 C3 C4 C5 C6 C7 C8 C9 C10 C11 C12 C13 C14]
  · isplitl [C0]; · iexact C0
    isplitl [C1]; · iexact C1
    isplitl [C2]; · iexact C2
    isplitl [C3]; · iexact C3
    isplitl [C4]; · iexact C4
    isplitl [C5]; · iexact C5
    isplitl [C6]; · iexact C6
    isplitl [C7]; · iexact C7
    isplitl [C8]; · iexact C8
    isplitl [C9]; · iexact C9
    isplitl [C10]; · iexact C10
    isplitl [C11]; · iexact C11
    isplitl [C12]; · iexact C12
    isplitl [C13]; · iexact C13
    iexact C14
  iexact HO

end Whole

end Cert.KernelIdeal.Hand
-- ==== Proof.KernelIdeal.Values.lean ====
/-
  What the body leaves in the results, and the body's statement at it.
-/
module

public import proofs.«01_k».proof.Proof.KernelIdeal.Body
public import Idealize.ShloMosaic.Lib.Pipeline.FrameBody
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## What the body leaves -/

section Values

variable (c : Dev nD) (fX : Bf (F := F) c mX) (fW : Bf (F := F) c mW) (fWs : Bf (F := F) c mWs) (fBm : Bf (F := F) c mBm) (fCand : Bf (F := F) c mCand) (fO : Bf (F := F) c mOut)

/-- The contents the loops find. -/
def datK : Data F c := datR (c := c) fW fO (proRun c fX fWs fBm fCand).2.1 (proRun c fX fWs fBm fCand).2.2.2.2.1 (proRun c fX fWs fBm fCand).1
  (proRun c fX fWs fBm fCand).2.2.1 (proRun c fX fWs fBm fCand).2.2.2.1
/-- The running maxima, sums and candidate logits the loops begin with. -/
def stK : St F c := stR (c := c) (proRun c fX fWs fBm fCand).2.2.2.2.2.1 (proRun c fX fWs fBm fCand).2.2.2.2.2.2.1 (proRun c fX fWs fBm fCand).2.2.2.2.2.2.2.1
/-- The candidates' allowed bits before the loops. -/
def callowK : Bf (F := F) c vCallow := vCallow.view.writes (Elt F) vCallow.view.junk (proRun c fX fWs fBm fCand).2.2.2.2.2.2.2.2.1
/-- The pieces written into the codes. -/
def xcL : List (View.Piece (Elt F) S12x1600 .fp8e4m3) := (proRun c fX fWs fBm fCand).2.2.2.2.2.2.2.2.2.1
/-- The pieces written into the scales. -/
def xsL : List (View.Piece (Elt F) S1x12 .f32) := (proRun c fX fWs fBm fCand).2.2.2.2.2.2.2.2.2.2.1
/-- The state after the loops. -/
def stN : St F c := stAt (datK c fX fW fWs fBm fCand fO) (stK c fX fWs fBm fCand) 24
/-- The rest of the body, at the contents the loops leave. -/
def restK := restRun c fW (datK c fX fW fWs fBm fCand fO).xq (datK c fX fW fWs fBm fCand fO).xsb (datK c fX fW fWs fBm fCand fO).ws (datK c fX fW fWs fBm fCand fO).words
  (datK c fX fW fWs fBm fCand fO).cid fO (stN c fX fW fWs fBm fCand fO) (callowK c fX fWs fBm fCand) (xcL c fX fWs fBm fCand) (xsL c fX fWs fBm fCand)
/-- The pieces written into the tail of the logits, into the log sums and into the candidates. -/
def outL : List (View.Piece (Elt F) S12x1x50257 .f32) := (restK c fX fW fWs fBm fCand fO).1
def lseL : List (View.Piece (Elt F) S1x12 .f32) := (restK c fX fW fWs fBm fCand fO).2.1
def clpL : List (View.Piece (Elt F) S12x1x20 .f32) := (restK c fX fW fWs fBm fCand fO).2.2.1

/-- The codes' one piece is the whole. -/
theorem xcL_rects : (xcL c fX fWs fBm fCand).map Sigma.fst = [Rect.unit (s := S12x1600) ![0, 0] S12x1600.size inb_S12x1600_S12x1600_0_0] := rfl
theorem xsL_rects : (xsL c fX fWs fBm fCand).map Sigma.fst = [Rect.unit (s := S1x12) ![0, 0] S1x12.size inb_S1x12_S1x12_0_0] := rfl
theorem lseL_rects : (lseL c fX fW fWs fBm fCand fO).map Sigma.fst = [Rect.unit (s := S1x12) ![0, 0] S1x12.size inb_S1x12_S1x12_0_0] := rfl
theorem clpL_rects : (clpL c fX fW fWs fBm fCand fO).map Sigma.fst = [Rect.unit (s := S12x1x20) ![0, 0, 0] S12x1x20.size inb_S12x1x20_S12x1x20_0_0_0] := rfl

/-- The tail's pieces: eight tiles of 128 columns and one of 81. -/
def tailRects : List (Rect S12x1x50257) := [Rect.unit (s := S12x1x50257) ![0, 0, 50176] S12x1x81.size inb_S12x1x50257_S12x1x81_0_0_50176,
  Rect.unit (s := S12x1x50257) ![0, 0, 50048] S12x1x128.size inb_S12x1x50257_S12x1x128_0_0_50048,
  Rect.unit (s := S12x1x50257) ![0, 0, 49920] S12x1x128.size inb_S12x1x50257_S12x1x128_0_0_49920,
  Rect.unit (s := S12x1x50257) ![0, 0, 49792] S12x1x128.size inb_S12x1x50257_S12x1x128_0_0_49792,
  Rect.unit (s := S12x1x50257) ![0, 0, 49664] S12x1x128.size inb_S12x1x50257_S12x1x128_0_0_49664,
  Rect.unit (s := S12x1x50257) ![0, 0, 49536] S12x1x128.size inb_S12x1x50257_S12x1x128_0_0_49536,
  Rect.unit (s := S12x1x50257) ![0, 0, 49408] S12x1x128.size inb_S12x1x50257_S12x1x128_0_0_49408,
  Rect.unit (s := S12x1x50257) ![0, 0, 49280] S12x1x128.size inb_S12x1x50257_S12x1x128_0_0_49280,
  Rect.unit (s := S12x1x50257) ![0, 0, 49152] S12x1x128.size inb_S12x1x50257_S12x1x128_0_0_49152]
theorem outL_rects : (outL c fX fW fWs fBm fCand fO).map Sigma.fst = tailRects := rfl

/-- One piece that is the whole covers. -/
theorem cover_one {S : Shape} {e : EltTy} (L : List (View.Piece (Elt F) S e)) (r : Rect S) (hL : L.map Sigma.fst = [r]) (hr : ∀ y, y ∈ r.set) : ∀ y, ∃ p ∈ L, y ∈ p.1.set := by
  intro y
  obtain ⟨p, hp, e⟩ := List.mem_map.mp (show r ∈ L.map Sigma.fst by rw [hL]; exact List.mem_singleton.mpr rfl)
  exact ⟨p, hp, e ▸ hr y⟩

theorem whole2 {n m : ℕ} {S : Shape} (hS : S = ⟨2, ![n, m]⟩) (h) (y : S.Idx) : y ∈ (Rect.unit (s := S) (hS ▸ ![0, 0]) S.size h).set := by
  subst hS; rw [Rect.mem_set_unit]; intro a; fin_cases a
  · exact ⟨Nat.zero_le _, by have := (y 0).isLt; simpa using this⟩
  · exact ⟨Nat.zero_le _, by have := (y 1).isLt; simpa using this⟩

theorem xcL_cover : ∀ y, ∃ p ∈ xcL c fX fWs fBm fCand, y ∈ p.1.set :=
  cover_one _ _ (xcL_rects c fX fWs fBm fCand) (fun y => whole2 (S := S12x1600) rfl _ y)
theorem xsL_cover : ∀ y, ∃ p ∈ xsL c fX fWs fBm fCand, y ∈ p.1.set :=
  cover_one _ _ (xsL_rects c fX fWs fBm fCand) (fun y => whole2 (S := S1x12) rfl _ y)
theorem lseL_cover : ∀ y, ∃ p ∈ lseL c fX fW fWs fBm fCand fO, y ∈ p.1.set :=
  cover_one _ _ (lseL_rects c fX fW fWs fBm fCand fO) (fun y => whole2 (S := S1x12) rfl _ y)
theorem clpL_cover : ∀ y, ∃ p ∈ clpL c fX fW fWs fBm fCand fO, y ∈ p.1.set :=
  cover_one _ _ (clpL_rects c fX fW fWs fBm fCand fO) fun y => by
    rw [Rect.mem_set_unit]; intro a; fin_cases a
    · exact ⟨Nat.zero_le _, by have := (y 0).isLt; show (y 0).val < 0 + 12; change (y 0).val < 12 at this; omega⟩
    · exact ⟨Nat.zero_le _, by have := (y 1).isLt; show (y 1).val < 0 + 1; change (y 1).val < 1 at this; omega⟩
    · exact ⟨Nat.zero_le _, by have := (y 2).isLt; show (y 2).val < 0 + 20; change (y 2).val < 20 at this; omega⟩

/-- An element whose column lies in a tile's range lies in the tile. -/
theorem mem_cols (o w : ℕ) (z : Fin 3 → ℕ) (z0 : z 0 = 12) (z1 : z 1 = 1) (z2 : z 2 = w) (h : ∀ a, (![0, 0, o] : Fin 3 → Nat) a + z a ≤ S12x1x50257.size a)
    (y : S12x1x50257.Idx) (h1 : o ≤ (y 2).val) (h2 : (y 2).val < o + w) : y ∈ (Rect.unit (s := S12x1x50257) ![0, 0, o] z h).set := by
  rw [Rect.mem_set_unit]; intro a; fin_cases a
  · exact ⟨Nat.zero_le _, by have := (y 0).isLt; show (y 0).val < 0 + z 0; change (y 0).val < 12 at this; omega⟩
  · exact ⟨Nat.zero_le _, by have := (y 1).isLt; show (y 1).val < 0 + z 1; change (y 1).val < 1 at this; omega⟩
  · exact ⟨h1, by show (y 2).val < o + z 2; omega⟩

/-- An element of the tail lies in one of its tiles. -/
theorem tail_cover (y : S12x1x50257.Idx) (hy : 49152 ≤ (y 2).val) : ∃ r ∈ tailRects, y ∈ r.set := by
  have hlt : (y 2).val < 50257 := (y 2).isLt
  unfold tailRects
  by_cases h : 50176 ≤ (y 2).val
  · exact ⟨_, List.mem_cons_self, mem_cols 50176 81 _ rfl rfl rfl inb_S12x1x50257_S12x1x81_0_0_50176 y h (by omega)⟩
  by_cases h : 50048 ≤ (y 2).val
  · exact ⟨_, List.mem_cons_of_mem _ (List.mem_cons_self), mem_cols 50048 128 _ rfl rfl rfl inb_S12x1x50257_S12x1x128_0_0_50048 y h (by omega)⟩
  by_cases h : 49920 ≤ (y 2).val
  · exact ⟨_, List.mem_cons_of_mem _ (List.mem_cons_of_mem _ (List.mem_cons_self)), mem_cols 49920 128 _ rfl rfl rfl inb_S12x1x50257_S12x1x128_0_0_49920 y h (by omega)⟩
  by_cases h : 49792 ≤ (y 2).val
  · exact ⟨_, List.mem_cons_of_mem _ (List.mem_cons_of_mem _ (List.mem_cons_of_mem _ (List.mem_cons_self))), mem_cols 49792 128 _ rfl rfl rfl inb_S12x1x50257_S12x1x128_0_0_49792 y h (by omega)⟩
  by_cases h : 49664 ≤ (y 2).val
  · exact ⟨_, List.mem_cons_of_mem _ (List.mem_cons_of_mem _ (List.mem_cons_of_mem _ (List.mem_cons_of_mem _ (List.mem_cons_self)))), mem_cols 49664 128 _ rfl rfl rfl inb_S12x1x50257_S12x1x128_0_0_49664 y h (by omega)⟩
  by_cases h : 49536 ≤ (y 2).val
  · exact ⟨_, List.mem_cons_of_mem _ (List.mem_cons_of_mem _ (List.mem_cons_of_mem _ (List.mem_cons_of_mem _ (List.mem_cons_of_mem _ (List.mem_cons_self))))), mem_cols 49536 128 _ rfl rfl rfl inb_S12x1x50257_S12x1x128_0_0_49536 y h (by omega)⟩
  by_cases h : 49408 ≤ (y 2).val
  · exact ⟨_, List.mem_cons_of_mem _ (List.mem_cons_of_mem _ (List.mem_cons_of_mem _ (List.mem_cons_of_mem _ (List.mem_cons_of_mem _ (List.mem_cons_of_mem _ (List.mem_cons_self)))))), mem_cols 49408 128 _ rfl rfl rfl inb_S12x1x50257_S12x1x128_0_0_49408 y h (by omega)⟩
  by_cases h : 49280 ≤ (y 2).val
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_cols 49280 128 _ rfl rfl rfl inb_S12x1x50257_S12x1x128_0_0_49280 y h (by omega)⟩
  exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_cols 49152 128 _ rfl rfl rfl inb_S12x1x50257_S12x1x128_0_0_49152 y hy (by omega)⟩

theorem outL_cover : ∀ y ∈ outTR.set, ∃ p ∈ outL c fX fW fWs fBm fCand fO, y ∈ p.1.set := by
  intro y hy
  obtain ⟨r, hr, hm⟩ := tail_cover y ((mem_outTR y).mp hy)
  obtain ⟨p, hp, e⟩ := List.mem_map.mp (show r ∈ (outL c fX fW fWs fBm fCand fO).map Sigma.fst by rw [outL_rects]; exact hr)
  exact ⟨p, hp, e ▸ hm⟩

/-- The masked logits the body leaves. -/
def outV : Bf (F := F) c mOut := outG (datK c fX fW fWs fBm fCand fO) (outL c fX fW fWs fBm fCand fO)
/-- The log sums it leaves. -/
def lseV : Bf (F := F) c mLse := resG c vLse mLse (lseL c fX fW fWs fBm fCand fO)
/-- The candidates' logits it leaves. -/
def clpV : Bf (F := F) c mClp := resG c vClp mClp (clpL c fX fW fWs fBm fCand fO)
/-- The codes it leaves. -/
def xcV : Bf (F := F) c mXc := resG c vXc mXc (xcL c fX fWs fBm fCand)
/-- The scales it leaves. -/
def xsV : Bf (F := F) c mXs := resG c vXs mXs (xsL c fX fWs fBm fCand)

end Values
end Cert.KernelIdeal.Hand
-- ==== Proof.KernelIdeal.Run.lean ====
/-
  The call: its launch, what it leaves in the results, and the run of the program.
-/
module

public import proofs.«01_k».proof.Proof.KernelIdeal.Values
public import Idealize.ShloMosaic.Lib.Pipeline.FrameBody
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Values

variable (c : Dev nD) (fX : Bf (F := F) c mX) (fW : Bf (F := F) c mW) (fWs : Bf (F := F) c mWs) (fBm : Bf (F := F) c mBm) (fCand : Bf (F := F) c mCand) (fO : Bf (F := F) c mOut)

attribute [local irreducible] proRun restRun

/-- The beginning of the body, at the pieces it stores. -/
theorem proSpec : ProSpec c fX fWs fBm fCand (proRun c fX fWs fBm fCand).1 (proRun c fX fWs fBm fCand).2.1 (proRun c fX fWs fBm fCand).2.2.1 (proRun c fX fWs fBm fCand).2.2.2.1
    (proRun c fX fWs fBm fCand).2.2.2.2.1 (proRun c fX fWs fBm fCand).2.2.2.2.2.1 (proRun c fX fWs fBm fCand).2.2.2.2.2.2.1 (proRun c fX fWs fBm fCand).2.2.2.2.2.2.2.1
    (proRun c fX fWs fBm fCand).2.2.2.2.2.2.2.2.1 (xcL c fX fWs fBm fCand) (xsL c fX fWs fBm fCand) (proRun c fX fWs fBm fCand).2.2.2.2.2.2.2.2.2.2.2.1 := by
  unfold ProSpec xcL xsL
  exact (proRun c fX fWs fBm fCand).2.2.2.2.2.2.2.2.2.2.2.2

/-- The rest of the body, at the pieces it stores. -/
theorem restSpec : RestSpec c (xcL c fX fWs fBm fCand) (xsL c fX fWs fBm fCand) (datK c fX fW fWs fBm fCand fO) fW fO (stK c fX fWs fBm fCand) (callowK c fX fWs fBm fCand)
    (outL c fX fW fWs fBm fCand fO) (lseL c fX fW fWs fBm fCand fO) (clpL c fX fW fWs fBm fCand fO) (proRun c fX fWs fBm fCand).2.2.2.2.2.2.2.2.2.2.2.1 := by
  unfold RestSpec outL lseL clpL
  intro fLse fClp fXc fXs fV K
  exact (restK c fX fW fWs fBm fCand fO).2.2.2 (datK c fX fW fWs fBm fCand fO) rfl (stK c fX fWs fBm fCand) rfl fX fWs fBm fCand fLse fClp fXc fXs fV K

/-- The body at the contents it leaves. -/
theorem body_run (fLse : Bf (F := F) c mLse) (fClp : Bf (F := F) c mClp) (fXc : Bf (F := F) c mXc) (fXs : Bf (F := F) c mXs) (W : Waits sig Unit) (K : PUnit.{1} → sProp 𝕄) :
    iprop((pt c mX fX ∗ pt c mW fW ∗ pt c mWs fWs ∗ pt c mBm fBm ∗ pt c mCand fCand)
        ∗ (pt c mOut fO ∗ pt c mLse fLse ∗ pt c mClp fClp ∗ pt c mXc fXc ∗ pt c mXs fXs)
        ∗ (any c vX ∗ any c vWs ∗ any c vBm ∗ any c vCand ∗ any c vRing ∗ any c vTail ∗ any c vOut ∗ any c vXq ∗ any c vXc ∗ any c vWords ∗ any c vCid ∗ any c vXsb ∗ any c vM ∗ any c vS ∗ any c vClog ∗ any c vCallow ∗ any c vLse ∗ any c vClp ∗ any c vXs)
        ∗ (zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14)
        ∗ owes (c : Thread nD τ) 0 W
        ∗ (iprop((pt c mX fX ∗ pt c mW fW ∗ pt c mWs fWs ∗ pt c mBm fBm ∗ pt c mCand fCand)
          ∗ (pt c mOut (outV c fX fW fWs fBm fCand fO) ∗ pt c mLse (lseV c fX fW fWs fBm fCand fO) ∗ pt c mClp (clpV c fX fW fWs fBm fCand fO) ∗ pt c mXc (xcV c fX fWs fBm fCand) ∗ pt c mXs (xsV c fX fWs fBm fCand))
          ∗ (any c vX ∗ any c vWs ∗ any c vBm ∗ any c vCand ∗ any c vRing ∗ any c vTail ∗ any c vOut ∗ any c vXq ∗ any c vXc ∗ any c vWords ∗ any c vCid ∗ any c vXsb ∗ any c vM ∗ any c vS ∗ any c vClog ∗ any c vCallow ∗ any c vLse ∗ any c vClp ∗ any c vXs)
          ∗ (zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14)
          ∗ ∃ W, owes (c : Thread nD τ) 0 W) -∗ K ⟨⟩))
      ⊢ wp frame (wpE (defs₀ (F := F)) Variants.none (c : Thread nD τ) none) Set.univ (bodyAt0 (F := F) t0_0) K := by
  have hR := restSpec c fX fW fWs fBm fCand fO
  unfold callowK at hR
  exact whole (proSpec c fX fWs fBm fCand) (D := datK c fX fW fWs fBm fCand fO) (σ := stK c fX fWs fBm fCand) rfl rfl hR
    (outL_cover c fX fW fWs fBm fCand fO) (lseL_cover c fX fW fWs fBm fCand fO) (clpL_cover c fX fW fWs fBm fCand fO) (xcL_cover c fX fWs fBm fCand) (xsL_cover c fX fWs fBm fCand)
    fLse fClp fXc fXs W K

end Values
end Cert.KernelIdeal.Hand
-- ==== Proof.KernelIdeal.Launch.lean ====
/-
  The call: its launch, what it leaves in the results, and the run of the program.
-/
module

public import proofs.«01_k».proof.Proof.KernelIdeal.Run
public import proofs.«01_k».proof.Proof.Gen.KernelIdeal.Frame
public import Idealize.ShloMosaic.Lib.Pipeline.FrameBody
public import Idealize.ShloMosaic.Lib.Pipeline.FrameValue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The program up to the call. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The body's cells. -/
abbrev osem0 : Fin 15 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14] : Fin 15 → SemLoc sig) j
theorem ownSemFacts0 : Pipeline.OwnSemFacts cfg0.spec osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14) := by
  rw [Pipeline.ownSems0_eq_of_list c osem0 [0, 1, 2, 3, 4, 5, 6, 7, 8, 9, 10, 11, 12, 13, 14] (by decide) (by decide)]; rfl

/-- The buffers the body reads. -/
def H0 : Finset (Ref sig .tc) := {main_v0, main_arg1, main_arg2, main_arg3, main_arg4}
theorem H0_sub : H0 ⊆ Pipeline.restRefs sig cfg0.spec := by decide
/-- The results. -/
def R0 : Finset (Ref sig .tc) := {main_v1_0, main_v1_1, main_v1_2, main_v1_3, main_v1_4}
theorem R0_sub : R0 ⊆ Pipeline.restRefs sig cfg0.spec \ H0 := by decide

theorem hbmPts0_eq (c : Dev nD) :
    (bigSep H0 (fun b => ((c : Thread nD τ).loc b) ↦{fullShare} V m c b) : sProp 𝕄)
      = iprop(pt c mX (V m c main_v0) ∗ pt c mW (V m c main_arg1) ∗ pt c mWs (V m c main_arg2) ∗ pt c mBm (V m c main_arg3) ∗ pt c mCand (V m c main_arg4)) := by
  rw [BI.bigSep_eq_bigSepL_of_eq [main_v0, main_arg1, main_arg2, main_arg3, main_arg4] (by decide) (by decide)]
  unfold pt; simp only [View.set_whole]; rfl

theorem routed_eq (G : (c : Dev nD) → (b : Ref sig .tc) → Buf (Elt F) ((c : Thread nD τ).loc b)) (c : Dev nD) :
    (Pipeline.routed R0 c (G c) : sProp 𝕄) = iprop(pt c mOut (G c main_v1_0) ∗ pt c mLse (G c main_v1_1) ∗ pt c mClp (G c main_v1_2) ∗ pt c mXc (G c main_v1_3) ∗ pt c mXs (G c main_v1_4)) := by
  unfold Pipeline.routed
  rw [BI.bigSep_eq_bigSepL_of_eq [main_v1_0, main_v1_1, main_v1_2, main_v1_3, main_v1_4] (by decide) (by decide)]
  unfold pt; simp only [View.set_whole]; rfl

theorem scoped_eq (c : Dev nD) : (Pipeline.scopedRest (Ix := Unit) (Name := ℕ) (U := Pipeline.UD sig nD τ) (Lvl := ℕ) (Val := Elt F) cfg0.spec c : sProp 𝕄) = iprop(any c vX ∗ any c vWs ∗ any c vBm ∗ any c vCand ∗ any c vRing ∗ any c vTail ∗ any c vOut ∗ any c vXq ∗ any c vXc ∗ any c vWords ∗ any c vCid ∗ any c vXsb ∗ any c vM ∗ any c vS ∗ any c vClog ∗ any c vCallow ∗ any c vLse ∗ any c vClp ∗ any c vXs) := by
  rw [scopedRest0_eq]
  unfold any pt; simp only [View.set_whole]

/-- What the call holds beside its windows, conjunct by conjunct. -/
theorem Phi_eq (G : (c : Dev nD) → (b : Ref sig .tc) → Buf (Elt F) ((c : Thread nD τ).loc b)) (c : Dev nD) :
    (Pipeline.ΦDRG osem0 cfg0.spec H0 R0 (V m) G c : sProp 𝕄)
      = iprop((any c vX ∗ any c vWs ∗ any c vBm ∗ any c vCand ∗ any c vRing ∗ any c vTail ∗ any c vOut ∗ any c vXq ∗ any c vXc ∗ any c vWords ∗ any c vCid ∗ any c vXsb ∗ any c vM ∗ any c vS ∗ any c vClog ∗ any c vCallow ∗ any c vLse ∗ any c vClp ∗ any c vXs)
          ∗ (∃ r, prngReg c r) ∗ (zero c 0 ∗ zero c 1 ∗ zero c 2 ∗ zero c 3 ∗ zero c 4 ∗ zero c 5 ∗ zero c 6 ∗ zero c 7 ∗ zero c 8 ∗ zero c 9 ∗ zero c 10 ∗ zero c 11 ∗ zero c 12 ∗ zero c 13 ∗ zero c 14) ∗ (pt c mX (V m c main_v0) ∗ pt c mW (V m c main_arg1) ∗ pt c mWs (V m c main_arg2) ∗ pt c mBm (V m c main_arg3) ∗ pt c mCand (V m c main_arg4)) ∗ (pt c mOut (G c main_v1_0) ∗ pt c mLse (G c main_v1_1) ∗ pt c mClp (G c main_v1_2) ∗ pt c mXc (G c main_v1_3) ∗ pt c mXs (G c main_v1_4))) := by
  rw [Pipeline.ΦDRG_eq, scoped_eq, ownSems00_eq, hbmPts0_eq, routed_eq]

/-- What the buffers hold at the end: the results at what the body leaves, the others as found. -/
def outs (c : Dev nD) : (b : Ref sig .tc) → Buf (Elt F) ((c : Thread nD τ).loc b) :=
  Function.update (Function.update (Function.update (Function.update (Function.update (V m c) main_v1_0 (outV c (V m c main_v0) (V m c main_arg1) (V m c main_arg2) (V m c main_arg3) (V m c main_arg4) (V m c main_v1_0)))
    main_v1_1 (lseV c (V m c main_v0) (V m c main_arg1) (V m c main_arg2) (V m c main_arg3) (V m c main_arg4) (V m c main_v1_0))) main_v1_2 (clpV c (V m c main_v0) (V m c main_arg1) (V m c main_arg2) (V m c main_arg3) (V m c main_arg4) (V m c main_v1_0)))
    main_v1_3 (xcV c (V m c main_v0) (V m c main_arg2) (V m c main_arg3) (V m c main_arg4))) main_v1_4 (xsV c (V m c main_v0) (V m c main_arg2) (V m c main_arg3) (V m c main_arg4))

theorem outs_0 (c : Dev nD) : outs m c main_v1_0 = outV c (V m c main_v0) (V m c main_arg1) (V m c main_arg2) (V m c main_arg3) (V m c main_arg4) (V m c main_v1_0) := by
  unfold outs; rw [Function.update_of_ne (by decide), Function.update_of_ne (by decide), Function.update_of_ne (by decide), Function.update_of_ne (by decide), Function.update_self]
theorem outs_1 (c : Dev nD) : outs m c main_v1_1 = lseV c (V m c main_v0) (V m c main_arg1) (V m c main_arg2) (V m c main_arg3) (V m c main_arg4) (V m c main_v1_0) := by
  unfold outs; rw [Function.update_of_ne (by decide), Function.update_of_ne (by decide), Function.update_of_ne (by decide), Function.update_self]
theorem outs_2 (c : Dev nD) : outs m c main_v1_2 = clpV c (V m c main_v0) (V m c main_arg1) (V m c main_arg2) (V m c main_arg3) (V m c main_arg4) (V m c main_v1_0) := by
  unfold outs; rw [Function.update_of_ne (by decide), Function.update_of_ne (by decide), Function.update_self]
theorem outs_3 (c : Dev nD) : outs m c main_v1_3 = xcV c (V m c main_v0) (V m c main_arg2) (V m c main_arg3) (V m c main_arg4) := by
  unfold outs; rw [Function.update_of_ne (by decide), Function.update_self]
theorem outs_4 (c : Dev nD) : outs m c main_v1_4 = xsV c (V m c main_v0) (V m c main_arg2) (V m c main_arg3) (V m c main_arg4) := by
  unfold outs; rw [Function.update_self]

/-- The call's data: no window; its results at the launch's contents before the point, at the body's after it. -/
def dats (_ : Fin 1) (c : Dev nD) : Dat τ (Elt F) Unit ℕ (Pipeline.UD sig nD τ) ℕ cfg0 c where
  A w := V m c (Pipeline.arrRef cfg0.spec w)
  after w _ := Fin.elim0 (show Fin 0 from w)
  Φ t := Pipeline.ΦDRG osem0 cfg0.spec H0 R0 (V m) (if t.val = 0 then V m else outs m) c
  q _ := fullShare
  owed _ := 0

theorem A_eq (c : Dev nD) (w : Fin cfg0.W) : (dats m 0 c).A w = V m c (Pipeline.arrRef cfg0.spec w) := by
  dsimp only [dats]

theorem Phi_before (c : Dev nD) : (dats m 0 c).Φ (t0_0.castSucc) = Pipeline.ΦDRG osem0 cfg0.spec H0 R0 (V m) (V m) c := rfl
theorem Phi_after (c : Dev nD) : (dats m 0 c).Φ (t0_0.succ) = Pipeline.ΦDRG osem0 cfg0.spec H0 R0 (V m) (outs m) c := rfl

set_option maxHeartbeats 1000000 in
theorem sound_body (c : Dev nD) :
    iprop((dats m 0 c).Φ (t0_0.castSucc) ∗ (dats m 0 c).owesAt () (t0_0.castSucc))
      ⊢ wp frame (wpE (defs₀ (F := F)) Variants.none (c : Thread nD τ) none) Set.univ (bodyAt0 (F := F) t0_0)
          (fun _ => iprop((dats m 0 c).Φ (t0_0.succ) ∗ (dats m 0 c).owesAt () (t0_0.succ))) := by
  rw [Phi_before, Phi_after, Phi_eq, Phi_eq, outs_0, outs_1, outs_2, outs_3, outs_4]
  unfold Dat.owesAt Pipeline.owesWithin
  rw [show (dats m 0 c).owed t0_0.castSucc = 0 from rfl, show (dats m 0 c).owed t0_0.succ = 0 from rfl]
  iintro ⟨⟨HS, Hg, HZ, HA, HR⟩, ⟨%W, -, HW⟩⟩
  icases HR with ⟨H1, H2, H3, H4, H5⟩
  iapply (body_run c (V m c main_v0) (V m c main_arg1) (V m c main_arg2) (V m c main_arg3) (V m c main_arg4) (V m c main_v1_0) (V m c main_v1_1) (V m c main_v1_2) (V m c main_v1_3) (V m c main_v1_4) W _)
  isplitl [HA]; · iexact HA
  isplitl [H1 H2 H3 H4 H5]
  · isplitl [H1]; · iexact H1
    isplitl [H2]; · iexact H2
    isplitl [H3]; · iexact H3
    isplitl [H4]; · iexact H4
    iexact H5
  isplitl [HS]; · iexact HS
  isplitl [HZ]; · iexact HZ
  isplitl [HW]; · iexact HW
  iintro ⟨HA, HR, HS, HZ, ⟨%W', HW⟩⟩
  isplitl [HA HR HS HZ Hg]
  · isplitl [HS]; · iexact HS
    isplitl [Hg]; · iexact Hg
    isplitl [HZ]; · iexact HZ
    isplitl [HA]; · iexact HA
    iexact HR
  iexists W'; isplitr; · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem bigSep_none (Φ : Fin 0 → sProp 𝕄) : bigSep Finset.univ Φ = (BI.emp : sProp 𝕄) := by
  rw [show (Finset.univ : Finset (Fin 0)) = ∅ from rfl, BI.bigSep_empty]
theorem bigSep_W0 (Φ : Fin cfg0.W → sProp 𝕄) : bigSep Finset.univ Φ = (BI.emp : sProp 𝕄) := bigSep_none Φ

theorem body_obligation (c : Dev nD) : BodyObligation (dats (F := F) m 0 c) (defs₀ (F := F)) Variants.none () Set.univ := fun t => by
  rw [show t = t0_0 from fin_N0 t, defs₀_row]
  refine triple_restated (sound_body m c) rfl ?_ fun _ => ?_
  · iintro ⟨A, B, C⟩
    isplitl [A]; · iexact A
    iexact B
  · iintro ⟨A, B⟩
    isplitl [A]; · iexact A
    isplitl [B]; · iexact B
    rw [bigSep_W0]; iempintro

/-! ## The run -/

set_option backward.isDefEq.respectTransparency.types false in
/-- The program runs to its end, every cell zero, the results at what the body leaves. -/
theorem run_main : θ_run defs (onTc (τ := τ) (main (F := F))) (s₀ m ρ) (fun r => Pipeline.FramePostRG cfgs (dats m) 0 R0 (V m) (outs m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := outs m)
    (hin := fun _ => .rfl) (hout := fun _ => .rfl)

/-- Every run of the program ends with the arguments as they were, each result at what the body leaves and every counter at zero. -/
theorem run_values : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) ∧ ∀ (c : Dev nD), ∀ b ∈ R0, r.2.mem ((c.tc : Thread nD τ).loc b) = outs m c b) :=
  (θ_run defs _ _).mono (fun _ h => ⟨⟨fun c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c),
      ((h.1.toR c).2 main_arg4 (Finset.mem_sdiff.mpr ⟨Pipeline.mem_restRefs_of main_arg4 (by decide) (by decide), by decide⟩)).trans (V_main_arg4 m c)⟩, h.2⟩,
    fun c b hb => h.1.2 c b hb⟩) (run_main m ρ)

/-- Every run of the program ends with the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => h.1) (run_values m ρ)

end Cert.KernelIdeal.Hand
-- ==== Proof.KernelIdeal.Quant.lean ====
/-
  The quantiser's scale at the extended reals: the exponent the kernel counts out names the least power of two above the
  row's largest magnitude over 448, which is the scale the reference takes.
-/
module

public import proofs.«01_k».proof.Proof.Gen.KernelIdeal.Skeleton
public import proofs.«01_k».proof.Proof.Gen.ReferenceIdeal.Value
public import Idealize.ShloMosaic.Lib.Pointwise

@[expose] public section

set_option maxRecDepth 16384

noncomputable section

namespace Cert.KernelIdeal.Hand

open Cert.KernelIdeal Cert.KernelIdeal.Gen
open Idealize.ShloMosaic

/-- The word whose exponent field is `n`. -/
abbrev expWord (n : BitVec 32) : BitVec 32 := IntOp.shli ArithUnit.vector n 23#32

theorem expWord_parts : ∀ n : Fin 256, (expWord (BitVec.ofNat 32 n.val)).extractLsb' 31 1 = 0#1
    ∧ ((expWord (BitVec.ofNat 32 n.val)).extractLsb' 23 8).toNat = n.val ∧ ((expWord (BitVec.ofNat 32 n.val)).extractLsb' 0 23).toNat = 0 := by
  decide +kernel

/-- An exponent field from 1 to 254 reads as its power of two. -/
theorem ofBits_expWord (n : ℕ) (h1 : 1 ≤ n) (h2 : n ≤ 254) :
    Ideal.ofBits .f32 (expWord (BitVec.ofNat 32 n)) = (((2 : ℝ) ^ ((n : ℤ) - 127) : ℝ) : EReal) := by
  obtain ⟨a, b, d⟩ := expWord_parts ⟨n, by omega⟩
  show Ideal.ieee 8 23 (expWord (BitVec.ofNat 32 n)) = _
  unfold Ideal.ieee
  simp only [show 8 + 23 = 31 from rfl] at *
  rw [a, b, d]
  rw [if_neg (by show ¬ n = 2 ^ 8 - 1; omega), if_neg (by show ¬ n = 0; omega)]
  refine congrArg (fun r : ℝ => (r : EReal)) ?_
  have e : ((n : ℤ) - 127) = ((n : ℤ) - (2 ^ (8 - 1) - 1) - (23 : ℕ)) + 23 := by norm_num
  have e2 : ((2 ^ 23 + 0 : ℕ) : ℝ) = (2 : ℝ) ^ (23 : ℤ) := by norm_num
  rw [e2, e, zpow_add₀ (by norm_num)]
  simp only [show ((0#1 == 1#1) = true) = False from by simp, if_false]
  ring

/-- The field of all ones reads as infinity. -/
theorem ofBits_expWord_top : Ideal.ofBits .f32 (expWord (BitVec.ofNat 32 255)) = ⊤ := by
  obtain ⟨a, b, d⟩ := expWord_parts ⟨255, by omega⟩
  show Ideal.ieee 8 23 (expWord (BitVec.ofNat 32 255)) = _
  unfold Ideal.ieee
  simp only [show 8 + 23 = 31 from rfl] at *
  rw [a, b, d]
  simp

/-- Counting the fields from 1 to `N` gives `N`. -/
theorem count_fold : ∀ N : Fin 256, Finset.fold IntOp.addi 0#32 (fun f : Fin 256 => if 0 < f.val ∧ f.val ≤ N.val then 1#32 else 0#32) Finset.univ
    = BitVec.ofNat 32 N.val := by
  decide +kernel

/-- The exponent the kernel makes of a count. -/
abbrev expo (n : BitVec 32) : BitVec 32 :=
  Scalar.select (IntOp.ori (IntOp.cmpi CmpIPredicate.eq n 0#32) (IntOp.cmpi CmpIPredicate.eq n 255#32)) 0#32 (IntOp.subi n 126#32)

theorem expo_zero : IntOp.addi (expo 0#32) 127#32 = BitVec.ofNat 32 127 ∧ IntOp.addi (IntOp.subi 0#32 (expo 0#32)) 127#32 = BitVec.ofNat 32 127 := by
  decide +kernel
theorem expo_pos : ∀ N : Fin 253, 0 < N.val → IntOp.addi (expo (BitVec.ofNat 32 N.val)) 127#32 = BitVec.ofNat 32 (N.val + 1)
    ∧ IntOp.addi (IntOp.subi 0#32 (expo (BitVec.ofNat 32 N.val))) 127#32 = BitVec.ofNat 32 (253 - N.val) := by
  decide +kernel

/-- The kernel's count for a ratio `r`. -/
abbrev countOf (r : EReal) : BitVec 32 := Finset.fold IntOp.addi 0#32 (fun f : Fin 256 => Scalar.select
  (IntOp.andi (IntOp.cmpi CmpIPredicate.sgt (BitVec.ofNat 32 f.val) 0#32) (BitVec.ofBool (decide (Ideal.ofBits .f32 (expWord (BitVec.ofNat 32 f.val)) ≤ r)))) 1#32 0#32) Finset.univ

theorem sgt_zero : ∀ f : Fin 256, IntOp.cmpi CmpIPredicate.sgt (BitVec.ofNat 32 f.val) 0#32 = BitVec.ofBool (decide (0 < f.val)) := by decide +kernel

theorem countOf_eq (r : EReal) (N : Fin 256) (h : ∀ f : Fin 256, 0 < f.val → (Ideal.ofBits .f32 (expWord (BitVec.ofNat 32 f.val)) ≤ r ↔ f.val ≤ N.val)) :
    countOf r = BitVec.ofNat 32 N.val := by
  rw [← count_fold N]
  refine congrArg (fun g => Finset.fold IntOp.addi 0#32 g Finset.univ) (funext fun f => ?_)
  rw [sgt_zero f]
  by_cases h0 : 0 < f.val
  · have := h f h0
    by_cases h1 : f.val ≤ N.val
    · rw [if_pos ⟨h0, h1⟩, decide_eq_true h0, decide_eq_true (this.mpr h1)]; rfl
    · rw [if_neg (fun e => h1 e.2), decide_eq_true h0, decide_eq_false (fun e => h1 (this.mp e))]; rfl
  · rw [if_neg (fun e => h0 e.1), decide_eq_false h0]
    generalize decide (Ideal.ofBits .f32 (expWord (BitVec.ofNat 32 f.val)) ≤ r) = d
    revert d; decide

/-- The reference's powers of two. -/
theorem powers_eq (i : Fin 254) : (FloatOps.exp2 (F := Ideal) (φ := .f32) (FloatOps.sitofp (F := Ideal) FTy.f32 (BitVec.ofNat 32 i.val) - Ideal.ofBits FTy.f32 1123680256#32 : EReal) : EReal)
    = (((2 : ℝ) ^ ((i.val : ℤ) - 125) : ℝ) : EReal) := by
  have h1 : Ideal.ofBits FTy.f32 1123680256#32 = ((125 : ℝ) : EReal) := by simp [Ideal.ofBits, Ideal.ieee, -EReal.coe_mul]; norm_num
  have h2 : (BitVec.ofNat 32 i.val).toInt = (i.val : ℤ) := by
    have := i.isLt
    rw [BitVec.toInt_eq_toNat_cond, BitVec.toNat_ofNat]; split_ifs <;> omega
  have h3 : (FloatOps.sitofp (F := Ideal) FTy.f32 (BitVec.ofNat 32 i.val) : EReal) = (((i.val : ℤ) : ℝ) : EReal) := by
    show (((BitVec.ofNat 32 i.val).toInt : ℝ) : EReal) = _
    rw [h2]
  rw [h1, h3, ← EReal.coe_sub]
  show (((2 : ℝ) ^ (((i.val : ℤ) : ℝ) - 125 : ℝ) : ℝ) : EReal) = _
  rw [← Real.rpow_intCast]
  push_cast
  rfl

/-- The reference's scale for a ratio `r`. -/
abbrev scaleOf (r : EReal) : EReal := if r < Ideal.ofBits FTy.f32 8388608#32 then 1 else
  Finset.fold min (Ideal.ofBits FTy.f32 2139095040#32) (fun i : Fin 254 =>
    if r < (FloatOps.exp2 (F := Ideal) (φ := .f32) (FloatOps.sitofp (F := Ideal) FTy.f32 (BitVec.ofNat 32 i.val) - Ideal.ofBits FTy.f32 1123680256#32 : EReal) : EReal)
    then (FloatOps.exp2 (F := Ideal) (φ := .f32) (FloatOps.sitofp (F := Ideal) FTy.f32 (BitVec.ofNat 32 i.val) - Ideal.ofBits FTy.f32 1123680256#32 : EReal) : EReal)
    else Ideal.ofBits FTy.f32 2139095040#32) Finset.univ

theorem zpow_lt (a b : ℤ) : (2 : ℝ) ^ a < 2 ^ b ↔ a < b := zpow_lt_zpow_iff_right₀ (by norm_num)
theorem zpow_le (a b : ℤ) : (2 : ℝ) ^ a ≤ 2 ^ b ↔ a ≤ b := zpow_le_zpow_iff_right₀ (by norm_num)

/-- The kernel's scale and its inverse are the reference's. -/
theorem quant_eq (R : ℝ) (h0 : 0 ≤ R) (h1 : R < (2 : ℝ) ^ (120 : ℤ)) :
    ∃ s : ℤ, Ideal.ofBits .f32 (expWord (IntOp.addi (expo (countOf R)) 127#32)) = (((2 : ℝ) ^ s : ℝ) : EReal)
      ∧ Ideal.ofBits .f32 (expWord (IntOp.addi (IntOp.subi 0#32 (expo (countOf R))) 127#32)) = (((2 : ℝ) ^ (-s) : ℝ) : EReal)
      ∧ scaleOf R = (((2 : ℝ) ^ s : ℝ) : EReal) := by
  have hmin : Ideal.ofBits FTy.f32 8388608#32 = (((2 : ℝ) ^ (-126 : ℤ) : ℝ) : EReal) := by
    have := ofBits_expWord 1 (by norm_num) (by norm_num)
    rw [show (expWord (BitVec.ofNat 32 1)) = 8388608#32 by decide] at this
    rw [this]; norm_num
  have htop : Ideal.ofBits FTy.f32 2139095040#32 = ⊤ := by
    rw [← ofBits_expWord_top]; congr 1
  by_cases hs : R < (2 : ℝ) ^ (-126 : ℤ)
  · refine ⟨0, ?_, ?_, ?_⟩
    all_goals try rw [countOf_eq R ⟨0, by norm_num⟩ (fun f hf => by
      refine ⟨fun h => absurd h ?_, fun h => absurd h (by show ¬ f.val ≤ 0; omega)⟩
      by_cases h255 : f.val = 255
      · rw [h255, ofBits_expWord_top]; simp
      · rw [ofBits_expWord f.val hf (by have := f.isLt; omega), EReal.coe_le_coe_iff, not_le]
        exact lt_of_lt_of_le hs ((zpow_le _ _).mpr (by omega)))]
    · rw [expo_zero.1, ofBits_expWord 127 (by norm_num) (by norm_num)]; norm_num
    · rw [expo_zero.2, ofBits_expWord 127 (by norm_num) (by norm_num)]; norm_num
    · unfold scaleOf; rw [hmin, if_pos (by rw [EReal.coe_lt_coe_iff]; exact hs)]; norm_num
  · have hs' := not_lt.mp hs
    have hpos : 0 < R := lt_of_lt_of_le (by positivity) hs'
    obtain ⟨n, hn1, hn2⟩ := exists_mem_Ico_zpow (x := R) (y := 2) hpos (by norm_num)
    have ha : -126 < n + 1 := (zpow_lt _ _).mp (lt_of_le_of_lt hs' hn2)
    have hb : n < 120 := (zpow_lt _ _).mp (lt_of_le_of_lt hn1 h1)
    obtain ⟨N, hN⟩ : ∃ N : ℕ, (N : ℤ) = n + 127 := ⟨(n + 127).toNat, by omega⟩
    have hc := countOf_eq R ⟨N, by omega⟩ (fun f hf => by
      by_cases h255 : f.val = 255
      · rw [h255, ofBits_expWord_top]
        refine ⟨fun h => absurd h (by simp), fun h => absurd h (by show ¬ 255 ≤ N; omega)⟩
      · rw [ofBits_expWord f.val hf (by have := f.isLt; omega), EReal.coe_le_coe_iff]
        refine ⟨fun h => ?_, fun h => ?_⟩
        · have := (zpow_lt _ _).mp (lt_of_le_of_lt h hn2); show f.val ≤ N; omega
        · have h' : f.val ≤ N := h
          exact le_trans ((zpow_le _ _).mpr (by omega)) hn1)
    obtain ⟨e1, e2⟩ := expo_pos ⟨N, by omega⟩ (by show 0 < N; omega)
    refine ⟨n + 1, ?_, ?_, ?_⟩
    · rw [hc, e1, ofBits_expWord _ (by omega) (by show N + 1 ≤ 254; omega)]
      congr 2; push_cast; omega
    · rw [hc, e2, ofBits_expWord _ (by show 1 ≤ 253 - N; omega) (by show 253 - N ≤ 254; omega)]
      congr 2
      show (((253 - N : ℕ) : ℤ) - 127) = -(n + 1)
      omega
    · unfold scaleOf
      rw [hmin, if_neg (by rw [EReal.coe_lt_coe_iff]; exact hs), htop]
      simp only [powers_eq]
      apply le_antisymm
      · rw [Finset.fold_min_le]
        refine Or.inr ⟨⟨N - 1, by omega⟩, Finset.mem_univ _, ?_⟩
        have : (((N - 1 : ℕ) : ℤ) - 125) = n + 1 := by omega
        show (if (R : EReal) < (((2 : ℝ) ^ (((N - 1 : ℕ) : ℤ) - 125) : ℝ) : EReal) then (((2 : ℝ) ^ (((N - 1 : ℕ) : ℤ) - 125) : ℝ) : EReal) else ⊤) ≤ _
        rw [this, if_pos (by rw [EReal.coe_lt_coe_iff]; exact hn2)]
      · rw [Finset.le_fold_min]
        refine ⟨le_top, fun i _ => ?_⟩
        split_ifs with h
        · rw [EReal.coe_lt_coe_iff] at h
          rw [EReal.coe_le_coe_iff, zpow_le]
          have := (zpow_lt _ _).mp (lt_of_le_of_lt hn1 h)
          omega
        · exact le_top

end Cert.KernelIdeal.Hand

end
-- ==== Proof.KernelIdeal.Codes.lean ====
/-
  The codes and the scales at the extended reals: what the kernel stores is what the reference stores.
-/
module

public import proofs.«01_k».proof.Proof.KernelIdeal.Quant

@[expose] public section

set_option maxRecDepth 16384

noncomputable section

namespace Cert.KernelIdeal.Hand

open Cert.KernelIdeal Cert.KernelIdeal.Gen
open Idealize.ShloMosaic

/-- Every activation's magnitude is at most the largest finite bfloat16. -/
def Small (x : Vec Ideal S12x1600 .bf16) : Prop := ∀ (b : Fin 12) (k : Fin 1600), (FloatOps.absf (F := Ideal) (φ := .f32) (x (ix2 b k)) : EReal) ≤ Ideal.ofBits FTy.f32 0x7F7F0000#32

/-- A row's largest magnitude over 448. -/
abbrev ratio (x : Vec Ideal S12x1600 .bf16) (b : Fin 12) : EReal :=
  Finset.fold max (Ideal.ofBits FTy.f32 4286578688#32) (fun k : Fin 1600 => (FloatOps.absf (F := Ideal) (φ := .f32) (x (ix2 b k)) : EReal)) Finset.univ * Ideal.ofBits FTy.f32 991054117#32

theorem ratio_eq (x : Vec Ideal S12x1600 .bf16) (hx : Small x) (b : Fin 12) : ∃ R : ℝ, 0 ≤ R ∧ R < (2 : ℝ) ^ (120 : ℤ) ∧ ratio x b = (R : EReal) := by
  have hbot : Ideal.ofBits FTy.f32 4286578688#32 = ⊥ := by simp [Ideal.ofBits, Ideal.ieee]
  have hc : Ideal.ofBits FTy.f32 991054117#32 = (((9586981 : ℝ) * 2 ^ (-32 : ℤ) : ℝ) : EReal) := by
    simp [Ideal.ofBits, Ideal.ieee, -EReal.coe_mul]
  have hm : Ideal.ofBits FTy.f32 0x7F7F0000#32 = (((16711680 : ℝ) * 2 ^ (104 : ℤ) : ℝ) : EReal) := by
    simp [Ideal.ofBits, Ideal.ieee, -EReal.coe_mul]
  unfold ratio
  rw [hbot, hc]
  generalize ha : Finset.fold max (⊥ : EReal) (fun k : Fin 1600 => (FloatOps.absf (F := Ideal) (φ := .f32) (x (ix2 b k)) : EReal)) Finset.univ = a
  have h1 : a ≤ (((16711680 : ℝ) * 2 ^ (104 : ℤ) : ℝ) : EReal) := by
    rw [← ha, Finset.fold_max_le]
    exact ⟨bot_le, fun k _ => hm ▸ hx b k⟩
  have h0 : 0 ≤ a := by
    rw [← ha, Finset.le_fold_max]
    refine Or.inr ⟨0, Finset.mem_univ _, ?_⟩
    show (0 : EReal) ≤ max (x (ix2 b 0) : EReal) (-(x (ix2 b 0) : EReal))
    rcases le_total (0 : EReal) (x (ix2 b 0)) with h | h
    · exact le_max_of_le_left h
    · exact le_max_of_le_right (EReal.neg_nonneg.mpr h)
  induction a using EReal.rec with
  | bot => exact absurd h0 (by simp)
  | top => exact absurd h1 (not_le.mpr (EReal.coe_lt_top _))
  | coe A =>
    rw [EReal.coe_le_coe_iff] at h1
    have h0' : 0 ≤ A := by exact_mod_cast h0
    refine ⟨A * (9586981 * 2 ^ (-32 : ℤ)), by positivity, ?_, by rw [← EReal.coe_mul]⟩
    calc A * (9586981 * 2 ^ (-32 : ℤ)) ≤ (16711680 * 2 ^ (104 : ℤ)) * (9586981 * 2 ^ (-32 : ℤ)) := by gcongr
      _ < (2 : ℝ) ^ (120 : ℤ) := by norm_num

theorem refScale_eq (x : Vec Ideal S12x1600 .bf16) (b : Fin 12) : ReferenceIdeal.Gen.k0_pay3 (F := Ideal) x (ix2 b 0) = scaleOf (ratio x b) := by
  pointwise [ReferenceIdeal.Gen.k0_pay3, ReferenceIdeal.Gen.k0_pay2]

theorem expo_eq (x : Vec Ideal S12x1600 .bf16) (b : Fin 12) : k0_pay146 (F := Ideal) x (ix2 b 0) = expo (countOf (ratio x b)) := by
  pointwise [k0_pay146, k0_pay145]

/-- The kernel's broadcast scale is the reference's scale. -/
theorem xsb_eq (x : Vec Ideal S12x1600 .bf16) (hx : Small x) (b : Fin 12) (l : Fin 128) :
    k0_pay154 (F := Ideal) (k0_pay146 x) (ix2 b l) = ReferenceIdeal.Gen.k0_pay3 (F := Ideal) x (ix2 b 0) := by
  obtain ⟨R, h0, h1, hR⟩ := ratio_eq x hx b
  obtain ⟨s, e1, e2, e3⟩ := quant_eq R h0 h1
  rw [refScale_eq, hR, e3]
  pointwise [k0_pay154, k0_pay149]
  rw [expo_eq, hR]; exact e1

/-- The kernel's scales are the reference's. -/
theorem scales_eq (x : Vec Ideal S12x1600 .bf16) (hx : Small x) (b : Fin 12) :
    k0_pay153 (F := Ideal) (k0_pay146 x) (ix2 0 b) = ReferenceIdeal.Gen.k0_pay5 (F := Ideal) x (ix2 0 b) := by
  obtain ⟨R, h0, h1, hR⟩ := ratio_eq x hx b
  obtain ⟨s, e1, e2, e3⟩ := quant_eq R h0 h1
  have hr : ReferenceIdeal.Gen.k0_pay5 (F := Ideal) x (ix2 0 b) = ReferenceIdeal.Gen.k0_pay3 (F := Ideal) x (ix2 b 0) := by
    pointwise [ReferenceIdeal.Gen.k0_pay5]
  rw [hr, refScale_eq, hR, e3]
  pointwise [k0_pay153, k0_pay149]
  rw [Finset.sum_eq_single b]
  · rw [expo_eq, hR]
    have : IntOp.cmpi CmpIPredicate.eq (BitVec.ofNat 32 b.val) (BitVec.ofNat 32 b.val) = 1#1 := by simp [IntOp.cmpi]
    rw [this]; exact e1
  · intro c _ hc
    have : ∀ c b : Fin 12, c ≠ b → IntOp.cmpi CmpIPredicate.eq (BitVec.ofNat 32 c.val) (BitVec.ofNat 32 b.val) = 0#1 := by decide
    rw [this c b hc]; rfl
  · intro h; exact absurd (Finset.mem_univ b) h

/-- The kernel's codes are the reference's. -/
theorem codes_eq (x : Vec Ideal S12x1600 .bf16) (hx : Small x) (b : Fin 12) (k : Fin 1600) :
    k0_pay151 (F := Ideal) (k0_pay147 x) k0_pay148 (ix2 b k) = ReferenceIdeal.Gen.k0_pay4 (F := Ideal) x (ix2 b k) := by
  obtain ⟨R, h0, h1, hR⟩ := ratio_eq x hx b
  obtain ⟨s, e1, e2, e3⟩ := quant_eq R h0 h1
  have hs := refScale_eq x b
  rw [hR, e3] at hs
  have he := expo_eq x b
  rw [hR] at he
  pointwise [k0_pay151, k0_pay150, k0_pay147, k0_pay148, k0_pay145, ReferenceIdeal.Gen.k0_pay4, ReferenceIdeal.Gen.k0_pay2]
  have hp : (2 : ℝ) ^ s ≠ 0 := by positivity
  rw [he, hs, Ideal.div_coe hp, e2, one_div, zpow_neg, one_mul]

end Cert.KernelIdeal.Hand

end
-- ==== Proof.KernelIdeal.Tile.lean ====
/-
  One tile of the masked logits, read at an element, is the reference's value there.
-/
module
public import proofs.«01_k».proof.Proof.KernelIdeal.Codes
public import Idealize.ShloMosaic.Lib.Pointwise
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic

/-- A word shifted so that its bit `s` leads is negative exactly when that bit is one. -/
theorem bit_eq (w : BitVec 32) (s : ℕ) (h : s < 32) :
    IntOp.cmpi .slt (IntOp.shli .vector w (BitVec.ofNat 32 (31 - s))) 0#32
      = IntOp.cmpi .eq (IntOp.andi (IntOp.shrsi .vector w (BitVec.ofNat 32 s)) 1#32) 1#32 := by
  have h1 : (BitVec.ofNat 32 (31 - s)).toNat = 31 - s := by rw [BitVec.toNat_ofNat]; exact Nat.mod_eq_of_lt (by omega)
  have h2 : (BitVec.ofNat 32 s).toNat = s := by rw [BitVec.toNat_ofNat]; exact Nat.mod_eq_of_lt (by omega)
  unfold IntOp.cmpi IntOp.shli IntOp.shrsi IntOp.andi
  rw [h1, h2, if_pos (show 31 - s < 32 by omega), if_pos h]
  simp only [BitVec.slt_zero_eq_msb, BitVec.shiftLeft_eq', BitVec.sshiftRight_eq', h1, h2]
  congr 1
  rw [BitVec.msb_eq_getLsbD_last, BitVec.getLsbD_shiftLeft]
  have e : (w.sshiftRight s &&& 1#32 == 1#32) = (w.sshiftRight s).getLsbD 0 := by
    rw [Bool.eq_iff_iff]
    simp only [beq_iff_eq]
    constructor
    · intro e
      have := congrArg (fun x => BitVec.getLsbD x 0) e
      simpa using this
    · intro e
      ext i hi
      rcases Nat.eq_zero_or_pos i with rfl | hp
      · simpa using e
      · have : i ≠ 0 := by omega
        simp [this]
  rw [e, BitVec.getLsbD_sshiftRight]
  simp [show ¬ 31 < 31 - s by omega, h, show 31 - (31 - s) = s by omega]
/-- One tile of the masked logits. -/
def tileM (v371 v375 wd : IVec S12x128 32) (off : BitVec 32) (sc raw : FVec Ideal S12x128 .f32) (ws : FVec Ideal S128 .f32) : FVec Ideal S12x128 .f32 :=
  select (cmpi .slt (shli (dynamicGather 1 wd (shapeCast S12x128 (shapeCast S12x128x1 (select (cmpi .slt (addi v371 (broadcast S12x128 off)) (broadcast S12x128 0#32))
      (addi (addi v371 (broadcast S12x128 off)) (broadcast S12x128 128#32)) (addi v371 (broadcast S12x128 off))) shapeCasts_S12x128_S12x128x1) shapeCasts_S12x128x1_S12x128)) v375) (broadcast S12x128 0#32))
    (mulf (mulf raw sc) (broadcastTo S12x128 (shapeCast S1x128 ws shapeCasts_S128_S1x128) broadcasts_S1x128_S12x128))
    (broadcast S12x128 (Scalar.ofBits .f32 0x00000000#32))

/-- The reference's masked logits. -/
abbrev Masked (X : Vec Ideal S12x1600 .bf16) (W : Vec Ideal S1600x50257 .fp8e4m3) (ws : Vec Ideal S50257 .f32) (bm : Vec Ideal S12x1571 .i32) : FVec Ideal S12x1x50257 .f32 :=
  ReferenceIdeal.Gen.k0_pay1 (ReferenceIdeal.Gen.k0_pay6 X W) ws bm

theorem masked_apply (X : Vec Ideal S12x1600 .bf16) (W : Vec Ideal S1600x50257 .fp8e4m3) (ws : Vec Ideal S50257 .f32) (bm : Vec Ideal S12x1571 .i32) (b : Fin 12) (l : Fin 50257) :
    Masked X W ws bm (ix3 b 0 l)
      = Scalar.select (IntOp.cmpi .eq (IntOp.andi (IntOp.shrsi .vector (bm (ix2 b (⟨l.val / 32, by omega⟩ : Fin 1571))) (BitVec.ofNat 32 (l.val % 32))) 1#32) 1#32)
          ((∑ k, ReferenceIdeal.Gen.k0_pay4 X (ix2 b k) * W (ix2 k l)) * ReferenceIdeal.Gen.k0_pay3 X (ix2 b 0) * ws (ix1 l)) 0 := by
  unfold Masked
  pointwise [ReferenceIdeal.Gen.k0_pay1, ReferenceIdeal.Gen.k0_pay6]

/-- The position in the words a tile's lane asks for. -/
theorem lane_word (v off : BitVec 32) (p o : ℕ) (hp : p < 4) (ho : o + 4 ≤ 128) (hv : v = BitVec.ofNat 32 p) (hoff : off = BitVec.ofNat 32 o) :
    (Scalar.select (IntOp.cmpi .slt (IntOp.addi v off) 0#32) (IntOp.addi (IntOp.addi v off) 128#32) (IntOp.addi v off)).toNat % 128 = o + p := by
  have e : IntOp.addi v off = BitVec.ofNat 32 (o + p) := by
    subst hv hoff; show BitVec.ofNat 32 p + BitVec.ofNat 32 o = _
    rw [← BitVec.ofNat_add, Nat.add_comm]
  rw [e]
  have h0 : IntOp.cmpi .slt (BitVec.ofNat 32 (o + p)) 0#32 = 0#1 := by
    have : o + p < 128 := by omega
    generalize o + p = n at this ⊢
    interval_cases n <;> rfl
  rw [h0]
  show (BitVec.ofNat 32 (o + p)).toNat % 128 = o + p
  rw [BitVec.toNat_ofNat, Nat.mod_eq_of_lt (a := o + p) (by omega), Nat.mod_eq_of_lt (by omega)]

/-- A lane of a tile whose operands hold the activations' codes and scales, the weights, their scales and the mask's words
    is the reference's masked logit at that column. -/
theorem tileM_apply (X : Vec Ideal S12x1600 .bf16) (W : Vec Ideal S1600x50257 .fp8e4m3) (ws' : Vec Ideal S50257 .f32) (bm : Vec Ideal S12x1571 .i32)
    (v371 v375 wd : IVec S12x128 32) (off : BitVec 32) (sc raw : FVec Ideal S12x128 .f32) (ws : FVec Ideal S128 .f32) (b : Fin 12) (l : Fin 128)
    (J C o : ℕ) (hJ : J = 32 * (C + o)) (ho : o + 4 ≤ 128) (hoff : off = BitVec.ofNat 32 o) (hl : J + l.val < 50257)
    (h371 : v371 (ix2 b l) = BitVec.ofNat 32 (l.val / 32)) (h375 : v375 (ix2 b l) = BitVec.ofNat 32 (31 - l.val % 32))
    (hwd : ∀ (p : Fin 128) (h : C + p.val < 1571), wd (ix2 b p) = bm (ix2 b (⟨C + p.val, h⟩ : Fin 1571)))
    (hsc : sc (ix2 b l) = ReferenceIdeal.Gen.k0_pay3 X (ix2 b 0))
    (hraw : raw (ix2 b l) = ∑ k, ReferenceIdeal.Gen.k0_pay4 X (ix2 b k) * W (ix2 k (⟨J + l.val, hl⟩ : Fin 50257)))
    (hws : ws (ix1 l) = ws' (ix1 (⟨J + l.val, hl⟩ : Fin 50257))) :
    tileM v371 v375 wd off sc raw ws (ix2 b l) = Masked X W ws' bm (ix3 b 0 (⟨J + l.val, hl⟩ : Fin 50257)) := by
  rw [masked_apply]
  pointwise [tileM]
  rw [hsc, hraw, hws, h375]
  have hp : l.val / 32 < 4 := by omega
  have hi := lane_word (v371 (ix2 b l)) off (l.val / 32) o hp ho h371 hoff
  have hm : (J + l.val) / 32 = C + (o + l.val / 32) := by omega
  have hs : (J + l.val) % 32 = l.val % 32 := by omega
  have hb : C + (o + l.val / 32) < 1571 := by omega
  have hw : ∀ (n : Fin 128), n.val = o + l.val / 32 → wd (ix2 b n) = bm (ix2 b (⟨(J + l.val) / 32, by omega⟩ : Fin 1571)) := by
    intro n hn
    rw [hwd n (by rw [hn]; exact hb)]
    congr 2
    exact Fin.ext (by show C + n.val = (J + l.val) / 32; rw [hn, hm])
  rw [hw _ hi, bit_eq _ _ (Nat.mod_lt _ (by decide)), hs]

end Cert.KernelIdeal.Hand

end
-- ==== Proof.KernelIdeal.Slab.lean ====
/-
  What a trip stores into its slab of the logits is the reference's masked logits.
-/
module
public import proofs.«01_k».proof.Proof.KernelIdeal.Values
public import proofs.«01_k».proof.Proof.KernelIdeal.Tile
public import Idealize.ShloMosaic.Lib.Pointwise
public import Idealize.ShloMosaic.Lib.Pipeline.ValueKit
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI Idealize.SL.Sem

attribute [local irreducible] proRun restRun

/-- A load at unit stride reads the element its offset and local index name. -/
theorem readAt_at {Val : EltTy → Type} {κ : Kind} {sp : Space} {s : Shape} {e : EltTy} (v : View sig κ sp s e) (f : v.ty.Contents Val) (off size : Fin s.rank → ℕ)
    (h : ∀ a, off a + size a ≤ s.size a) (j : (Rect.unit off size h).shape.Idx) (i : s.Idx) (hi : ∀ a, (i a).val = off a + (j a).val) :
    v.readAt Val (Rect.unit off size h).toLoadRect f j = v.read Val f i :=
  View.ld_unit_apply_of (v.read Val f) off size h j i hi

/-- A leading axis of one dropped, read at an element. -/
theorem cast_slot (X : FVec Ideal S1x1600x2048 .fp8e4m3) (h) (kk : Fin 1600) (p : Fin 2048) : shapeCast S1600x2048 X h (ix2 kk p) = X (ix3 0 kk p) := by
  pointwise
theorem cast_chunk (X : FVec Ideal S1x1600x256 .fp8e4m3) (h) (kk : Fin 1600) (l : Fin 256) : shapeCast S1600x256 X h (ix2 kk l) = X (ix3 0 kk l) := by
  pointwise

/-- A slot of the ring, read at an element. -/
theorem slot_read (s : Fin 4) (f : (Memref.whole cc0_scratch4).view.ty.Contents (Elt Ideal)) (kk : Fin 1600) (p : Fin 2048) :
    (slotV s).view.read (Elt Ideal) f (ix2 kk p) = (Memref.whole cc0_scratch4).view.read (Elt Ideal) f (ix3 s kk p) := by
  have e : (slotV s).view.read (Elt Ideal) f = shapeCast S1600x2048 (vRing.view.readAt (Elt Ideal)
      (Rect.unit (s := S4x1600x2048) (slotOff s) S1x1600x2048.size (slot_inb s)).toLoadRect f) (show S1x1600x2048.ShapeCasts S1600x2048 by decide) :=
    Memref.read_squeeze_slice vRing _ _ squeezes_S1x1600x2048_S1600x2048 _ f
  rw [e]
  refine (cast_slot _ _ kk p).trans ?_
  exact readAt_at _ _ _ _ _ _ _ (by
    intro a
    match a with
    | ⟨0, _⟩ => exact (Nat.add_zero s.val).symm
    | ⟨1, _⟩ => exact (Nat.zero_add kk.val).symm
    | ⟨2, _⟩ => exact (Nat.zero_add p.val).symm)

/-- A load of 256 columns of a slot, read at an element. -/
theorem slot_load (s : Fin 4) (f : (Memref.whole cc0_scratch4).view.ty.Contents (Elt Ideal)) (off : Fin 3 → ℕ) (h : ∀ a, off a + S1x1600x256.size a ≤ S4x1600x2048.size a)
    (n : ℕ) (hn : n < 8) (hoff : off = ![s.val, 0, 256 * n]) (kk : Fin 1600) (l : Fin 256) :
    shapeCast S1600x256 (View.readAt (Elt Ideal) (Memref.whole cc0_scratch4).view (Rect.unit (s := S4x1600x2048) off S1x1600x256.size h).toLoadRect f)
        shapeCasts_S1x1600x256_S1600x256 (ix2 kk l) = (slotV s).view.read (Elt Ideal) f (ix2 kk (⟨256 * n + l.val, by omega⟩ : Fin 2048)) := by
  rw [slot_read]
  refine (cast_chunk _ _ kk l).trans ?_
  exact readAt_at _ _ _ _ _ _ _ (by
    subst hoff
    intro a
    match a with
    | ⟨0, _⟩ => exact (Nat.add_zero s.val).symm
    | ⟨1, _⟩ => exact (Nat.zero_add kk.val).symm
    | ⟨2, _⟩ => exact rfl)

variable {c : Dev nD} (D : Data Ideal c)

/-- The columns of the slab a tile multiplies. -/
def chunk (k : Fin k0_t1_loop.trips) (off : Fin 3 → ℕ) (h : ∀ a, off a + S1x1600x256.size a ≤ S4x1600x2048.size a) : FVec Ideal S1600x256 .fp8e4m3 :=
  shapeCast S1600x256 (View.readAt (Elt Ideal) (Memref.whole cc0_scratch4).view (Rect.unit (s := S4x1600x2048) off S1x1600x256.size h).toLoadRect
    ((slotV (tripSlot k)).view.writes (Elt Ideal) (slotV (tripSlot k)).view.junk [⟨Rect.whole S1600x2048, slabPay c (tripSlab k) D.fW⟩])) shapeCasts_S1x1600x256_S1600x256

theorem chunk_apply (k : Fin k0_t1_loop.trips) (off : Fin 3 → ℕ) (h) (n : ℕ) (hn : n < 8) (hoff : off = ![k.val % 4, 0, 256 * n]) (kk : Fin 1600) (l : Fin 256)
    (hl : 2048 * k.val + 256 * n + l.val < 50257) :
    chunk D k off h (ix2 kk l) = mW.view.read (Elt Ideal) D.fW (ix2 kk (⟨2048 * k.val + 256 * n + l.val, hl⟩ : Fin 50257)) := by
  unfold chunk
  refine (slot_load (tripSlot k) _ off h n hn hoff kk l).trans ?_
  refine (congrFun (View.read_writes_whole (slotV (tripSlot k)).view _ _) _).trans ?_
  show mW.view.read (Elt Ideal) D.fW _ = _
  refine congrArg (mW.view.read (Elt Ideal) D.fW) ?_
  funext a
  apply Fin.ext
  show (![0, 2048 * k.val] : Fin 2 → ℕ) a + 1 * _ = _
  fin_cases a
  · show 0 + 1 * kk.val = kk.val; omega
  · show 2048 * k.val + 1 * (256 * n + l.val) = 2048 * k.val + 256 * n + l.val; omega

/-- What a trip stores into its tile `r`. -/
def tileP (k : Fin k0_t1_loop.trips) (r : Fin 16) (e : ℕ) (he : S32x256.Slices ![0, e] S12x128) (off : Fin 3 → ℕ)
    (h : ∀ a, off a + S1x1600x256.size a ≤ S4x1600x2048.size a) : FVec Ideal S12x1x128 .f32 :=
  shapeCast S12x1x128 (tileM D.v371 D.v375 (tripRun.sl.r c k D.words) (Scalar.addi (tripRun.sl.v874 k) (BitVec.ofNat 32 (4 * r.val))) (tripRun.sl.r_1 c D.xsb)
    (extractStridedSlice S12x128 ![0, e] (k0_pay4 (tripRun.sl.r_4 c D.xq) (chunk D k off h)) he)
    (View.readAt (Elt Ideal) vWs.view (Rect.unit (s := S50257) (k0_off6 k (BitVec.ofNat 32 (128 * r.val))) S128.size (k0_off6_inb k r)).toLoadRect D.ws)) shapeCasts_S12x128_S12x1x128

/-- A trip's pieces are its sixteen tiles, the last first. -/
theorem slabL_tiles (k : Fin k0_t1_loop.trips) : slabL D k =
    [⟨tileR k 15, tileP D k 15 128 slices_S32x256_o0_128_S12x128 (k0_off14 k) (k0_off14_inb k)⟩, ⟨tileR k 14, tileP D k 14 0 slices_S32x256_o0_0_S12x128 (k0_off14 k) (k0_off14_inb k)⟩,
     ⟨tileR k 13, tileP D k 13 128 slices_S32x256_o0_128_S12x128 (k0_off13 k) (k0_off13_inb k)⟩, ⟨tileR k 12, tileP D k 12 0 slices_S32x256_o0_0_S12x128 (k0_off13 k) (k0_off13_inb k)⟩,
     ⟨tileR k 11, tileP D k 11 128 slices_S32x256_o0_128_S12x128 (k0_off12 k) (k0_off12_inb k)⟩, ⟨tileR k 10, tileP D k 10 0 slices_S32x256_o0_0_S12x128 (k0_off12 k) (k0_off12_inb k)⟩,
     ⟨tileR k 9, tileP D k 9 128 slices_S32x256_o0_128_S12x128 (k0_off11 k) (k0_off11_inb k)⟩, ⟨tileR k 8, tileP D k 8 0 slices_S32x256_o0_0_S12x128 (k0_off11 k) (k0_off11_inb k)⟩,
     ⟨tileR k 7, tileP D k 7 128 slices_S32x256_o0_128_S12x128 (k0_off10 k) (k0_off10_inb k)⟩, ⟨tileR k 6, tileP D k 6 0 slices_S32x256_o0_0_S12x128 (k0_off10 k) (k0_off10_inb k)⟩,
     ⟨tileR k 5, tileP D k 5 128 slices_S32x256_o0_128_S12x128 (k0_off9 k) (k0_off9_inb k)⟩, ⟨tileR k 4, tileP D k 4 0 slices_S32x256_o0_0_S12x128 (k0_off9 k) (k0_off9_inb k)⟩,
     ⟨tileR k 3, tileP D k 3 128 slices_S32x256_o0_128_S12x128 (k0_off8 k) (k0_off8_inb k)⟩, ⟨tileR k 2, tileP D k 2 0 slices_S32x256_o0_0_S12x128 (k0_off8 k) (k0_off8_inb k)⟩,
     ⟨tileR k 1, tileP D k 1 128 slices_S32x256_o0_128_S12x128 (k0_off5 k) (k0_off5_inb k)⟩, ⟨tileR k 0, tileP D k 0 0 slices_S32x256_o0_0_S12x128 (k0_off5 k) (k0_off5_inb k)⟩] := rfl

/-- The product's columns a tile takes. -/
theorem raw_apply (x : FVec Ideal S32x1600 .fp8e4m3) (w : FVec Ideal S1600x256 .fp8e4m3) (e : ℕ) (h01 : e = 0 ∨ e = 128) (he) (b : Fin 12) (l : Fin 128) :
    extractStridedSlice S12x128 ![0, e] (k0_pay4 x w) he (ix2 b l)
      = ∑ k, x (ix2 (⟨b.val, by omega⟩ : Fin 32) k) * w (ix2 k (⟨e + l.val, by omega⟩ : Fin 256)) := by
  rcases h01 with rfl | rfl
  · pointwise [k0_pay4]
  · pointwise [k0_pay4]

/-- A tile of three axes, the middle of one, is the tile of two. -/
theorem cast_tile (T : FVec Ideal S12x128 .f32) (h) (b : Fin 12) (l : Fin 128) : shapeCast S12x1x128 T h (ix3 b 0 l) = T (ix2 b l) := by
  pointwise

/-- What the trips' buffers hold: the activations' codes and scales, the weights and their scales, and the mask's words. -/
structure Holds (X : Vec Ideal S12x1600 .bf16) (W : Vec Ideal S1600x50257 .fp8e4m3) (ws : Vec Ideal S50257 .f32) (bm : Vec Ideal S12x1571 .i32) : Prop where
  h371 : ∀ (b : Fin 12) (l : Fin 128), D.v371 (ix2 b l) = BitVec.ofNat 32 (l.val / 32)
  h375 : ∀ (b : Fin 12) (l : Fin 128), D.v375 (ix2 b l) = BitVec.ofNat 32 (31 - l.val % 32)
  xq : ∀ (b : Fin 12) (k : Fin 1600), vXq.view.read (Elt Ideal) D.xq (ix2 (⟨b.val, by omega⟩ : Fin 32) k) = ReferenceIdeal.Gen.k0_pay4 X (ix2 b k)
  xsb : ∀ (b : Fin 12) (l : Fin 128), vXsb.view.read (Elt Ideal) D.xsb (ix2 b l) = ReferenceIdeal.Gen.k0_pay3 X (ix2 b 0)
  ws : ∀ j : Fin 50257, vWs.view.read (Elt Ideal) D.ws (ix1 j) = ws (ix1 j)
  words : ∀ (b : Fin 12) (p : Fin 1571), vWords.view.read (Elt Ideal) D.words (ix2 b (⟨p.val, by omega⟩ : Fin 1664)) = bm (ix2 b p)
  fW : ∀ (k : Fin 1600) (j : Fin 50257), mW.view.read (Elt Ideal) D.fW (ix2 k j) = W (ix2 k j)

/-- The word a tile's first lane asks for, within the trip's words. -/
theorem word_off : ∀ (k : Fin k0_t1_loop.trips) (r : Fin 16), Scalar.addi (tripRun.sl.v874 k) (BitVec.ofNat 32 (4 * r.val)) = BitVec.ofNat 32 (64 * (k.val % 2) + 4 * r.val) := by
  decide +kernel

section Tiles

variable {D} {X : Vec Ideal S12x1600 .bf16} {W : Vec Ideal S1600x50257 .fp8e4m3} {ws : Vec Ideal S50257 .f32} {bm : Vec Ideal S12x1571 .i32} (H : Holds D X W ws bm)
include H

/-- The products of a tile. -/
theorem tile_raw (k : Fin k0_t1_loop.trips) (r : Fin 16) (e : ℕ) (he) (off : Fin 3 → ℕ) (h) (n : ℕ) (hn : n < 8) (hoff : off = ![k.val % 4, 0, 256 * n])
    (h01 : e = 0 ∨ e = 128) (hr : 128 * r.val = 256 * n + e) (b : Fin 12) (l : Fin 128) (hl : 2048 * k.val + 128 * r.val + l.val < 50257) :
    extractStridedSlice S12x128 ![0, e] (k0_pay4 (tripRun.sl.r_4 c D.xq) (chunk D k off h)) he (ix2 b l)
      = ∑ kk, ReferenceIdeal.Gen.k0_pay4 X (ix2 b kk) * W (ix2 kk (⟨2048 * k.val + 128 * r.val + l.val, hl⟩ : Fin 50257)) := by
  refine (raw_apply (tripRun.sl.r_4 c D.xq) (chunk D k off h) e h01 he b l).trans (Finset.sum_congr rfl fun kk _ => ?_)
  have e1 : tripRun.sl.r_4 c D.xq (ix2 (⟨b.val, by omega⟩ : Fin 32) kk) = ReferenceIdeal.Gen.k0_pay4 X (ix2 b kk) := by
    refine (readAt_at vXq.view D.xq _ _ _ (ix2 (⟨b.val, by omega⟩ : Fin 32) kk) (ix2 (⟨b.val, by omega⟩ : Fin 32) kk) fun a => ?_).trans (H.xq b kk)
    match a with
    | ⟨0, _⟩ => exact (Nat.zero_add b.val).symm
    | ⟨1, _⟩ => exact (Nat.zero_add kk.val).symm
  have hx : 2048 * k.val + 256 * n + (e + l.val) < 50257 := by omega
  have e2 : chunk D k off h (ix2 kk (⟨e + l.val, by omega⟩ : Fin 256)) = W (ix2 kk (⟨2048 * k.val + 128 * r.val + l.val, hl⟩ : Fin 50257)) := by
    have ef : (⟨2048 * k.val + 256 * n + (e + l.val), hx⟩ : Fin 50257) = ⟨2048 * k.val + 128 * r.val + l.val, hl⟩ := Fin.ext (by show 2048 * k.val + 256 * n + (e + l.val) = 2048 * k.val + 128 * r.val + l.val; omega)
    refine (chunk_apply D k off h n hn hoff kk _ hx).trans ((H.fW kk _).trans ?_)
    rw [ef]
  exact congrArg₂ (fun u v : EReal => u * v) e1 e2

/-- What a trip stores into a tile is the reference's masked logits. -/
theorem tileP_apply (k : Fin k0_t1_loop.trips) (r : Fin 16) (e : ℕ) (he) (off : Fin 3 → ℕ) (h) (n : ℕ) (hn : n < 8) (hoff : off = ![k.val % 4, 0, 256 * n])
    (h01 : e = 0 ∨ e = 128) (hr : 128 * r.val = 256 * n + e) (j : (tileR k r).shape.Idx) :
    tileP D k r e he off h j = Masked X W ws bm ((tileR k r).emb j) := by
  have hk : k.val < 24 := lt_of_lt_of_eq k.isLt trips1
  obtain ⟨b, z, l, rfl⟩ : ∃ (b : Fin 12) (z : Fin 1) (l : Fin 128), j = ix3 b z l := ⟨j 0, j 1, j 2, by funext a; match a with | ⟨0, _⟩ => rfl | ⟨1, _⟩ => rfl | ⟨2, _⟩ => rfl⟩
  obtain rfl : z = 0 := Subsingleton.elim _ _
  have hl : 2048 * k.val + 128 * r.val + l.val < 50257 := by omega
  have ei : (tileR k r).emb (ix3 b 0 l) = ix3 b 0 (⟨2048 * k.val + 128 * r.val + l.val, hl⟩ : Fin 50257) := by
    funext a
    apply Fin.ext
    show k0_off7 k (BitVec.ofNat 32 (128 * r.val)) a + 1 * _ = _
    rw [k0_off7_eq]
    match a with
    | ⟨0, _⟩ => show 0 + 1 * b.val = b.val; omega
    | ⟨1, _⟩ => show 0 + 1 * 0 = 0; omega
    | ⟨2, _⟩ => show 2048 * k.val + 128 * r.val + 1 * l.val = 2048 * k.val + 128 * r.val + l.val; omega
  rw [ei]
  refine (cast_tile _ _ b l).trans ?_
  refine tileM_apply X W ws bm _ _ _ _ _ _ _ b l (2048 * k.val + 128 * r.val) (128 * (k.val / 2)) (64 * (k.val % 2) + 4 * r.val) (by omega) (by omega)
    (word_off k r) hl (H.h371 b l) (H.h375 b l) (fun p hp => ?_) ?_ ?_ ?_
  · refine (readAt_at vWords.view D.words _ _ (k0_off4_inb k) (ix2 b p) (ix2 b (⟨128 * (k.val / 2) + p.val, by omega⟩ : Fin 1664)) fun a => ?_).trans (H.words b ⟨_, hp⟩)
    refine Eq.trans ?_ (congrArg (fun t => t + (ix2 b p a).val) (congrFun (k0_off4_eq k) a).symm)
    match a with
    | ⟨0, _⟩ => exact (Nat.zero_add b.val).symm
    | ⟨1, _⟩ => exact rfl
  · refine (readAt_at vXsb.view D.xsb _ _ _ (ix2 b l) (ix2 b l) fun a => ?_).trans (H.xsb b l)
    match a with
    | ⟨0, _⟩ => exact (Nat.zero_add b.val).symm
    | ⟨1, _⟩ => exact (Nat.zero_add l.val).symm
  · exact tile_raw H k r e he off h n hn hoff h01 hr b l hl
  · refine (readAt_at vWs.view D.ws _ _ (k0_off6_inb k r) (ix1 l) (ix1 (⟨2048 * k.val + 128 * r.val + l.val, hl⟩ : Fin 50257)) fun a => ?_).trans (H.ws _)
    refine Eq.trans ?_ (congrArg (fun t => t + (ix1 l a).val) (congrFun (k0_off6_eq k r) a).symm)
    match a with
    | ⟨0, _⟩ => exact rfl

/-- Every piece a trip stores is the reference's masked logits. -/
theorem slab_pieces (k : Fin k0_t1_loop.trips) : ∀ p ∈ slabL D k, ∀ j : p.1.shape.Idx, p.2 j = Masked X W ws bm (p.1.emb j) := by
  rw [slabL_tiles]
  simp only [List.forall_mem_cons]
  refine ⟨?_, ?_, ?_, ?_, ?_, ?_, ?_, ?_, ?_, ?_, ?_, ?_, ?_, ?_, ?_, ?_, ?_⟩
  · exact fun j => tileP_apply H k 15 128 _ _ _ 7 (by decide) (k0_off14_eq k) (.inr rfl) rfl j
  · exact fun j => tileP_apply H k 14 0 _ _ _ 7 (by decide) (k0_off14_eq k) (.inl rfl) rfl j
  · exact fun j => tileP_apply H k 13 128 _ _ _ 6 (by decide) (k0_off13_eq k) (.inr rfl) rfl j
  · exact fun j => tileP_apply H k 12 0 _ _ _ 6 (by decide) (k0_off13_eq k) (.inl rfl) rfl j
  · exact fun j => tileP_apply H k 11 128 _ _ _ 5 (by decide) (k0_off12_eq k) (.inr rfl) rfl j
  · exact fun j => tileP_apply H k 10 0 _ _ _ 5 (by decide) (k0_off12_eq k) (.inl rfl) rfl j
  · exact fun j => tileP_apply H k 9 128 _ _ _ 4 (by decide) (k0_off11_eq k) (.inr rfl) rfl j
  · exact fun j => tileP_apply H k 8 0 _ _ _ 4 (by decide) (k0_off11_eq k) (.inl rfl) rfl j
  · exact fun j => tileP_apply H k 7 128 _ _ _ 3 (by decide) (k0_off10_eq k) (.inr rfl) rfl j
  · exact fun j => tileP_apply H k 6 0 _ _ _ 3 (by decide) (k0_off10_eq k) (.inl rfl) rfl j
  · exact fun j => tileP_apply H k 5 128 _ _ _ 2 (by decide) (k0_off9_eq k) (.inr rfl) rfl j
  · exact fun j => tileP_apply H k 4 0 _ _ _ 2 (by decide) (k0_off9_eq k) (.inl rfl) rfl j
  · exact fun j => tileP_apply H k 3 128 _ _ _ 1 (by decide) (k0_off8_eq k) (.inr rfl) rfl j
  · exact fun j => tileP_apply H k 2 0 _ _ _ 1 (by decide) (k0_off8_eq k) (.inl rfl) rfl j
  · exact fun j => tileP_apply H k 1 128 _ _ _ 0 (by decide) (k0_off5_eq k) (.inr rfl) rfl j
  · exact fun j => tileP_apply H k 0 0 _ _ _ 0 (by decide) (k0_off5_eq k) (.inl rfl) rfl j
  · exact fun p hp => absurd hp List.not_mem_nil

/-- A trip's slab, read at an element of it, is the reference's masked logits. -/
theorem slab_read (k : Fin k0_t1_loop.trips) (y : S12x1x50257.Idx) (hy : y ∈ (tripR k).set) : vOut.view.read (Elt Ideal) (slabC D k) y = Masked X W ws bm y := by
  unfold slabC
  refine (View.read_writes_apply_eq_canon vOut.view _ y _ (slabL_cover D k y hy)).trans ?_
  exact View.canon_apply_of_pieces _ _ (slab_pieces H k) y (slabL_cover D k y hy)

end Tiles

end Cert.KernelIdeal.Hand

end
-- ==== Proof.KernelIdeal.Tail.lean ====
/-
  What the body stores into the logits after the last slab is the reference's masked logits.
-/
module
public import proofs.«01_k».proof.Proof.KernelIdeal.Slab
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI Idealize.SL.Sem

attribute [local irreducible] proRun restRun

variable {c : Dev nD} (D : Data Ideal c)

/-- Columns of the weights after the last slab. -/
def tailCols (sz : Fin 2 → ℕ) (off : Fin 2 → ℕ) (h : ∀ a, off a + sz a ≤ S1600x1105.size a) : (Rect.unit (s := S1600x1105) off sz h).shape.Idx → Elt Ideal .fp8e4m3 :=
  vTail.view.readCov [⟨Rect.whole S1600x1105, ReadAs.same.apply (View.read (Elt Ideal) tailW.view D.fW)⟩] (Rect.unit (s := S1600x1105) off sz h).toLoadRect

theorem tailCols_apply (sz : Fin 2 → ℕ) (off : Fin 2 → ℕ) (h : ∀ a, off a + sz a ≤ S1600x1105.size a) (j : (Rect.unit (s := S1600x1105) off sz h).shape.Idx)
    (o l : ℕ) (hoff : off = ![0, o]) (kk : Fin 1600) (h0 : (j 0).val = kk.val) (h1 : (j 1).val = l) (hl : 49152 + (o + l) < 50257) :
    tailCols D sz off h j = mW.view.read (Elt Ideal) D.fW (ix2 kk (⟨49152 + (o + l), hl⟩ : Fin 50257)) := by
  unfold tailCols
  refine (readAt_at vTail.view _ off sz h j (ix2 kk (⟨o + l, by omega⟩ : Fin 1105)) fun a => ?_).trans ?_
  · subst hoff
    match a with
    | ⟨0, _⟩ => exact ((Nat.zero_add _).trans h0).symm
    | ⟨1, _⟩ => exact (congrArg (fun t => o + t) h1).symm
  refine (congrFun (View.read_writes_whole vTail.view _ _) _).trans ?_
  show mW.view.read (Elt Ideal) D.fW _ = _
  refine congrArg (mW.view.read (Elt Ideal) D.fW) ?_
  funext a
  apply Fin.ext
  match a with
  | ⟨0, _⟩ => show 0 + 1 * kk.val = kk.val; omega
  | ⟨1, _⟩ => show 49152 + 1 * (o + l) = 49152 + (o + l); omega

/-- What the body stores into a tile after the last slab. -/
def tailP (r : Fin 8) (J : ℕ) (hJ : ∀ a, (![J] : Fin 1 → ℕ) a + S128.size a ≤ S50257.size a) (e : ℕ) (he : S32x256.Slices ![0, e] S12x128) (off : Fin 2 → ℕ)
    (h : ∀ a, off a + S1600x256.size a ≤ S1600x1105.size a) : FVec Ideal S12x1x128 .f32 :=
  shapeCast S12x1x128 (tileM D.v371 D.v375 (restRun.sl.r c D.words) (BitVec.ofNat 32 (4 * r.val)) (restRun.sl.r_3 c D.xsb)
    (extractStridedSlice S12x128 ![0, e] (k0_pay4 (tripRun.sl.r_4 c D.xq) (tailCols D S1600x256.size off h)) he)
    (View.readAt (Elt Ideal) vWs.view (Rect.unit (s := S50257) ![J] S128.size hJ).toLoadRect D.ws)) shapeCasts_S12x128_S12x1x128

/-- The tail's pieces are eight tiles and a narrower one, the last first. -/
theorem tail_tiles (h371 : D.v371 = shrsi proRun.sl.v369 proRun.sl.v150) (h375 : D.v375 = proRun.sl.v375) :
    restRun.sl.HV_9 c D.fW D.xq D.xsb D.ws D.words =
    [⟨Rect.unit (s := S12x1x50257) ![0, 0, 50176] S12x1x81.size inb_S12x1x50257_S12x1x81_0_0_50176,
        k0_pay243 proRun.sl.v369 D.v371 D.v375 (restRun.sl.r c D.words) (restRun.sl.r_3 c D.xsb) (tripRun.sl.r_4 c D.xq)
          (tailCols D S1600x81.size ![0, 1024] inb_S1600x1105_S1600x81_0_1024)
          (View.readAt (Elt Ideal) vWs.view (Rect.unit (s := S50257) ![50176] S81.size inb_S50257_S81_50176).toLoadRect D.ws)⟩,
     ⟨Rect.unit (s := S12x1x50257) ![0, 0, 50048] S12x1x128.size inb_S12x1x50257_S12x1x128_0_0_50048, tailP D 7 50048 inb_S50257_S128_50048 128 slices_S32x256_o0_128_S12x128 ![0, 768] inb_S1600x1105_S1600x256_0_768⟩,
     ⟨Rect.unit (s := S12x1x50257) ![0, 0, 49920] S12x1x128.size inb_S12x1x50257_S12x1x128_0_0_49920, tailP D 6 49920 inb_S50257_S128_49920 0 slices_S32x256_o0_0_S12x128 ![0, 768] inb_S1600x1105_S1600x256_0_768⟩,
     ⟨Rect.unit (s := S12x1x50257) ![0, 0, 49792] S12x1x128.size inb_S12x1x50257_S12x1x128_0_0_49792, tailP D 5 49792 inb_S50257_S128_49792 128 slices_S32x256_o0_128_S12x128 ![0, 512] inb_S1600x1105_S1600x256_0_512⟩,
     ⟨Rect.unit (s := S12x1x50257) ![0, 0, 49664] S12x1x128.size inb_S12x1x50257_S12x1x128_0_0_49664, tailP D 4 49664 inb_S50257_S128_49664 0 slices_S32x256_o0_0_S12x128 ![0, 512] inb_S1600x1105_S1600x256_0_512⟩,
     ⟨Rect.unit (s := S12x1x50257) ![0, 0, 49536] S12x1x128.size inb_S12x1x50257_S12x1x128_0_0_49536, tailP D 3 49536 inb_S50257_S128_49536 128 slices_S32x256_o0_128_S12x128 ![0, 256] inb_S1600x1105_S1600x256_0_256⟩,
     ⟨Rect.unit (s := S12x1x50257) ![0, 0, 49408] S12x1x128.size inb_S12x1x50257_S12x1x128_0_0_49408, tailP D 2 49408 inb_S50257_S128_49408 0 slices_S32x256_o0_0_S12x128 ![0, 256] inb_S1600x1105_S1600x256_0_256⟩,
     ⟨Rect.unit (s := S12x1x50257) ![0, 0, 49280] S12x1x128.size inb_S12x1x50257_S12x1x128_0_0_49280, tailP D 1 49280 inb_S50257_S128_49280 128 slices_S32x256_o0_128_S12x128 ![0, 0] inb_S1600x1105_S1600x256_0_0⟩,
     ⟨Rect.unit (s := S12x1x50257) ![0, 0, 49152] S12x1x128.size inb_S12x1x50257_S12x1x128_0_0_49152, tailP D 0 49152 inb_S50257_S128_49152 0 slices_S32x256_o0_0_S12x128 ![0, 0] inb_S1600x1105_S1600x256_0_0⟩] := by
  unfold tailP
  rw [h371, h375]
  rfl

/-- The lane numbers. -/
theorem lane_id (b : Fin 12) (l : Fin 128) : proRun.sl.v369 (ix2 b l) = BitVec.ofNat 32 l.val := by
  pointwise [proRun.sl.v369]

/-- The last, narrower tile, read at a lane, is the wider tile's there. -/
theorem last_apply (v371 v375 wd : IVec S12x128 32) (sc : FVec Ideal S12x128 .f32) (x : FVec Ideal S32x1600 .fp8e4m3) (w : FVec Ideal S1600x81 .fp8e4m3) (ws : FVec Ideal S81 .f32)
    (raw : FVec Ideal S12x128 .f32) (ws' : FVec Ideal S128 .f32)
    (b : Fin 12) (l : Fin 81) (hraw : raw (ix2 b (⟨l.val, by omega⟩ : Fin 128)) = ∑ k, x (ix2 (⟨b.val, by omega⟩ : Fin 32) k) * w (ix2 k l)) (hws : ws' (ix1 (⟨l.val, by omega⟩ : Fin 128)) = ws (ix1 l)) :
    k0_pay243 (F := Ideal) proRun.sl.v369 v371 v375 wd sc x w ws (ix3 b 0 l) = tileM v371 v375 wd 32#32 sc raw ws' (ix2 b (⟨l.val, by omega⟩ : Fin 128)) := by
  have h81 : IntOp.cmpi .slt (proRun.sl.v369 (ix2 b (⟨l.val, by omega⟩ : Fin 128))) 81#32 = 1#1 := by
    have hl := l.isLt
    rw [lane_id]
    have : ∀ n < 81, IntOp.cmpi .slt (BitVec.ofNat 32 n) 81#32 = 1#1 := by decide +kernel
    exact this _ hl
  have hand : ∀ u : BitVec 1, IntOp.andi u 1#1 = u := by decide
  pointwise [k0_pay243, k0_pay241, k0_pay240, k0_pay239, tileM]
  rw [h81, hand, hraw, hws]

section Tiles

variable {D} {X : Vec Ideal S12x1600 .bf16} {W : Vec Ideal S1600x50257 .fp8e4m3} {ws : Vec Ideal S50257 .f32} {bm : Vec Ideal S12x1571 .i32} (H : Holds D X W ws bm)
include H

theorem xq_apply (b : Fin 12) (kk : Fin 1600) : tripRun.sl.r_4 c D.xq (ix2 (⟨b.val, by omega⟩ : Fin 32) kk) = ReferenceIdeal.Gen.k0_pay4 X (ix2 b kk) := by
  refine (readAt_at vXq.view D.xq _ _ _ (ix2 (⟨b.val, by omega⟩ : Fin 32) kk) (ix2 (⟨b.val, by omega⟩ : Fin 32) kk) fun a => ?_).trans (H.xq b kk)
  match a with
  | ⟨0, _⟩ => exact (Nat.zero_add b.val).symm
  | ⟨1, _⟩ => exact (Nat.zero_add kk.val).symm

theorem tail_words (b : Fin 12) (p : Fin 128) (hp : 1536 + p.val < 1571) : restRun.sl.r c D.words (ix2 b p) = bm (ix2 b (⟨1536 + p.val, hp⟩ : Fin 1571)) := by
  refine (readAt_at vWords.view D.words _ _ _ (ix2 b p) (ix2 b (⟨1536 + p.val, by omega⟩ : Fin 1664)) fun a => ?_).trans (H.words b ⟨_, hp⟩)
  match a with
  | ⟨0, _⟩ => exact (Nat.zero_add b.val).symm
  | ⟨1, _⟩ => exact rfl

theorem tail_scale (b : Fin 12) (l : Fin 128) : restRun.sl.r_3 c D.xsb (ix2 b l) = ReferenceIdeal.Gen.k0_pay3 X (ix2 b 0) := by
  refine (readAt_at vXsb.view D.xsb _ _ _ (ix2 b l) (ix2 b l) fun a => ?_).trans (H.xsb b l)
  match a with
  | ⟨0, _⟩ => exact (Nat.zero_add b.val).symm
  | ⟨1, _⟩ => exact (Nat.zero_add l.val).symm

theorem tail_ws (J : ℕ) (sz : Fin 1 → ℕ) (hJ : ∀ a, (![J] : Fin 1 → ℕ) a + sz a ≤ S50257.size a) (j : (Rect.unit (s := S50257) ![J] sz hJ).shape.Idx) (l : ℕ) (hj : (j 0).val = l) (hl : J + l < 50257) :
    View.readAt (Elt Ideal) vWs.view (Rect.unit (s := S50257) ![J] sz hJ).toLoadRect D.ws j = ws (ix1 (⟨J + l, hl⟩ : Fin 50257)) := by
  refine (readAt_at vWs.view D.ws _ _ hJ j (ix1 (⟨J + l, hl⟩ : Fin 50257)) fun a => ?_).trans (H.ws _)
  match a with
  | ⟨0, _⟩ => exact (congrArg (fun t => J + t) hj).symm

/-- The products of a tile after the last slab. -/
theorem tail_raw (sz : Fin 2 → ℕ) (off : Fin 2 → ℕ) (h : ∀ a, off a + sz a ≤ S1600x1105.size a) (o : ℕ) (hoff : off = ![0, o]) (kk : Fin 1600)
    (j : (Rect.unit (s := S1600x1105) off sz h).shape.Idx) (h0 : (j 0).val = kk.val) (l : ℕ) (h1 : (j 1).val = l) (J : Fin 50257) (hJ : J.val = 49152 + (o + l)) :
    tailCols D sz off h j = W (ix2 kk J) := by
  have hl : 49152 + (o + l) < 50257 := hJ ▸ J.isLt
  obtain rfl : J = ⟨49152 + (o + l), hl⟩ := Fin.ext hJ
  exact (tailCols_apply D sz off h j o l hoff kk h0 h1 hl).trans (H.fW kk _)

theorem tailP_apply (r : Fin 8) (J : ℕ) (hJ' : ∀ a, (![J] : Fin 1 → ℕ) a + S128.size a ≤ S50257.size a) (e : ℕ) (he) (off : Fin 2 → ℕ) (h) (n : ℕ)
    (hoff : off = ![0, 256 * n]) (h01 : e = 0 ∨ e = 128) (hJ : J = 49152 + (256 * n + e)) (hr : 128 * r.val = 256 * n + e)
    (hR : ∀ a, (![0, 0, J] : Fin 3 → ℕ) a + S12x1x128.size a ≤ S12x1x50257.size a) (j : (Rect.unit (s := S12x1x50257) ![0, 0, J] S12x1x128.size hR).shape.Idx) :
    tailP D r J hJ' e he off h j = Masked X W ws bm ((Rect.unit (s := S12x1x50257) ![0, 0, J] S12x1x128.size hR).emb j) := by
  have hrl := r.isLt
  obtain ⟨b, z, l, rfl⟩ : ∃ (b : Fin 12) (z : Fin 1) (l : Fin 128), j = ix3 b z l := ⟨j 0, j 1, j 2, by funext a; match a with | ⟨0, _⟩ => rfl | ⟨1, _⟩ => rfl | ⟨2, _⟩ => rfl⟩
  obtain rfl : z = 0 := Subsingleton.elim _ _
  have hl : J + l.val < 50257 := by omega
  have ei : (Rect.unit (s := S12x1x50257) ![0, 0, J] S12x1x128.size hR).emb (ix3 b 0 l) = ix3 b 0 (⟨J + l.val, hl⟩ : Fin 50257) := by
    funext a
    apply Fin.ext
    match a with
    | ⟨0, _⟩ => show 0 + 1 * b.val = b.val; omega
    | ⟨1, _⟩ => show 0 + 1 * 0 = 0; omega
    | ⟨2, _⟩ => show J + 1 * l.val = J + l.val; omega
  rw [ei]
  refine (cast_tile _ _ b l).trans ?_
  refine tileM_apply X W ws bm _ _ _ _ _ _ _ b l J 1536 (4 * r.val) (by omega) (by omega) rfl hl (H.h371 b l) (H.h375 b l) (fun p hp => tail_words H b p hp) (tail_scale H b l) ?_
    (tail_ws H J _ hJ' (ix1 l) l.val rfl hl)
  refine (raw_apply (tripRun.sl.r_4 c D.xq) (tailCols D S1600x256.size off h) e h01 he b l).trans (Finset.sum_congr rfl fun kk _ => ?_)
  exact congrArg₂ (fun u v : EReal => u * v) (xq_apply H b kk)
    (tail_raw H _ off h (256 * n) hoff kk (ix2 kk (⟨e + l.val, by omega⟩ : Fin 256)) rfl (e + l.val) rfl _ (by show J + l.val = 49152 + (256 * n + (e + l.val)); omega))

/-- The last tile's lanes. -/
theorem last_masked (hR : ∀ a, (![0, 0, 50176] : Fin 3 → ℕ) a + S12x1x81.size a ≤ S12x1x50257.size a) (j : (Rect.unit (s := S12x1x50257) ![0, 0, 50176] S12x1x81.size hR).shape.Idx) :
    k0_pay243 proRun.sl.v369 D.v371 D.v375 (restRun.sl.r c D.words) (restRun.sl.r_3 c D.xsb) (tripRun.sl.r_4 c D.xq)
          (tailCols D S1600x81.size ![0, 1024] inb_S1600x1105_S1600x81_0_1024)
          (View.readAt (Elt Ideal) vWs.view (Rect.unit (s := S50257) ![50176] S81.size inb_S50257_S81_50176).toLoadRect D.ws) j
      = Masked X W ws bm ((Rect.unit (s := S12x1x50257) ![0, 0, 50176] S12x1x81.size hR).emb j) := by
  obtain ⟨b, z, l, rfl⟩ : ∃ (b : Fin 12) (z : Fin 1) (l : Fin 81), j = ix3 b z l := ⟨j 0, j 1, j 2, by funext a; match a with | ⟨0, _⟩ => rfl | ⟨1, _⟩ => rfl | ⟨2, _⟩ => rfl⟩
  obtain rfl : z = 0 := Subsingleton.elim _ _
  have hl : 50176 + l.val < 50257 := by omega
  have ei : (Rect.unit (s := S12x1x50257) ![0, 0, 50176] S12x1x81.size hR).emb (ix3 b 0 l) = ix3 b 0 (⟨50176 + l.val, hl⟩ : Fin 50257) := by
    funext a
    apply Fin.ext
    match a with
    | ⟨0, _⟩ => show 0 + 1 * b.val = b.val; omega
    | ⟨1, _⟩ => show 0 + 1 * 0 = 0; omega
    | ⟨2, _⟩ => show 50176 + 1 * l.val = 50176 + l.val; omega
  rw [ei]
  refine (last_apply D.v371 D.v375 _ _ (tripRun.sl.r_4 c D.xq) (tailCols D S1600x81.size ![0, 1024] inb_S1600x1105_S1600x81_0_1024) _
    (fun _ => ∑ kk, ReferenceIdeal.Gen.k0_pay4 X (ix2 b kk) * W (ix2 kk (⟨50176 + l.val, hl⟩ : Fin 50257))) (fun _ => ws (ix1 (⟨50176 + l.val, hl⟩ : Fin 50257))) b l ?_ ?_).trans ?_
  · refine Finset.sum_congr rfl fun kk _ => ?_
    exact congrArg₂ (fun u v : EReal => u * v) (xq_apply H b kk).symm
      (tail_raw H _ _ _ 1024 rfl kk (ix2 kk l) rfl l.val rfl _ (by show 50176 + l.val = 49152 + (1024 + l.val); omega)).symm
  · exact (tail_ws H 50176 _ _ (ix1 l) l.val rfl hl).symm
  · exact tileM_apply X W ws bm _ _ _ _ _ _ _ b (⟨l.val, by omega⟩ : Fin 128) 50176 1536 32 (by omega) (by omega) rfl hl (H.h371 b _) (H.h375 b _) (fun p hp => tail_words H b p hp)
      (tail_scale H b _) rfl rfl

/-- Every piece the body stores into the logits after the last slab is the reference's masked logits. -/
theorem tail_pieces (h371 : D.v371 = shrsi proRun.sl.v369 proRun.sl.v150) (h375 : D.v375 = proRun.sl.v375) :
    ∀ p ∈ restRun.sl.HV_9 c D.fW D.xq D.xsb D.ws D.words, ∀ j : p.1.shape.Idx, p.2 j = Masked X W ws bm (p.1.emb j) := by
  rw [tail_tiles D h371 h375]
  simp only [List.forall_mem_cons]
  refine ⟨?_, ?_, ?_, ?_, ?_, ?_, ?_, ?_, ?_, ?_⟩
  · exact fun j => last_masked H _ j
  · exact fun j => tailP_apply H 7 _ _ 128 _ _ _ 3 rfl (.inr rfl) rfl rfl _ j
  · exact fun j => tailP_apply H 6 _ _ 0 _ _ _ 3 rfl (.inl rfl) rfl rfl _ j
  · exact fun j => tailP_apply H 5 _ _ 128 _ _ _ 2 rfl (.inr rfl) rfl rfl _ j
  · exact fun j => tailP_apply H 4 _ _ 0 _ _ _ 2 rfl (.inl rfl) rfl rfl _ j
  · exact fun j => tailP_apply H 3 _ _ 128 _ _ _ 1 rfl (.inr rfl) rfl rfl _ j
  · exact fun j => tailP_apply H 2 _ _ 0 _ _ _ 1 rfl (.inl rfl) rfl rfl _ j
  · exact fun j => tailP_apply H 1 _ _ 128 _ _ _ 0 rfl (.inr rfl) rfl rfl _ j
  · exact fun j => tailP_apply H 0 _ _ 0 _ _ _ 0 rfl (.inl rfl) rfl rfl _ j
  · exact fun p hp => absurd hp List.not_mem_nil

end Tiles

end Cert.KernelIdeal.Hand

end
-- ==== Proof.KernelIdeal.Loaded.lean ====
/-
  What the buffers the loops read hold after the body's first part: the reference's codes and scales, the weights' scales and
  the mask's words.
-/
module
public import proofs.«01_k».proof.Proof.KernelIdeal.Tail
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI Idealize.SL.Sem

variable (c : Dev nD) (fX : Bf (F := Ideal) c mX) (fW : Bf (F := Ideal) c mW) (fWs : Bf (F := Ideal) c mWs) (fBm : Bf (F := Ideal) c mBm) (fCand : Bf (F := Ideal) c mCand) (fO : Bf (F := Ideal) c mOut)

/-- A buffer a transfer filled, loaded whole, is what the transfer carried. -/
theorem load_whole {κ : Kind} {sp : Space} {S : Shape} {e : EltTy} (v : View sig κ sp S e) (w : S.Idx → Elt Ideal e) (off : Fin S.rank → ℕ) (h0 : off = fun _ => 0)
    (h : ∀ a, off a + S.size a ≤ S.size a) : v.readCov [⟨Rect.whole S, w⟩] (Rect.unit off S.size h).toLoadRect = w := by
  funext j
  unfold View.readCov
  refine (readAt_at v _ off S.size h j j fun a => ?_).trans (congrFun (View.read_writes_whole v _ w) j)
  subst h0
  exact (Nat.zero_add _).symm

theorem zero2 : (![0, 0] : Fin 2 → ℕ) = fun _ => 0 := by decide

/-- The activations the body loads. -/
theorem x_loaded : proRun.sl.v58 c fX = fX := by
  unfold proRun.sl.v58
  refine (load_whole vX.view _ _ zero2 _).trans ?_
  rfl

theorem bm_loaded : proRun.sl.v140 c fBm = fBm := by
  unfold proRun.sl.v140
  refine (load_whole vBm.view _ _ zero2 _).trans ?_
  rfl

theorem codes_rows (b : Fin 12) (k : Fin 1600) : k0_pay152 (F := Ideal) (k0_pay147 fX) k0_pay148 (ix2 b k) = k0_pay151 (F := Ideal) (k0_pay147 fX) k0_pay148 (ix2 b k) := by
  pointwise [k0_pay152, k0_pay151]

attribute [local irreducible] tripRun restRun

/-- The first of several stores, read at an element it covers. -/
theorem read_first {κ : Kind} {sp : Space} {S : Shape} {e : EltTy} (v : View sig κ sp S e) (f : v.ty.Contents (Elt Ideal)) (off size : Fin S.rank → ℕ)
    (h : ∀ a, off a + size a ≤ S.size a) (w : (Rect.unit off size h).shape.Idx → Elt Ideal e) (L : List (View.Piece (Elt Ideal) S e))
    (j : (Rect.unit off size h).shape.Idx) (i : S.Idx) (hi : ∀ a, (i a).val = off a + (j a).val) :
    v.read (Elt Ideal) (v.writes (Elt Ideal) f (⟨Rect.unit off size h, w⟩ :: L)) i = w j := by
  have e : i = (Rect.unit off size h).emb j := by
    funext a
    apply Fin.ext
    refine (hi a).trans ?_
    show off a + (j a).val = off a + 1 * (j a).val
    omega
  rw [e]
  exact View.read_writes_cons_emb v f _ w L j

theorem h371_eq (b : Fin 12) (l : Fin 128) : shrsi proRun.sl.v369 proRun.sl.v150 (ix2 b l) = BitVec.ofNat 32 (l.val / 32) := by
  pointwise [proRun.sl.v150]
  rw [lane_id]
  have : ∀ n < 128, IntOp.shrsi .vector (BitVec.ofNat 32 n) 5#32 = BitVec.ofNat 32 (n / 32) := by decide +kernel
  exact this _ l.isLt

theorem h375_eq (b : Fin 12) (l : Fin 128) : proRun.sl.v375 (ix2 b l) = BitVec.ofNat 32 (31 - l.val % 32) := by
  pointwise [proRun.sl.v375, proRun.sl.v361]
  rw [lane_id]
  have : ∀ n < 128, IntOp.subi 31#32 (IntOp.andi (BitVec.ofNat 32 n) 31#32) = BitVec.ofNat 32 (31 - n % 32) := by decide +kernel
  exact this _ l.isLt

theorem xq_eq (hx : Small fX) (b : Fin 12) (k : Fin 1600) :
    vXq.view.read (Elt Ideal) (vXq.view.writes (Elt Ideal) vXq.view.junk (proRun.sl.Hxq_2 c fX)) (ix2 (⟨b.val, by omega⟩ : Fin 32) k) = ReferenceIdeal.Gen.k0_pay4 fX (ix2 b k) := by
  have e : k0_pay152 (F := Ideal) (proRun.sl.r_1 c fX) k0_pay148 (ix2 b k) = ReferenceIdeal.Gen.k0_pay4 fX (ix2 b k) := by
    unfold proRun.sl.r_1
    rw [x_loaded]
    exact (codes_rows c fX b k).trans (codes_eq fX hx b k)
  rw [← e]
  unfold proRun.sl.Hxq_2
  exact read_first vXq.view _ ![0, 0] S12x1600.size inb_S32x1600_S12x1600_0_0 _ _ (ix2 b k) _ fun a => match a with
    | ⟨0, _⟩ => (Nat.zero_add b.val).symm
    | ⟨1, _⟩ => (Nat.zero_add k.val).symm

theorem xsbuf_eq (hx : Small fX) (b : Fin 12) (l : Fin 128) :
    vXsb.view.read (Elt Ideal) (vXsb.view.writes (Elt Ideal) vXsb.view.junk (proRun.sl.Hxsb_1 c fX)) (ix2 b l) = ReferenceIdeal.Gen.k0_pay3 fX (ix2 b 0) := by
  have e : k0_pay154 (F := Ideal) (proRun.sl.r c fX) (ix2 b l) = ReferenceIdeal.Gen.k0_pay3 fX (ix2 b 0) := by
    unfold proRun.sl.r
    rw [x_loaded]
    exact xsb_eq fX hx b l
  rw [← e]
  unfold proRun.sl.Hxsb_1
  exact read_first vXsb.view _ ![0, 0] S12x128.size inb_S12x128_S12x128_0_0 _ _ (ix2 b l) _ fun a => match a with
    | ⟨0, _⟩ => (Nat.zero_add b.val).symm
    | ⟨1, _⟩ => (Nat.zero_add l.val).symm

theorem wordbuf_eq (b : Fin 12) (p : Fin 1571) :
    vWords.view.read (Elt Ideal) (vWords.view.writes (Elt Ideal) vWords.view.junk (proRun.sl.Hwords_2 c fBm)) (ix2 b (⟨p.val, by omega⟩ : Fin 1664)) = fBm (ix2 b p) := by
  have e : proRun.sl.v143 c fBm (ix2 b p) = fBm (ix2 b p) := by
    unfold proRun.sl.v143
    rw [bm_loaded]
    pointwise
  rw [← e]
  unfold proRun.sl.Hwords_2
  exact read_first vWords.view _ ![0, 0] S12x1571.size _ _ _ (ix2 b p) _ fun a => match a with
    | ⟨0, _⟩ => (Nat.zero_add b.val).symm
    | ⟨1, _⟩ => (Nat.zero_add p.val).symm

theorem wsbuf_eq (j : Fin 50257) :
    vWs.view.read (Elt Ideal) (vWs.view.writes (Elt Ideal) vWs.view.junk [⟨Rect.whole S50257, proRun.sl.dma0_4 c fWs⟩]) (ix1 j) = fWs (ix1 j) :=
  (congrFun (View.read_writes_whole vWs.view _ _) _).trans rfl

theorem pro_ws : (proRun c fX fWs fBm fCand).1 = [⟨Rect.whole S50257, proRun.sl.dma0_4 c fWs⟩] := by unfold proRun; dsimp only
theorem pro_xq : (proRun c fX fWs fBm fCand).2.1 = proRun.sl.Hxq_2 c fX := by unfold proRun; dsimp only
theorem pro_words : (proRun c fX fWs fBm fCand).2.2.1 = proRun.sl.Hwords_2 c fBm := by unfold proRun; dsimp only
theorem pro_xsb : (proRun c fX fWs fBm fCand).2.2.2.2.1 = proRun.sl.Hxsb_1 c fX := by unfold proRun; dsimp only
theorem pro_xc : (proRun c fX fWs fBm fCand).2.2.2.2.2.2.2.2.2.1 = proRun.sl.Hxc_1 c fX := by unfold proRun; dsimp only
theorem pro_xs : (proRun c fX fWs fBm fCand).2.2.2.2.2.2.2.2.2.2.1 = proRun.sl.Hxs_1 c fX := by unfold proRun; dsimp only

section
variable (Lxq : List (View.Piece (Elt Ideal) S32x1600 .fp8e4m3)) (Lxsb : List (View.Piece (Elt Ideal) S12x128 .f32)) (Lws : List (View.Piece (Elt Ideal) S50257 .f32)) (Lwords : List (View.Piece (Elt Ideal) S12x1664 .i32)) (Lcid : List (View.Piece (Elt Ideal) S12x128 .i32))
theorem datR_xq : (datR (c := c) fW fO Lxq Lxsb Lws Lwords Lcid).xq = vXq.view.writes (Elt Ideal) vXq.view.junk Lxq := rfl
theorem datR_xsb : (datR (c := c) fW fO Lxq Lxsb Lws Lwords Lcid).xsb = vXsb.view.writes (Elt Ideal) vXsb.view.junk Lxsb := rfl
theorem datR_words : (datR (c := c) fW fO Lxq Lxsb Lws Lwords Lcid).words = vWords.view.writes (Elt Ideal) vWords.view.junk Lwords := rfl
theorem datR_ws : (datR (c := c) fW fO Lxq Lxsb Lws Lwords Lcid).ws = vWs.view.writes (Elt Ideal) vWs.view.junk Lws := rfl
end

attribute [local irreducible] proRun

theorem dat_xq : (datK c fX fW fWs fBm fCand fO).xq = vXq.view.writes (Elt Ideal) vXq.view.junk (proRun.sl.Hxq_2 c fX) := by
  unfold datK
  exact (datR_xq c fW fO _ _ _ _ _).trans (congrArg (fun L => vXq.view.writes (Elt Ideal) vXq.view.junk L) (pro_xq c fX fWs fBm fCand))
theorem dat_xsb : (datK c fX fW fWs fBm fCand fO).xsb = vXsb.view.writes (Elt Ideal) vXsb.view.junk (proRun.sl.Hxsb_1 c fX) := by
  unfold datK
  exact (datR_xsb c fW fO _ _ _ _ _).trans (congrArg (fun L => vXsb.view.writes (Elt Ideal) vXsb.view.junk L) (pro_xsb c fX fWs fBm fCand))
theorem dat_words : (datK c fX fW fWs fBm fCand fO).words = vWords.view.writes (Elt Ideal) vWords.view.junk (proRun.sl.Hwords_2 c fBm) := by
  unfold datK
  exact (datR_words c fW fO _ _ _ _ _).trans (congrArg (fun L => vWords.view.writes (Elt Ideal) vWords.view.junk L) (pro_words c fX fWs fBm fCand))
theorem dat_ws : (datK c fX fW fWs fBm fCand fO).ws = vWs.view.writes (Elt Ideal) vWs.view.junk ([⟨Rect.whole S50257, proRun.sl.dma0_4 c fWs⟩]) := by
  unfold datK
  exact (datR_ws c fW fO _ _ _ _ _).trans (congrArg (fun L => vWs.view.writes (Elt Ideal) vWs.view.junk L) (pro_ws c fX fWs fBm fCand))

/-- What the body's first part leaves for the loops. -/
theorem holds (hx : Small fX) : Holds (datK c fX fW fWs fBm fCand fO) fX fW fWs fBm where
  h371 b l := h371_eq b l
  h375 b l := h375_eq b l
  xq b k := by rw [dat_xq]; exact xq_eq c fX hx b k
  xsb b l := by rw [dat_xsb]; exact xsbuf_eq c fX hx b l
  ws j := by rw [dat_ws]; exact wsbuf_eq c fWs j
  words b p := by rw [dat_words]; exact wordbuf_eq c fBm b p
  fW k j := rfl

/-- The codes' result. -/
theorem xcV_eq (hx : Small fX) : xcV c fX fWs fBm fCand = ReferenceIdeal.Gen.k0_pay4 (F := Ideal) fX := by
  have w : ∀ f : Bf (F := Ideal) c mXc, f = mXc.view.read (Elt Ideal) f := fun _ => rfl
  refine (w _).trans ?_
  unfold xcV resG xcL
  rw [View.read_writes_whole, pro_xc]
  funext i
  obtain ⟨b, k, rfl⟩ : ∃ (b : Fin 12) (k : Fin 1600), i = ix2 b k := ⟨i 0, i 1, by funext a; match a with | ⟨0, _⟩ => rfl | ⟨1, _⟩ => rfl⟩
  show vXc.view.read (Elt Ideal) (vXc.view.writes (Elt Ideal) vXc.view.junk (proRun.sl.Hxc_1 c fX)) (ix2 b k) = _
  unfold proRun.sl.Hxc_1
  refine (read_first vXc.view _ _ _ _ _ _ (ix2 b k) _ fun a => ?_).trans ?_
  · match a with
    | ⟨0, _⟩ => exact (Nat.zero_add b.val).symm
    | ⟨1, _⟩ => exact (Nat.zero_add k.val).symm
  unfold proRun.sl.r_1
  rw [x_loaded]
  exact codes_eq fX hx b k

/-- The scales' result. -/
theorem xsV_eq (hx : Small fX) : xsV c fX fWs fBm fCand = ReferenceIdeal.Gen.k0_pay5 (F := Ideal) fX := by
  have w : ∀ f : Bf (F := Ideal) c mXs, f = mXs.view.read (Elt Ideal) f := fun _ => rfl
  refine (w _).trans ?_
  unfold xsV resG xsL
  rw [View.read_writes_whole, pro_xs]
  funext i
  obtain ⟨z, b, rfl⟩ : ∃ (z : Fin 1) (b : Fin 12), i = ix2 z b := ⟨i 0, i 1, by funext a; match a with | ⟨0, _⟩ => rfl | ⟨1, _⟩ => rfl⟩
  obtain rfl : z = 0 := Subsingleton.elim _ _
  show vXs.view.read (Elt Ideal) (vXs.view.writes (Elt Ideal) vXs.view.junk (proRun.sl.Hxs_1 c fX)) (ix2 0 b) = _
  unfold proRun.sl.Hxs_1
  refine (read_first vXs.view _ _ _ _ _ _ (ix2 0 b) _ fun a => ?_).trans ?_
  · match a with
    | ⟨0, _⟩ => exact rfl
    | ⟨1, _⟩ => exact (Nat.zero_add b.val).symm
  unfold proRun.sl.r
  rw [x_loaded]
  exact scales_eq fX hx b

end Cert.KernelIdeal.Hand

end
-- ==== Proof.KernelIdeal.Out.lean ====
/-
  The masked logits the body leaves are the reference's.
-/
module
public import proofs.«01_k».proof.Proof.KernelIdeal.Loaded
@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Idealize.SL Idealize.SL.RA Idealize.SL.BI Idealize.SL.Sem

/-- A part of a buffer that a transfer filled from the same part of another, read back. -/
theorem part_read {κ κ' : Kind} {sp sp' : Space} {S : Shape} {e : EltTy} (M : Memref sig κ sp S e) (M' : Memref sig κ' sp' S e) (R : Rect S) (h : ∀ a, R.stride a = 1)
    (h' : ∀ a, R.stride a = 1) (f : M.view.ty.Contents (Elt Ideal)) (g : M'.view.ty.Contents (Elt Ideal)) (y : R.shape.Idx) :
    M.view.read (Elt Ideal) ((M.slice R h).view.writes (Elt Ideal) f [⟨Rect.whole R.shape, ReadAs.same.apply ((M'.slice R h').view.read (Elt Ideal) g)⟩]) (R.emb y)
      = M'.view.read (Elt Ideal) g (R.emb y) :=
  congrFun (View.read_writes_whole (M.slice R h).view f _) y

theorem tail_part {κ κ' : Kind} {sp sp' : Space} {S : Shape} {e : EltTy} (M : Memref sig κ sp S e) (M' : Memref sig κ' sp' S e) (R : Rect S)
    (h' : ∀ a, R.stride a = 1) (f : M.view.ty.Contents (Elt Ideal)) (g : M'.view.ty.Contents (Elt Ideal)) (y : R.shape.Idx) :
    M.view.read (Elt Ideal) (M.view.writes (Elt Ideal) f [⟨R, ReadAs.same.apply ((M'.slice R h').view.read (Elt Ideal) g)⟩]) (R.emb y)
      = M'.view.read (Elt Ideal) g (R.emb y) :=
  View.read_writes_cons_emb M.view f R _ [] y

theorem out_read {c : Dev nD} (f : Bf (F := Ideal) c mOut) (i : S12x1x50257.Idx) : f i = mOut.view.read (Elt Ideal) f i := rfl

theorem outG_slab {c : Dev nD} {D : Data Ideal c} (L : List (View.Piece (Elt Ideal) S12x1x50257 .f32)) (b : Fin 24) (y : S12x1x2048.Idx) :
    outG D L ((outR b).emb y) = vOut.view.read (Elt Ideal) (slabC D (trip b)) ((outR b).emb y) := by
  have hb : (outR b).emb y ∈ (outR b).set := (outR b).idx_mem y
  refine (glue_block c mOut (fun b : Fin 24 => (outR b).set) outR_disjoint _ _ b _ (mOut.view.mem_setOn.mpr hb)).trans ?_
  generalize slabC D (trip b) = g
  generalize D.fO = f
  exact (out_read _ _).trans (part_read mOut vOut (outR b) (fun _ => rfl) (fun _ => rfl) f g y)

theorem outG_tail {c : Dev nD} {D : Data Ideal c} (L : List (View.Piece (Elt Ideal) S12x1x50257 .f32)) (y : S12x1x1105.Idx) :
    outG D L (outTR.emb y) = vOut.view.read (Elt Ideal) (vOut.view.writes (Elt Ideal) vOut.view.junk L) (outTR.emb y) := by
  refine (glue_rest c mOut (fun b : Fin 24 => (outR b).set) outTR.set outR_tail _ _ _ (mOut.view.mem_setOn.mpr (outTR_emb y))).trans ?_
  generalize vOut.view.writes (Elt Ideal) vOut.view.junk L = g
  generalize D.fO = f
  exact (out_read _ _).trans (tail_part mOut vOut outTR (fun _ => rfl) f g y)

/-- The logits the body leaves, when every piece written into the tail holds the masked logits. -/
theorem outG_eq {c : Dev nD} {D : Data Ideal c} {X : FVec Ideal S12x1600 .f32} {W : FVec Ideal S1600x50257 .fp8e4m3} {ws : FVec Ideal S50257 .f32} {bm : IVec S12x1571 32}
    (H : Holds D X W ws bm) (L : List (View.Piece (Elt Ideal) S12x1x50257 .f32)) (hc : ∀ y ∈ outTR.set, ∃ p ∈ L, y ∈ p.1.set)
    (hp : ∀ p ∈ L, ∀ j : p.1.shape.Idx, p.2 j = Masked X W ws bm (p.1.emb j)) (i : S12x1x50257.Idx) : outG D L i = Masked X W ws bm i := by
  rcases outR_cover i with ⟨b, hb⟩ | ht
  · obtain ⟨y, rfl⟩ := (outR b).exists_idx_of_mem hb
    exact (outG_slab L b y).trans (slab_read H (trip b) _ hb)
  · obtain ⟨y, rfl⟩ := outTR.exists_idx_of_mem ht
    refine (outG_tail L y).trans ?_
    refine (View.read_writes_apply_eq_canon vOut.view vOut.view.junk (outTR.emb y) L (hc _ ht)).trans ?_
    exact View.canon_apply_of_pieces _ _ hp _ (hc _ ht)

variable (c : Dev nD) (fX : Bf (F := Ideal) c mX) (fW : Bf (F := Ideal) c mW) (fWs : Bf (F := Ideal) c mWs) (fBm : Bf (F := Ideal) c mBm) (fCand : Bf (F := Ideal) c mCand) (fO : Bf (F := Ideal) c mOut)

theorem rest_out (xq : Bf (F := Ideal) c vXq) (xsb : Bf (F := Ideal) c vXsb) (ws : Bf (F := Ideal) c vWs) (words : Bf (F := Ideal) c vWords) (cid : Bf (F := Ideal) c vCid)
    (σN : St Ideal c) (callow : Bf (F := Ideal) c vCallow) (Lxc : List (View.Piece (Elt Ideal) S12x1600 .fp8e4m3)) (Lxs : List (View.Piece (Elt Ideal) S1x12 .f32)) :
    (restRun c fW xq xsb ws words cid fO σN callow Lxc Lxs).1 = restRun.sl.HV_9 c fW xq xsb ws words := by
  unfold restRun
  dsimp only

attribute [local irreducible] proRun restRun

theorem outL_pieces : outL c fX fW fWs fBm fCand fO = restRun.sl.HV_9 c fW (datK c fX fW fWs fBm fCand fO).xq (datK c fX fW fWs fBm fCand fO).xsb (datK c fX fW fWs fBm fCand fO).ws (datK c fX fW fWs fBm fCand fO).words := by
  unfold outL restK
  exact rest_out c fW fO _ _ _ _ _ _ _ _ _

/-- The logits' result. -/
theorem outV_eq (hx : Small fX) : outV c fX fW fWs fBm fCand fO = Masked fX fW fWs fBm := by
  have H := holds c fX fW fWs fBm fCand fO hx
  funext i
  exact outG_eq H _ (outL_cover c fX fW fWs fBm fCand fO) (by rw [outL_pieces]; exact tail_pieces H rfl rfl) i

end Cert.KernelIdeal.Hand

end
-- ==== Proof.KernelIdeal.RefRun.lean ====
/-
  What the reference leaves in its results, as its values over the whole arguments.
-/
module

public import proofs.«01_k».proof.Proof.Gen.ReferenceIdeal.Value
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem idx : ∀ t : Fin cfg0.N, win0_0.index t = ![0, 0] ∧ win0_1.index t = ![0, 0] ∧ win0_2.index t = ![0] ∧ win0_3.index t = ![0, 0] :=
  (by decide +kernel : ∀ t : Fin grid0.N, _)

/-- Each input block at the one point is its whole array. -/
theorem iblk0 (c : Dev nD) : iblk m c 0 t0_0 = V m c main_v0 := by
  blk_ext! [iblk, V, idx t0_0]
theorem iblk1 (c : Dev nD) : iblk m c 1 t0_0 = V m c main_arg1 := by
  blk_ext! [iblk, V, idx t0_0]
theorem iblk2 (c : Dev nD) : iblk m c 2 t0_0 = V m c main_arg2 := by
  blk_ext! [iblk, V, idx t0_0]
theorem iblk3 (c : Dev nD) : iblk m c 3 t0_0 = V m c main_arg3 := by
  blk_ext! [iblk, V, idx t0_0]

/-- The codes. -/
theorem final5 (c : Dev nD) : (dats m 0 c).arrAt 5 cfg0.N = k0_pay4 (V m c main_v0) := by
  refine (dats m 0 c).arrAt_eq_of_after_last 5 t0_0 (by decide +kernel) _ fun j => ?_
  blk_simp
  rw [after0_5]
  frame_out
  rw [iblk0]

/-- The scales. -/
theorem final6 (c : Dev nD) : (dats m 0 c).arrAt 6 cfg0.N = k0_pay5 (V m c main_v0) := by
  refine (dats m 0 c).arrAt_eq_of_after_last 6 t0_0 (by decide +kernel) _ fun j => ?_
  blk_simp
  rw [after0_6]
  frame_out
  rw [iblk0]

/-- The masked logits. -/
theorem final4 (c : Dev nD) : (dats m 0 c).arrAt 4 cfg0.N
    = k0_pay1 (k0_pay6 (V m c main_v0) (V m c main_arg1)) (V m c main_arg2) (V m c main_arg3) := by
  refine (dats m 0 c).arrAt_eq_of_after_last 4 t0_0 (by decide +kernel) _ fun j => ?_
  blk_simp
  rw [after0_4]
  frame_out
  rw [iblk0, iblk1, iblk2, iblk3]

end Cert.ReferenceIdeal.Hand

end
-- ==== Proof.KernelIdeal.Value.lean ====
/-
  The kernel's first, fourth and fifth results are the reference's: the masked logits, the codes and the scales.
-/
module

public import proofs.«01_k».proof.Defs
public import proofs.«01_k».proof.Proof.KernelIdeal.Launch
public import proofs.«01_k».proof.Proof.KernelIdeal.Out
public import proofs.«01_k».proof.Proof.KernelIdeal.RefRun
public import proofs.«01_k».proof.Proof.Gen.ReferenceIdeal.Value
public import proofs.«01_k».proof.Proof.Gen.Pre_finite
public import Idealize.ShloMosaic.Lib.ReduceAll
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.SL.Sem

/-- The activations as the call receives them: the argument's rows. -/
theorem V_main_v0 {F : FTy → Type} [FloatOps F] (m : (ℓ : Loc nD τ sig) → Buf (Elt F) ℓ) (c : Dev nD) :
    V m c main_v0 = shapeCast S12x1600 (m ((c : Thread nD τ).loc main_arg0)) shapeCasts_S12x1x1600_S12x1600 := by
  show StableHlo.after hostOps0 _ (Proc.devRef .tc main_v0) = _
  after_results
  rfl

/-- Activations the precondition admits have magnitudes at most the largest finite bfloat16. -/
theorem small_of_finite (x : FVec Ideal S12x1x1600 .bf16) (a1 : FVec Ideal S1600x50257 .fp8e4m3) (a2 : FVec Ideal S50257 .f32) (a3 : IVec S12x1571 32) (a4 : IVec S12x1x20 32)
    (h : Cert.Pre_finite.fn (F := Ideal) x a1 a2 a3 a4 = fun _ => 1#1) (i : S12x1x1600.Idx) :
    (FloatOps.absf (F := Ideal) (φ := .f32) (x i) : EReal) ≤ Ideal.ofBits FTy.f32 0x7F7F0000#32 := by
  haveI : Subsingleton Cert.Pre_finite.S_.Idx := ⟨fun a b => funext fun j => j.elim0⟩
  have e := Host.reduce_andi_all _ _ _ _ (fun j => j.elim0) (congrFun h fun j => j.elim0) i
  have one : ∀ b : Bool, BitVec.ofBool b = 1#1 → b = true := by decide
  exact of_decide_eq_true (one _ e)

theorem small_cast (x : FVec Ideal S12x1x1600 .bf16) (h : ∀ i, (FloatOps.absf (F := Ideal) (φ := .f32) (x i) : EReal) ≤ Ideal.ofBits FTy.f32 0x7F7F0000#32) (hs) :
    Small (shapeCast S12x1600 x hs) := fun b k => h _

end Cert.KernelIdeal.Hand

namespace Cert.ReferenceIdeal.Hand

open Cert.ReferenceIdeal Cert.ReferenceIdeal.Gen
open Idealize.ShloMosaic Idealize.ShloMosaic.TcCoe Idealize.SL.Sem

/-- The activations as the call receives them: the argument's rows. -/
theorem V_main_v0 {F : FTy → Type} [FloatOps F] (m : (ℓ : Loc nD τ sig) → Buf (Elt F) ℓ) (c : Dev nD) :
    V m c main_v0 = shapeCast S12x1600 (m ((c : Thread nD τ).loc main_arg0)) shapeCasts_S12x1x1600_S12x1600 := by
  show StableHlo.after hostOps0 _ (Proc.devRef .tc main_v0) = _
  after_results
  rfl

end Cert.ReferenceIdeal.Hand

namespace Cert.KernelIdeal.Hand

open Cert.KernelIdeal Cert.KernelIdeal.Gen
open Idealize.ShloMosaic Idealize.ShloMosaic.TcCoe Idealize.SL.Sem

/-- The call's results at small activations. -/
theorem outs_eq (m : (ℓ : Loc nD τ sig) → Buf (Elt Ideal) ℓ) (c : Dev nD) (hx : Small (V m c main_v0)) :
    outs m c main_v1_0 = Masked (V m c main_v0) (V m c main_arg1) (V m c main_arg2) (V m c main_arg3)
    ∧ outs m c main_v1_3 = ReferenceIdeal.Gen.k0_pay4 (F := Ideal) (V m c main_v0)
    ∧ outs m c main_v1_4 = ReferenceIdeal.Gen.k0_pay5 (F := Ideal) (V m c main_v0) :=
  ⟨(outs_0 m c).trans (outV_eq c _ _ _ _ _ _ hx), (outs_3 m c).trans (xcV_eq c _ _ _ _ hx), (outs_4 m c).trans (xsV_eq c _ _ _ _ hx)⟩

theorem small_V (m : (ℓ : Loc nD τ sig) → Buf (Elt Ideal) ℓ) (hp : Cert.Pre_KernelIdeal_finite (hPre_finite := Cert.Pre_finite.Gen.facts) m) (c : Dev nD) : Small (V m c main_v0) := by
  rw [V_main_v0]
  exact small_cast _ (small_of_finite _ _ _ _ _ (hp c)) _

/-- The kernel's run, its results named in the arguments. -/
theorem run (m : (ℓ : Loc nD τ sig) → Buf (Elt Ideal) ℓ) (ρ : Dev nD → PrngReg) (hp : Cert.Pre_KernelIdeal_finite (hPre_finite := Cert.Pre_finite.Gen.facts) m) :
    θ_run defs (onTc (τ := τ) (main (F := Ideal))) ⟨m, fun _ => 0, ρ⟩ fun r => ∀ c : Dev nD,
      r.2.mem ((c.tc : Thread nD τ).loc main_v1_0) = Masked (V m c main_v0) (V m c main_arg1) (V m c main_arg2) (V m c main_arg3)
      ∧ r.2.mem ((c.tc : Thread nD τ).loc main_v1_3) = ReferenceIdeal.Gen.k0_pay4 (F := Ideal) (V m c main_v0)
      ∧ r.2.mem ((c.tc : Thread nD τ).loc main_v1_4) = ReferenceIdeal.Gen.k0_pay5 (F := Ideal) (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    have E := outs_eq m c (small_V m hp c)
    ⟨(h.2 c main_v1_0 (by decide)).trans E.1, (h.2 c main_v1_3 (by decide)).trans E.2.1, (h.2 c main_v1_4 (by decide)).trans E.2.2, h.1.1 c⟩)
    (run_values m ρ)

end Cert.KernelIdeal.Hand

namespace Cert.ReferenceIdeal.Hand

open Cert.ReferenceIdeal Cert.ReferenceIdeal.Gen
open Idealize.ShloMosaic Idealize.ShloMosaic.TcCoe Idealize.SL.Sem

/-- The reference's run, its results named in the arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v1_0) = k0_pay1 (k0_pay6 (V m c main_v0) (V m c main_arg1)) (V m c main_arg2) (V m c main_arg3)
      ∧ r.2.mem ((c.tc : Thread nD τ).loc main_v1_1) = k0_pay4 (F := Ideal) (V m c main_v0)
      ∧ r.2.mem ((c.tc : Thread nD τ).loc main_v1_2) = k0_pay5 (F := Ideal) (V m c main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨(h c).1.trans (final4 m c), (h c).2.1.trans (final5 m c), (h c).2.2.1.trans (final6 m c), (h c).2.2.2⟩)
    (Value.run_blocks m ρ)

/-- Memories that agree on the arguments give the call the same operands. -/
theorem operands_eq (m : (ℓ : Loc KernelIdeal.nD KernelIdeal.τ KernelIdeal.sig) → Buf (Elt Ideal) ℓ) (m' : (ℓ : Loc nD τ sig) → Buf (Elt Ideal) ℓ) (c : Dev nD)
    (e0 : m' ((c.tc : Thread nD τ).loc main_arg0) = m ((c.tc : Thread KernelIdeal.nD KernelIdeal.τ).loc KernelIdeal.main_arg0))
    (e1 : m' ((c.tc : Thread nD τ).loc main_arg1) = m ((c.tc : Thread KernelIdeal.nD KernelIdeal.τ).loc KernelIdeal.main_arg1))
    (e2 : m' ((c.tc : Thread nD τ).loc main_arg2) = m ((c.tc : Thread KernelIdeal.nD KernelIdeal.τ).loc KernelIdeal.main_arg2))
    (e3 : m' ((c.tc : Thread nD τ).loc main_arg3) = m ((c.tc : Thread KernelIdeal.nD KernelIdeal.τ).loc KernelIdeal.main_arg3)) :
    V m' c main_v0 = KernelIdeal.Gen.V m c KernelIdeal.main_v0 ∧ V m' c main_arg1 = KernelIdeal.Gen.V m c KernelIdeal.main_arg1
    ∧ V m' c main_arg2 = KernelIdeal.Gen.V m c KernelIdeal.main_arg2 ∧ V m' c main_arg3 = KernelIdeal.Gen.V m c KernelIdeal.main_arg3 := by
  refine ⟨?_, ?_, ?_, ?_⟩
  · exact (V_main_v0 m' c).trans ((congrArg (fun x : FVec Ideal S12x1x1600 .bf16 => shapeCast S12x1600 x shapeCasts_S12x1x1600_S12x1600) e0).trans (KernelIdeal.Hand.V_main_v0 m c).symm)
  · exact (V_main_arg1 m' c).trans (e1.trans (KernelIdeal.Gen.V_main_arg1 m c).symm)
  · exact (V_main_arg2 m' c).trans (e2.trans (KernelIdeal.Gen.V_main_arg2 m c).symm)
  · exact (V_main_arg3 m' c).trans (e3.trans (KernelIdeal.Gen.V_main_arg3 m c).symm)

end Cert.ReferenceIdeal.Hand

namespace Cert.Proof

open Idealize.ShloMosaic Idealize.ShloMosaic.TcCoe Idealize.SL.Sem

/-- The kernel's masked logits, codes and scales are the reference's, at activations of finite magnitude. -/
theorem algebraic : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hp hargs
  refine ⟨_, _, _, Cert.KernelIdeal.Hand.run m g hp, ?_⟩
  refine (θ_run _ _ _).mono (fun r h c => ?_) (Cert.ReferenceIdeal.Hand.run m' g')
  obtain ⟨h0, h1, h2, h3⟩ := h c
  obtain ⟨a0, a1, a2, a3, -⟩ := hargs c
  obtain ⟨w0, w1, w2, w3⟩ := Cert.ReferenceIdeal.Hand.operands_eq m m' c a0 a1 a2 a3
  refine ⟨?_, ?_, ?_, h3⟩
  · rw [h0, w0, w1, w2, w3]
  · rw [h1, w0]
  · rw [h2, w0]

end Cert.Proof

end
-- ==== Proof.lean ====
/-
  The claims, assembled: every program runs to its end with its arguments unchanged and every counter at zero, and the kernel's
  masked logits, codes and scales are the reference's.
-/
module

public import proofs.«01_k».proof.Defs
public import proofs.«01_k».proof.Proof.Kernel.Launch
public import proofs.«01_k».proof.Proof.KernelIdeal.Launch
public import proofs.«01_k».proof.Proof.KernelIdeal.Value
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_finite
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite.Gen.facts,
    fun m g _ => Cert.Kernel.Hand.frame m g,
    fun m g _ => Cert.KernelIdeal.Hand.frame m g,
    fun m g _ => Cert.KernelIdeal.Hand.frame m g,
    fun m g _ => Cert.ReferenceIdeal.Gen.frame m g,
    fun m g _ => Cert.ReferenceIdeal.Gen.frame m g,
    trivial,
    algebraic⟩

end Cert.Proof

end
